-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.truncf_extf.Statement Cert.KernelIdeal.S1x512 .f32 .bf16
  ∧ IdealRules.truncf_extf.Statement Cert.KernelIdeal.S128x512 .f32 .bf16
  ∧ IdealRules.bf16_pair.Statement Cert.KernelIdeal.S256x512 Cert.KernelIdeal.S128x512
  ∧ IdealRules.bf16_pack.Statement Cert.KernelIdeal.S128x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v6_6)) (v7 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_v9) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v65) = v5 c
          ∧ r.2.mem ((c.tc : Thread Cert.ReferenceIdeal.nD Cert.ReferenceIdeal.τ).loc Cert.ReferenceIdeal.main_v89) = v6 c
          ∧ r.2.mem ((c.tc : Thread Cert.ReferenceIdeal.nD Cert.ReferenceIdeal.τ).loc Cert.ReferenceIdeal.main_v81) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x3072x3584 : Shape := ⟨3, ![5, 3072, 3584]⟩
abbrev S5x3072x18944 : Shape := ⟨3, ![5, 3072, 18944]⟩
abbrev S512x1792 : Shape := ⟨2, ![512, 1792]⟩
abbrev S512x14 : Shape := ⟨2, ![512, 14]⟩
abbrev S18944x512 : Shape := ⟨2, ![18944, 512]⟩
abbrev S18944x4 : Shape := ⟨2, ![18944, 4]⟩
abbrev S18944x3584 : Shape := ⟨2, ![18944, 3584]⟩
abbrev S18944 : Shape := ⟨1, ![18944]⟩
abbrev S15360x3584 : Shape := ⟨2, ![15360, 3584]⟩
abbrev S15360x18944 : Shape := ⟨2, ![15360, 18944]⟩
abbrev S14x512 : Shape := ⟨2, ![14, 512]⟩
abbrev S4x18944 : Shape := ⟨2, ![4, 18944]⟩
abbrev S148x1x128 : Shape := ⟨3, ![148, 1, 128]⟩
abbrev S1536x512 : Shape := ⟨2, ![1536, 512]⟩
abbrev S1536x3584 : Shape := ⟨2, ![1536, 3584]⟩
abbrev S128x512 : Shape := ⟨2, ![128, 512]⟩
abbrev S4x128 : Shape := ⟨2, ![4, 128]⟩
abbrev S128x3584 : Shape := ⟨2, ![128, 3584]⟩
abbrev S1x1x128 : Shape := ⟨3, ![1, 1, 128]⟩
abbrev S512x3584 : Shape := ⟨2, ![512, 3584]⟩
abbrev S3584x512 : Shape := ⟨2, ![3584, 512]⟩
abbrev S512x1536 : Shape := ⟨2, ![512, 1536]⟩
abbrev S512x128 : Shape := ⟨2, ![512, 128]⟩
abbrev S1x512 : Shape := ⟨2, ![1, 512]⟩
abbrev S256x512 : Shape := ⟨2, ![256, 512]⟩
abbrev S512x256 : Shape := ⟨2, ![512, 256]⟩
abbrev S8x128 : Shape := ⟨2, ![8, 128]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S7x128 : Shape := ⟨2, ![7, 128]⟩
abbrev S512x512 : Shape := ⟨2, ![512, 512]⟩

abbrev nBuf : Space → Nat
  | .hbm => 28
  | .vmem => 41
  | .smem => 0
  | _ => 0

abbrev bufTy : (tb : Table) → Fin (tcTables nBuf tb) → BufTy
  | .hbm, ⟨0, _⟩ => ⟨S5x3072x3584, .bf16⟩
  | .hbm, ⟨1, _⟩ => ⟨S5x3072x18944, .bf16⟩
  | .hbm, ⟨2, _⟩ => ⟨S512x1792, .i8⟩
  | .hbm, ⟨3, _⟩ => ⟨S512x14, .f32⟩
  | .hbm, ⟨4, _⟩ => ⟨S18944x512, .i8⟩
  | .hbm, ⟨5, _⟩ => ⟨S18944x4, .f32⟩
  | .hbm, ⟨6, _⟩ => ⟨S18944x512, .i8⟩
  | .hbm, ⟨7, _⟩ => ⟨S18944x4, .f32⟩
  | .hbm, ⟨8, _⟩ => ⟨S18944x3584, .i8⟩
  | .hbm, ⟨9, _⟩ => ⟨S18944, .f32⟩
  | .hbm, ⟨10, _⟩ => ⟨S18944x3584, .i8⟩
  | .hbm, ⟨11, _⟩ => ⟨S15360x3584, .bf16⟩
  | .hbm, ⟨12, _⟩ => ⟨S15360x18944, .bf16⟩
  | .hbm, ⟨13, _⟩ => ⟨S14x512, .f32⟩
  | .hbm, ⟨14, _⟩ => ⟨S4x18944, .f32⟩
  | .hbm, ⟨15, _⟩ => ⟨S4x18944, .f32⟩
  | .hbm, ⟨16, _⟩ => ⟨S148x1x128, .f32⟩
  | .hbm, ⟨17, _⟩ => ⟨S18944x3584, .i8⟩
  | .hbm, ⟨18, _⟩ => ⟨S148x1x128, .f32⟩
  | .hbm, ⟨19, _⟩ => ⟨S18944x3584, .f32⟩
  | .hbm, ⟨20, _⟩ => ⟨S18944x512, .f32⟩
  | .hbm, ⟨21, _⟩ => ⟨S18944x512, .i8⟩
  | .hbm, ⟨22, _⟩ => ⟨S4x18944, .f32⟩
  | .hbm, ⟨23, _⟩ => ⟨S18944x512, .i8⟩
  | .hbm, ⟨24, _⟩ => ⟨S4x18944, .f32⟩
  | .hbm, ⟨25, _⟩ => ⟨S18944, .f32⟩
  | .hbm, ⟨26, _⟩ => ⟨S18944x4, .f32⟩
  | .hbm, ⟨27, _⟩ => ⟨S18944x4, .f32⟩
  | .local _ .vmem, ⟨0, _⟩ => ⟨S1536x512, .bf16⟩
  | .local _ .vmem, ⟨1, _⟩ => ⟨S1536x512, .bf16⟩
  | .local _ .vmem, ⟨2, _⟩ => ⟨S1536x3584, .bf16⟩
  | .local _ .vmem, ⟨3, _⟩ => ⟨S1536x3584, .bf16⟩
  | .local _ .vmem, ⟨4, _⟩ => ⟨S512x1792, .i8⟩
  | .local _ .vmem, ⟨5, _⟩ => ⟨S14x512, .f32⟩
  | .local _ .vmem, ⟨6, _⟩ => ⟨S128x512, .i8⟩
  | .local _ .vmem, ⟨7, _⟩ => ⟨S128x512, .i8⟩
  | .local _ .vmem, ⟨8, _⟩ => ⟨S4x128, .f32⟩
  | .local _ .vmem, ⟨9, _⟩ => ⟨S4x128, .f32⟩
  | .local _ .vmem, ⟨10, _⟩ => ⟨S128x512, .i8⟩
  | .local _ .vmem, ⟨11, _⟩ => ⟨S128x512, .i8⟩
  | .local _ .vmem, ⟨12, _⟩ => ⟨S4x128, .f32⟩
  | .local _ .vmem, ⟨13, _⟩ => ⟨S4x128, .f32⟩
  | .local _ .vmem, ⟨14, _⟩ => ⟨S128x3584, .i8⟩
  | .local _ .vmem, ⟨15, _⟩ => ⟨S128x3584, .i8⟩
  | .local _ .vmem, ⟨16, _⟩ => ⟨S1x1x128, .f32⟩
  | .local _ .vmem, ⟨17, _⟩ => ⟨S1x1x128, .f32⟩
  | .local _ .vmem, ⟨18, _⟩ => ⟨S128x3584, .i8⟩
  | .local _ .vmem, ⟨19, _⟩ => ⟨S128x3584, .i8⟩
  | .local _ .vmem, ⟨20, _⟩ => ⟨S128x3584, .i8⟩
  | .local _ .vmem, ⟨21, _⟩ => ⟨S128x3584, .i8⟩
  | .local _ .vmem, ⟨22, _⟩ => ⟨S1x1x128, .f32⟩
  | .local _ .vmem, ⟨23, _⟩ => ⟨S1x1x128, .f32⟩
  | .local _ .vmem, ⟨24, _⟩ => ⟨S128x3584, .f32⟩
  | .local _ .vmem, ⟨25, _⟩ => ⟨S128x3584, .f32⟩
  | .local _ .vmem, ⟨26, _⟩ => ⟨S128x512, .f32⟩
  | .local _ .vmem, ⟨27, _⟩ => ⟨S128x512, .f32⟩
  | .local _ .vmem, ⟨28, _⟩ => ⟨S128x512, .i8⟩
  | .local _ .vmem, ⟨29, _⟩ => ⟨S128x512, .i8⟩
  | .local _ .vmem, ⟨30, _⟩ => ⟨S4x128, .f32⟩
  | .local _ .vmem, ⟨31, _⟩ => ⟨S4x128, .f32⟩
  | .local _ .vmem, ⟨32, _⟩ => ⟨S128x512, .i8⟩
  | .local _ .vmem, ⟨33, _⟩ => ⟨S128x512, .i8⟩
  | .local _ .vmem, ⟨34, _⟩ => ⟨S4x128, .f32⟩
  | .local _ .vmem, ⟨35, _⟩ => ⟨S4x128, .f32⟩
  | .local _ .vmem, ⟨36, _⟩ => ⟨S512x3584, .f32⟩
  | .local _ .vmem, ⟨37, _⟩ => ⟨S512x3584, .bf16⟩
  | .local _ .vmem, ⟨38, _⟩ => ⟨S512x3584, .bf16⟩
  | .local _ .vmem, ⟨39, _⟩ => ⟨S3584x512, .bf16⟩
  | .local _ .vmem, ⟨40, _⟩ => ⟨S512x1536, .bf16⟩
  | _, _ => ⟨S5x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v6_7 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [BitOps F]

abbrev grid0 : Pipeline.Grid := ⟨2, ![38, 10], ![false, false]⟩

def k0_cond2 (i : grid0.Coords) : BitVec 1 :=
  let arg0 : BitVec 32 := BitVec.ofNat 32 (i 0).val
  let c37_i32 : BitVec 32 := 37#32
  let v20 : BitVec 1 := Scalar.cmpi .slt arg0 c37_i32
  let c0_i32_2 : BitVec 32 := 0#32
  let v5 : BitVec 1 := Scalar.cmpi .sgt arg0 c0_i32_2
  let arg1 : BitVec 32 := BitVec.ofNat 32 (i 1).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg1 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_7 : BitVec 32 := 0#32
  let v16 : BitVec 1 := Scalar.cmpi .eq v15 c0_i32_7
  let v17 : BitVec 1 := Scalar.andi v5 v16
  let c8_i32 : BitVec 32 := 8#32
  let v18 : BitVec 1 := Scalar.cmpi .slt arg1 c8_i32
  let v19 : BitVec 1 := Scalar.andi v17 v18
  let v21 : BitVec 1 := Scalar.andi v20 v19
  let v22 : BitVec 32 := Scalar.extui v21
  let c0_i32_8 : BitVec 32 := 0#32
  let v23 : BitVec 1 := Scalar.cmpi .ne v22 c0_i32_8
  v23

def k0_mult1 (i : grid0.Coords) : BitVec 32 :=
  let arg1 : BitVec 32 := BitVec.ofNat 32 (i 1).val
  let c0_i32_30 : BitVec 32 := 0#32
  let v59 : BitVec 1 := Scalar.cmpi .sgt arg1 c0_i32_30
  let v60 : BitVec 32 := Scalar.extui v59
  let c0_i32_31 : BitVec 32 := 0#32
  let v61 : BitVec 1 := Scalar.cmpi .slt arg1 c0_i32_31
  let v62 : BitVec 32 := Scalar.extui v61
  let v63 : BitVec 32 := Scalar.subi v60 v62
  let c2_i32_29 : BitVec 32 := 2#32
  let c0_i32_32 : BitVec 32 := 0#32
  let v64 : BitVec 1 := Scalar.cmpi .sgt c2_i32_29 c0_i32_32
  let v65 : BitVec 32 := Scalar.extui v64
  let c0_i32_33 : BitVec 32 := 0#32
  let v66 : BitVec 1 := Scalar.cmpi .slt c2_i32_29 c0_i32_33
  let v67 : BitVec 32 := Scalar.extui v66
  let v68 : BitVec 32 := Scalar.subi v65 v67
  let v69 : BitVec 1 := Scalar.cmpi .ne v63 v68
  let v70 : BitVec 32 := Scalar.remsi arg1 c2_i32_29
  let c0_i32_34 : BitVec 32 := 0#32
  let v71 : BitVec 1 := Scalar.cmpi .ne v70 c0_i32_34
  let v72 : BitVec 1 := Scalar.andi v69 v71
  let v58 : BitVec 32 := Scalar.divsi arg1 c2_i32_29
  let c1_i32_35 : BitVec 32 := 1#32
  let v73 : BitVec 32 := Scalar.subi v58 c1_i32_35
  let v74 : BitVec 32 := Scalar.select v72 v73 v58
  let c128_i32 : BitVec 32 := 128#32
  let v75 : BitVec 32 := Scalar.muli v74 c128_i32
  v75
def k0_off1 (i : grid0.Coords) : Fin 2 → Nat :=
  let arg1 : BitVec 32 := BitVec.ofNat 32 (i 1).val
  let c0_i32_30 : BitVec 32 := 0#32
  let v59 : BitVec 1 := Scalar.cmpi .sgt arg1 c0_i32_30
  let v60 : BitVec 32 := Scalar.extui v59
  let c0_i32_31 : BitVec 32 := 0#32
  let v61 : BitVec 1 := Scalar.cmpi .slt arg1 c0_i32_31
  let v62 : BitVec 32 := Scalar.extui v61
  let v63 : BitVec 32 := Scalar.subi v60 v62
  let c2_i32_29 : BitVec 32 := 2#32
  let c0_i32_32 : BitVec 32 := 0#32
  let v64 : BitVec 1 := Scalar.cmpi .sgt c2_i32_29 c0_i32_32
  let v65 : BitVec 32 := Scalar.extui v64
  let c0_i32_33 : BitVec 32 := 0#32
  let v66 : BitVec 1 := Scalar.cmpi .slt c2_i32_29 c0_i32_33
  let v67 : BitVec 32 := Scalar.extui v66
  let v68 : BitVec 32 := Scalar.subi v65 v67
  let v69 : BitVec 1 := Scalar.cmpi .ne v63 v68
  let v70 : BitVec 32 := Scalar.remsi arg1 c2_i32_29
  let c0_i32_34 : BitVec 32 := 0#32
  let v71 : BitVec 1 := Scalar.cmpi .ne v70 c0_i32_34
  let v72 : BitVec 1 := Scalar.andi v69 v71
  let v58 : BitVec 32 := Scalar.divsi arg1 c2_i32_29
  let c1_i32_35 : BitVec 32 := 1#32
  let v73 : BitVec 32 := Scalar.subi v58 c1_i32_35
  let v74 : BitVec 32 := Scalar.select v72 v73 v58
  let c128_i32 : BitVec 32 := 128#32
  let v75 : BitVec 32 := Scalar.muli v74 c128_i32
  let v76 : BitVec 32 := v75
  let v77 : Index := Scalar.indexCast v76
  let c0_36 : Index := 0#32
  ![v77.toNat, 0]
def k0_cond5 (i : grid0.Coords) : BitVec 1 :=
  let arg0 : BitVec 32 := BitVec.ofNat 32 (i 0).val
  let c37_i32_14 : BitVec 32 := 37#32
  let v36 : BitVec 1 := Scalar.cmpi .eq arg0 c37_i32_14
  let c0_i32_2 : BitVec 32 := 0#32
  let v5 : BitVec 1 := Scalar.cmpi .sgt arg0 c0_i32_2
  let arg1 : BitVec 32 := BitVec.ofNat 32 (i 1).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg1 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_7 : BitVec 32 := 0#32
  let v16 : BitVec 1 := Scalar.cmpi .eq v15 c0_i32_7
  let v17 : BitVec 1 := Scalar.andi v5 v16
  let c8_i32 : BitVec 32 := 8#32
  let v18 : BitVec 1 := Scalar.cmpi .slt arg1 c8_i32
  let v19 : BitVec 1 := Scalar.andi v17 v18
  let v37 : BitVec 1 := Scalar.andi v36 v19
  let v38 : BitVec 32 := Scalar.extui v37
  let c0_i32_15 : BitVec 32 := 0#32
  let v39 : BitVec 1 := Scalar.cmpi .ne v38 c0_i32_15
  v39

def k0_mult2 (i : grid0.Coords) : BitVec 32 :=
  let arg1 : BitVec 32 := BitVec.ofNat 32 (i 1).val
  let c0_i32_17 : BitVec 32 := 0#32
  let v41 : BitVec 1 := Scalar.cmpi .sgt arg1 c0_i32_17
  let v42 : BitVec 32 := Scalar.extui v41
  let c0_i32_18 : BitVec 32 := 0#32
  let v43 : BitVec 1 := Scalar.cmpi .slt arg1 c0_i32_18
  let v44 : BitVec 32 := Scalar.extui v43
  let v45 : BitVec 32 := Scalar.subi v42 v44
  let c2_i32_16 : BitVec 32 := 2#32
  let c0_i32_19 : BitVec 32 := 0#32
  let v46 : BitVec 1 := Scalar.cmpi .sgt c2_i32_16 c0_i32_19
  let v47 : BitVec 32 := Scalar.extui v46
  let c0_i32_20 : BitVec 32 := 0#32
  let v48 : BitVec 1 := Scalar.cmpi .slt c2_i32_16 c0_i32_20
  let v49 : BitVec 32 := Scalar.extui v48
  let v50 : BitVec 32 := Scalar.subi v47 v49
  let v51 : BitVec 1 := Scalar.cmpi .ne v45 v50
  let v52 : BitVec 32 := Scalar.remsi arg1 c2_i32_16
  let c0_i32_21 : BitVec 32 := 0#32
  let v53 : BitVec 1 := Scalar.cmpi .ne v52 c0_i32_21
  let v54 : BitVec 1 := Scalar.andi v51 v53
  let v40 : BitVec 32 := Scalar.divsi arg1 c2_i32_16
  let c1_i32_22 : BitVec 32 := 1#32
  let v55 : BitVec 32 := Scalar.subi v40 c1_i32_22
  let v56 : BitVec 32 := Scalar.select v54 v55 v40
  let c128_i32 : BitVec 32 := 128#32
  let v57 : BitVec 32 := Scalar.muli v56 c128_i32
  v57
def k0_off2 (i : grid0.Coords) : Fin 2 → Nat :=
  let arg1 : BitVec 32 := BitVec.ofNat 32 (i 1).val
  let c0_i32_17 : BitVec 32 := 0#32
  let v41 : BitVec 1 := Scalar.cmpi .sgt arg1 c0_i32_17
  let v42 : BitVec 32 := Scalar.extui v41
  let c0_i32_18 : BitVec 32 := 0#32
  let v43 : BitVec 1 := Scalar.cmpi .slt arg1 c0_i32_18
  let v44 : BitVec 32 := Scalar.extui v43
  let v45 : BitVec 32 := Scalar.subi v42 v44
  let c2_i32_16 : BitVec 32 := 2#32
  let c0_i32_19 : BitVec 32 := 0#32
  let v46 : BitVec 1 := Scalar.cmpi .sgt c2_i32_16 c0_i32_19
  let v47 : BitVec 32 := Scalar.extui v46
  let c0_i32_20 : BitVec 32 := 0#32
  let v48 : BitVec 1 := Scalar.cmpi .slt c2_i32_16 c0_i32_20
  let v49 : BitVec 32 := Scalar.extui v48
  let v50 : BitVec 32 := Scalar.subi v47 v49
  let v51 : BitVec 1 := Scalar.cmpi .ne v45 v50
  let v52 : BitVec 32 := Scalar.remsi arg1 c2_i32_16
  let c0_i32_21 : BitVec 32 := 0#32
  let v53 : BitVec 1 := Scalar.cmpi .ne v52 c0_i32_21
  let v54 : BitVec 1 := Scalar.andi v51 v53
  let v40 : BitVec 32 := Scalar.divsi arg1 c2_i32_16
  let c1_i32_22 : BitVec 32 := 1#32
  let v55 : BitVec 32 := Scalar.subi v40 c1_i32_22
  let v56 : BitVec 32 := Scalar.select v54 v55 v40
  let c128_i32 : BitVec 32 := 128#32
  let v57 : BitVec 32 := Scalar.muli v56 c128_i32
  let v58 : BitVec 32 := v57
  let v59 : Index := Scalar.indexCast v58
  let c0 : Index := 0#32
  ![v59.toNat, 0]
def cc0_transform_0 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 1 := Scalar.cmpi .slt arg0 c37_i32
  let c9_i32 : BitVec 32 := 9#32
  let v1 : BitVec 32 := Scalar.select v0 arg1 c9_i32
  let c36_i32 : BitVec 32 := 36#32
  let v2 : BitVec 32 := Scalar.minsi arg0 c36_i32
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 1 := Scalar.cmpi .slt arg0 c37_i32
  let c9_i32 : BitVec 32 := 9#32
  let v1 : BitVec 32 := Scalar.select v0 arg1 c9_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![c0_i32_7.toNat, v22.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![c0_i32_7.toNat, v22.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  let c0_i32_9 : BitVec 32 := 0#32
  ![v22.toNat, c0_i32_7.toNat, c0_i32_8.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  let c0_i32_9 : BitVec 32 := 0#32
  ![v22.toNat, c0_i32_7.toNat, c0_i32_8.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![c0_i32_7.toNat, v22.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![v22.toNat, c0_i32_7.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c4_i32 : BitVec 32 := 4#32
  let v2 : BitVec 32 := Scalar.muli v1 c4_i32
  let c2_i32 : BitVec 32 := 2#32
  let v3 : BitVec 32 := Scalar.divsi arg1 c2_i32
  let c0_i32_0 : BitVec 32 := 0#32
  let v4 : BitVec 1 := Scalar.cmpi .sgt arg1 c0_i32_0
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi arg1 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c3_i32 : BitVec 32 := 3#32
  let v20 : BitVec 32 := Scalar.minsi v19 c3_i32
  let v21 : BitVec 32 := Scalar.addi v2 v20
  let c0_i32_6 : BitVec 32 := 0#32
  let v22 : BitVec 32 := Scalar.select v0 c0_i32_6 v21
  let c0_i32_7 : BitVec 32 := 0#32
  let c0_i32_8 : BitVec 32 := 0#32
  ![c0_i32_7.toNat, v22.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1792 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S14x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x3584 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x3584 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x3584 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x3584 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x512 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x512 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F]
-- ==== ReferenceIdeal.lean ====
abbrev S5x3072x3584 : Shape := ⟨3, ![5, 3072, 3584]⟩
abbrev S5x3072x18944 : Shape := ⟨3, ![5, 3072, 18944]⟩
abbrev S512x1792 : Shape := ⟨2, ![512, 1792]⟩
abbrev S512x14 : Shape := ⟨2, ![512, 14]⟩
abbrev S18944x512 : Shape := ⟨2, ![18944, 512]⟩
abbrev S18944x4 : Shape := ⟨2, ![18944, 4]⟩
abbrev S18944x3584 : Shape := ⟨2, ![18944, 3584]⟩
abbrev S18944 : Shape := ⟨1, ![18944]⟩
abbrev S512x14x256 : Shape := ⟨3, ![512, 14, 256]⟩
abbrev S512x3584 : Shape := ⟨2, ![512, 3584]⟩
abbrev S_ : Shape := ⟨0, ![]⟩
abbrev S512x1792x1 : Shape := ⟨3, ![512, 1792, 1]⟩
abbrev S512x1792x2 : Shape := ⟨3, ![512, 1792, 2]⟩
abbrev S18944x4x128 : Shape := ⟨3, ![18944, 4, 128]⟩
abbrev S18944x4x1 : Shape := ⟨3, ![18944, 4, 1]⟩
abbrev S18944x1 : Shape := ⟨2, ![18944, 1]⟩

abbrev nBuf : Space → Nat
  | .hbm => 184
  | .vmem => 0
  | .smem => 0
  | _ => 0

abbrev hbmTy0_0 (i : Nat) : BufTy := match i % 128 with
  | 0 => ⟨S5x3072x3584, .bf16⟩
  | 1 => ⟨S5x3072x18944, .bf16⟩
  | 2 => ⟨S512x1792, .i8⟩
  | 3 => ⟨S512x14, .f32⟩
  | 4 => ⟨S18944x512, .i8⟩
  | 5 => ⟨S18944x4, .f32⟩
  | 6 => ⟨S18944x512, .i8⟩
  | 7 => ⟨S18944x4, .f32⟩
  | 8 => ⟨S18944x3584, .i8⟩
  | 9 => ⟨S18944, .f32⟩
  | 10 => ⟨S18944x3584, .i8⟩
  | 11 => ⟨S18944x3584, .f32⟩
  | 12 => ⟨S18944x3584, .bf16⟩
  | 13 => ⟨S512x14x256, .f32⟩
  | 14 => ⟨S512x3584, .f32⟩
  | 15 => ⟨S512x3584, .bf16⟩
  | 16 => ⟨S512x1792, .i32⟩
  | 17 => ⟨S_, .i32⟩
  | 18 => ⟨S512x1792, .i32⟩
  | 19 => ⟨S512x1792, .i32⟩
  | 20 => ⟨S_, .i32⟩
  | 21 => ⟨S512x1792, .i32⟩
  | 22 => ⟨S512x1792, .i1⟩
  | 23 => ⟨S_, .i32⟩
  | 24 => ⟨S512x1792, .i32⟩
  | 25 => ⟨S512x1792, .i32⟩
  | 26 => ⟨S512x1792, .i32⟩
  | 27 => ⟨S512x1792, .i32⟩
  | 28 => ⟨S_, .i32⟩
  | 29 => ⟨S512x1792, .i32⟩
  | 30 => ⟨S512x1792, .i32⟩
  | 31 => ⟨S_, .i32⟩
  | 32 => ⟨S512x1792, .i32⟩
  | 33 => ⟨S512x1792, .i1⟩
  | 34 => ⟨S_, .i32⟩
  | 35 => ⟨S512x1792, .i32⟩
  | 36 => ⟨S512x1792, .i32⟩
  | 37 => ⟨S512x1792, .i32⟩
  | 38 => ⟨S512x1792x1, .i32⟩
  | 39 => ⟨S512x1792x1, .i32⟩
  | 40 => ⟨S512x1792x2, .i32⟩
  | 41 => ⟨S512x3584, .i32⟩
  | 42 => ⟨S512x3584, .f32⟩
  | 43 => ⟨S512x3584, .bf16⟩
  | 44 => ⟨S512x3584, .bf16⟩
  | 45 => ⟨S18944x512, .f32⟩
  | 46 => ⟨S18944x512, .i32⟩
  | 47 => ⟨S18944x512, .f32⟩
  | 48 => ⟨S18944x4x128, .f32⟩
  | 49 => ⟨S18944x512, .f32⟩
  | 50 => ⟨S18944x512, .f32⟩
  | 51 => ⟨S18944x512, .i32⟩
  | 52 => ⟨S18944x512, .f32⟩
  | 53 => ⟨S18944x4x128, .f32⟩
  | 54 => ⟨S18944x512, .f32⟩
  | 55 => ⟨S18944x512, .f32⟩
  | 56 => ⟨S_, .f32⟩
  | 57 => ⟨S18944x512, .f32⟩
  | 58 => ⟨S18944x512, .f32⟩
  | 59 => ⟨S_, .f32⟩
  | 60 => ⟨S18944x512, .f32⟩
  | 61 => ⟨S18944x512, .f32⟩
  | 62 => ⟨S18944x512, .f32⟩
  | 63 => ⟨S_, .f32⟩
  | 64 => ⟨S18944x512, .f32⟩
  | 65 => ⟨S18944x512, .f32⟩
  | 66 => ⟨S_, .f32⟩
  | 67 => ⟨S18944x512, .f32⟩
  | 68 => ⟨S18944x512, .f32⟩
  | 69 => ⟨S18944x512, .f32⟩
  | 70 => ⟨S18944x512, .f32⟩
  | 71 => ⟨S_, .f32⟩
  | 72 => ⟨S18944x512, .f32⟩
  | 73 => ⟨S18944x512, .f32⟩
  | 74 => ⟨S_, .f32⟩
  | 75 => ⟨S18944x512, .f32⟩
  | 76 => ⟨S18944x512, .f32⟩
  | 77 => ⟨S18944x512, .f32⟩
  | 78 => ⟨S_, .f32⟩
  | 79 => ⟨S18944x512, .f32⟩
  | 80 => ⟨S18944x512, .f32⟩
  | 81 => ⟨S18944x512, .f32⟩
  | 82 => ⟨S18944x4x128, .f32⟩
  | 83 => ⟨S18944x4x128, .f32⟩
  | 84 => ⟨S_, .f32⟩
  | 85 => ⟨S18944x4, .f32⟩
  | 86 => ⟨S_, .f32⟩
  | 87 => ⟨S18944x4, .f32⟩
  | 88 => ⟨S18944x4, .i1⟩
  | 89 => ⟨S_, .f32⟩
  | 90 => ⟨S18944x4, .f32⟩
  | 91 => ⟨S18944x4, .f32⟩
  | 92 => ⟨S_, .f32⟩
  | 93 => ⟨S_, .f32⟩
  | 94 => ⟨S18944x4, .f32⟩
  | 95 => ⟨S18944x4, .f32⟩
  | 96 => ⟨S18944x4x1, .f32⟩
  | 97 => ⟨S18944x4x128, .f32⟩
  | 98 => ⟨S18944x4x128, .f32⟩
  | 99 => ⟨S18944x4x128, .f32⟩
  | 100 => ⟨S_, .i32⟩
  | 101 => ⟨S_, .i32⟩
  | 102 => ⟨S_, .f32⟩
  | 103 => ⟨S18944x4x128, .f32⟩
  | 104 => ⟨S18944x4x128, .f32⟩
  | 105 => ⟨S_, .f32⟩
  | 106 => ⟨S18944x4x128, .f32⟩
  | 107 => ⟨S18944x4x128, .f32⟩
  | 108 => ⟨S18944x4x128, .i32⟩
  | 109 => ⟨S18944x4x128, .i8⟩
  | 110 => ⟨S18944x512, .i8⟩
  | 111 => ⟨S18944x4x128, .f32⟩
  | 112 => ⟨S18944x4x128, .f32⟩
  | 113 => ⟨S_, .f32⟩
  | 114 => ⟨S18944x4, .f32⟩
  | 115 => ⟨S_, .f32⟩
  | 116 => ⟨S18944x4, .f32⟩
  | 117 => ⟨S18944x4, .i1⟩
  | 118 => ⟨S_, .f32⟩
  | 119 => ⟨S18944x4, .f32⟩
  | 120 => ⟨S18944x4, .f32⟩
  | 121 => ⟨S_, .f32⟩
  | 122 => ⟨S_, .f32⟩
  | 123 => ⟨S18944x4, .f32⟩
  | 124 => ⟨S18944x4, .f32⟩
  | 125 => ⟨S18944x4x1, .f32⟩
  | 126 => ⟨S18944x4x128, .f32⟩
  | 127 => ⟨S18944x4x128, .f32⟩
  | _ => ⟨S5x3072x3584, .bf16⟩

abbrev hbmTy0_1 (i : Nat) : BufTy := match i % 128 with
  | 0 => ⟨S18944x4x128, .f32⟩
  | 1 => ⟨S_, .i32⟩
  | 2 => ⟨S_, .i32⟩
  | 3 => ⟨S_, .f32⟩
  | 4 => ⟨S18944x4x128, .f32⟩
  | 5 => ⟨S18944x4x128, .f32⟩
  | 6 => ⟨S_, .f32⟩
  | 7 => ⟨S18944x4x128, .f32⟩
  | 8 => ⟨S18944x4x128, .f32⟩
  | 9 => ⟨S18944x4x128, .i32⟩
  | 10 => ⟨S18944x4x128, .i8⟩
  | 11 => ⟨S18944x512, .i8⟩
  | 12 => ⟨S18944x512, .bf16⟩
  | 13 => ⟨S18944x3584, .f32⟩
  | 14 => ⟨S_, .f32⟩
  | 15 => ⟨S18944x3584, .f32⟩
  | 16 => ⟨S18944x3584, .f32⟩
  | 17 => ⟨S18944x3584, .i32⟩
  | 18 => ⟨S18944x3584, .f32⟩
  | 19 => ⟨S18944x1, .f32⟩
  | 20 => ⟨S18944x3584, .f32⟩
  | 21 => ⟨S18944x3584, .f32⟩
  | 22 => ⟨S18944x3584, .f32⟩
  | 23 => ⟨S18944x3584, .f32⟩
  | 24 => ⟨S_, .f32⟩
  | 25 => ⟨S18944, .f32⟩
  | 26 => ⟨S_, .f32⟩
  | 27 => ⟨S18944, .f32⟩
  | 28 => ⟨S18944, .i1⟩
  | 29 => ⟨S_, .f32⟩
  | 30 => ⟨S18944, .f32⟩
  | 31 => ⟨S18944, .f32⟩
  | 32 => ⟨S_, .f32⟩
  | 33 => ⟨S_, .f32⟩
  | 34 => ⟨S18944, .f32⟩
  | 35 => ⟨S18944, .f32⟩
  | 36 => ⟨S18944x3584, .i32⟩
  | 37 => ⟨S18944x3584, .f32⟩
  | 38 => ⟨S_, .f32⟩
  | 39 => ⟨S18944x3584, .f32⟩
  | 40 => ⟨S18944x3584, .f32⟩
  | 41 => ⟨S18944x1, .f32⟩
  | 42 => ⟨S18944x3584, .f32⟩
  | 43 => ⟨S18944x3584, .f32⟩
  | 44 => ⟨S18944x3584, .f32⟩
  | 45 => ⟨S18944x3584, .f32⟩
  | 46 => ⟨S_, .i32⟩
  | 47 => ⟨S_, .i32⟩
  | 48 => ⟨S_, .f32⟩
  | 49 => ⟨S18944x3584, .f32⟩
  | 50 => ⟨S18944x3584, .f32⟩
  | 51 => ⟨S_, .f32⟩
  | 52 => ⟨S18944x3584, .f32⟩
  | 53 => ⟨S18944x3584, .f32⟩
  | 54 => ⟨S18944x3584, .i32⟩
  | 55 => ⟨S18944x3584, .i8⟩
  | _ => ⟨S5x3072x3584, .bf16⟩

abbrev hbmTy (i : Nat) : BufTy := match i / 128 with
  | 0 => hbmTy0_0 i
  | 1 => hbmTy0_1 i
  | _ => ⟨S5x3072x3584, .bf16⟩

abbrev bufTy : (tb : Table) → Fin (tcTables nBuf tb) → BufTy
  | .hbm, ⟨i, _⟩ => hbmTy i
  | _, _ => ⟨S5x3072x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_c_16 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_cst_18 : Ref sig .tc := ⟨.hbm, 115, rfl⟩
abbrev main_v77 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_v80 : Ref sig .tc := ⟨.hbm, 120, rfl⟩
abbrev main_cst_20 : Ref sig .tc := ⟨.hbm, 121, rfl⟩
abbrev main_call5_v0 : Ref sig .tc := ⟨.hbm, 122, rfl⟩
abbrev main_call5_v1 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_21 : Ref sig .tc := ⟨.hbm, 129, rfl⟩
abbrev main_c_22 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_23 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_24 : Ref sig .tc := ⟨.hbm, 152, rfl⟩
abbrev main_v101 : Ref sig .tc := ⟨.hbm, 153, rfl⟩
abbrev main_cst_25 : Ref sig .tc := ⟨.hbm, 154, rfl⟩
abbrev main_v102 : Ref sig .tc := ⟨.hbm, 155, rfl⟩
abbrev main_v103 : Ref sig .tc := ⟨.hbm, 156, rfl⟩
abbrev main_cst_26 : Ref sig .tc := ⟨.hbm, 157, rfl⟩
abbrev main_v104 : Ref sig .tc := ⟨.hbm, 158, rfl⟩
abbrev main_v105 : Ref sig .tc := ⟨.hbm, 159, rfl⟩
abbrev main_cst_27 : Ref sig .tc := ⟨.hbm, 160, rfl⟩
abbrev main_call8_v0 : Ref sig .tc := ⟨.hbm, 161, rfl⟩
abbrev main_call8_v1 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_28 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_c_29 : Ref sig .tc := ⟨.hbm, 174, rfl⟩
abbrev main_c_30 : Ref sig .tc := ⟨.hbm, 175, rfl⟩
abbrev main_call9_v0 : Ref sig .tc := ⟨.hbm, 176, rfl⟩
abbrev main_call9_v1 : Ref sig .tc := ⟨.hbm, 177, rfl⟩
abbrev main_call9_v2 : Ref sig .tc := ⟨.hbm, 178, rfl⟩
abbrev main_call9_v3 : Ref sig .tc := ⟨.hbm, 179, rfl⟩
abbrev main_call9_v4 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩

abbrev nD : Nat := 1
abbrev τ : Topo := Topo.v7x

variable {F : FTy → Type} [FloatOps F]
-- ==== Proof.BitsCases.lean ====
/- The body of the kernel by cases of the grid point: which of its five branches run at which of the 380 points. -/
module

public import proofs.«01_k».proof.Proof.Gen.Kernel.Frame
public import proofs.«01_k».proof.Proof.Gen.Kernel.Skeleton

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At grid point `i` the first branch runs (the projector is decoded). -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- At grid point `i` the second branch runs (a step of the gradient together with a part of an optimizer step). -/
abbrev cond1 (i : grid0.Coords) : Prop := k0_cond2 i = 1#1

/-- At grid point `i` the third branch runs (a step of the gradient alone). -/
abbrev cond2 (i : grid0.Coords) : Prop := (Scalar.cmpi .ne (Scalar.extui (Scalar.andi (Scalar.andi (Scalar.cmpi .slt (BitVec.ofNat 32 (i 0).val) 37#32) (Scalar.xori (Scalar.andi (Scalar.andi (Scalar.cmpi .sgt (BitVec.ofNat 32 (i 0).val) 0#32) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32)) (Scalar.cmpi .slt (BitVec.ofNat 32 (i 1).val) 8#32)) 1#1)) (Scalar.cmpi .slt (BitVec.ofNat 32 (i 1).val) 9#32))) 0#32) = 1#1

/-- At grid point `i` the fourth branch runs (the last step of a gradient block, which is put away). -/
abbrev cond3 (i : grid0.Coords) : Prop := (Scalar.cmpi .ne (Scalar.extui (Scalar.andi (Scalar.cmpi .slt (BitVec.ofNat 32 (i 0).val) 37#32) (Scalar.cmpi .eq (BitVec.ofNat 32 (i 1).val) 9#32))) 0#32) = 1#1

/-- At grid point `i` the fifth branch runs (a part of an optimizer step alone). -/
abbrev cond4 (i : grid0.Coords) : Prop := k0_cond5 i = 1#1

/-- The condition of branch 1 in closed form, over all points. -/
theorem cond0_iff : ∀ t : Fin grid0.N, cond0 (grid0.coords t) ↔ (t.val = 0) := by decide +kernel

/-- The condition of branch 2 in closed form, over all points. -/
theorem cond1_iff : ∀ t : Fin grid0.N, cond1 (grid0.coords t) ↔ (10 ≤ t.val ∧ t.val < 370 ∧ t.val % 2 = 0 ∧ t.val % 10 < 8) := by decide +kernel

/-- The condition of branch 3 in closed form, over all points. -/
theorem cond2_iff : ∀ t : Fin grid0.N, cond2 (grid0.coords t) ↔ (t.val < 370 ∧ t.val % 10 < 9 ∧ ¬(10 ≤ t.val ∧ t.val % 2 = 0 ∧ t.val % 10 < 8)) := by decide +kernel

/-- The condition of branch 4 in closed form, over all points. -/
theorem cond3_iff : ∀ t : Fin grid0.N, cond3 (grid0.coords t) ↔ (t.val < 370 ∧ t.val % 10 = 9) := by decide +kernel

/-- The condition of branch 5 in closed form, over all points. -/
theorem cond4_iff : ∀ t : Fin grid0.N, cond4 (grid0.coords t) ↔ (370 ≤ t.val ∧ t.val % 2 = 0 ∧ t.val % 10 < 8) := by decide +kernel

/-- Every point is of one of six kinds, told by the branches that run there. -/
theorem kinds (t : Fin grid0.N) :
    (cond0 (grid0.coords t) ∧ ¬cond1 (grid0.coords t) ∧ cond2 (grid0.coords t) ∧ ¬cond3 (grid0.coords t) ∧ ¬cond4 (grid0.coords t))
    ∨ (¬cond0 (grid0.coords t) ∧ ¬cond1 (grid0.coords t) ∧ cond2 (grid0.coords t) ∧ ¬cond3 (grid0.coords t) ∧ ¬cond4 (grid0.coords t))
    ∨ (¬cond0 (grid0.coords t) ∧ ¬cond1 (grid0.coords t) ∧ ¬cond2 (grid0.coords t) ∧ cond3 (grid0.coords t) ∧ ¬cond4 (grid0.coords t))
    ∨ (¬cond0 (grid0.coords t) ∧ cond1 (grid0.coords t) ∧ ¬cond2 (grid0.coords t) ∧ ¬cond3 (grid0.coords t) ∧ ¬cond4 (grid0.coords t))
    ∨ (¬cond0 (grid0.coords t) ∧ ¬cond1 (grid0.coords t) ∧ ¬cond2 (grid0.coords t) ∧ ¬cond3 (grid0.coords t) ∧ cond4 (grid0.coords t))
    ∨ (¬cond0 (grid0.coords t) ∧ ¬cond1 (grid0.coords t) ∧ ¬cond2 (grid0.coords t) ∧ ¬cond3 (grid0.coords t) ∧ ¬cond4 (grid0.coords t)) := by
  have hN : t.val < 380 := t.isLt
  simp only [cond0_iff, cond1_iff, cond2_iff, cond3_iff, cond4_iff]
  omega

end Cert.Kernel.Body
-- ==== Proof.BitsRun.lean ====
/- The body's run at a point of any kind, as far as a frame needs it: the eleven input blocks come back as they were, and every
   other buffer the body may store into is there again afterwards. -/
module

public import proofs.«01_k».proof.Proof.BitsCases

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (arg2 : Memref sig .tc .vmem S1536x512 .bf16) (harg2 : arg2.IsWhole)
  (arg3 : Memref sig .tc .vmem S1536x3584 .bf16) (harg3 : arg3.IsWhole)
  (arg4 : Memref sig .tc .vmem S512x1792 .i8) (harg4 : arg4.IsWhole)
  (arg5 : Memref sig .tc .vmem S14x512 .f32) (harg5 : arg5.IsWhole)
  (arg6 : Memref sig .tc .vmem S128x512 .i8) (harg6 : arg6.IsWhole)
  (arg7 : Memref sig .tc .vmem S4x128 .f32) (harg7 : arg7.IsWhole)
  (arg8 : Memref sig .tc .vmem S128x512 .i8) (harg8 : arg8.IsWhole)
  (arg9 : Memref sig .tc .vmem S4x128 .f32) (harg9 : arg9.IsWhole)
  (arg10 : Memref sig .tc .vmem S128x3584 .i8) (harg10 : arg10.IsWhole)
  (arg11 : Memref sig .tc .vmem S1x1x128 .f32) (harg11 : arg11.IsWhole)
  (arg12 : Memref sig .tc .vmem S128x3584 .i8) (harg12 : arg12.IsWhole)
  (arg13 : Memref sig .tc .vmem S128x3584 .i8) (harg13 : arg13.IsWhole)
  (arg14 : Memref sig .tc .vmem S1x1x128 .f32) (harg14 : arg14.IsWhole)
  (arg15 : Memref sig .tc .vmem S128x3584 .f32) (harg15 : arg15.IsWhole)
  (arg16 : Memref sig .tc .vmem S128x512 .f32) (harg16 : arg16.IsWhole)
  (arg17 : Memref sig .tc .vmem S128x512 .i8) (harg17 : arg17.IsWhole)
  (arg18 : Memref sig .tc .vmem S4x128 .f32) (harg18 : arg18.IsWhole)
  (arg19 : Memref sig .tc .vmem S128x512 .i8) (harg19 : arg19.IsWhole)
  (arg20 : Memref sig .tc .vmem S4x128 .f32) (harg20 : arg20.IsWhole)
  (arg21 : Memref sig .tc .vmem S512x3584 .f32) (harg21 : arg21.IsWhole)
  (arg22 : Memref sig .tc .vmem S512x3584 .bf16) (harg22 : arg22.IsWhole)
  (arg23 : Memref sig .tc .vmem S512x3584 .bf16) (harg23 : arg23.IsWhole)
  (arg24 : Memref sig .tc .vmem S3584x512 .bf16) (harg24 : arg24.IsWhole)
  (arg25 : Memref sig .tc .vmem S512x1536 .bf16) (harg25 : arg25.IsWhole)

/-- The eleven input blocks at given contents. -/
def ins (c : Dev nD) (arg2 : Memref sig .tc .vmem S1536x512 .bf16) (arg3 : Memref sig .tc .vmem S1536x3584 .bf16) (arg4 : Memref sig .tc .vmem S512x1792 .i8) (arg5 : Memref sig .tc .vmem S14x512 .f32) (arg6 : Memref sig .tc .vmem S128x512 .i8) (arg7 : Memref sig .tc .vmem S4x128 .f32) (arg8 : Memref sig .tc .vmem S128x512 .i8) (arg9 : Memref sig .tc .vmem S4x128 .f32) (arg10 : Memref sig .tc .vmem S128x3584 .i8) (arg11 : Memref sig .tc .vmem S1x1x128 .f32) (arg12 : Memref sig .tc .vmem S128x3584 .i8) (x0 : Vec F S1536x512 .bf16) (x1 : Vec F S1536x3584 .bf16) (x2 : Vec F S512x1792 .i8) (x3 : Vec F S14x512 .f32) (x4 : Vec F S128x512 .i8) (x5 : Vec F S4x128 .f32) (x6 : Vec F S128x512 .i8) (x7 : Vec F S4x128 .f32) (x8 : Vec F S128x3584 .i8) (x9 : Vec F S1x1x128 .f32) (x10 : Vec F S128x3584 .i8) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10)

/-- The eight output blocks and the five scratch buffers, at any contents. -/
def rest (c : Dev nD) (arg13 : Memref sig .tc .vmem S128x3584 .i8) (arg14 : Memref sig .tc .vmem S1x1x128 .f32) (arg15 : Memref sig .tc .vmem S128x3584 .f32) (arg16 : Memref sig .tc .vmem S128x512 .f32) (arg17 : Memref sig .tc .vmem S128x512 .i8) (arg18 : Memref sig .tc .vmem S4x128 .f32) (arg19 : Memref sig .tc .vmem S128x512 .i8) (arg20 : Memref sig .tc .vmem S4x128 .f32) (arg21 : Memref sig .tc .vmem S512x3584 .f32) (arg22 : Memref sig .tc .vmem S512x3584 .bf16) (arg23 : Memref sig .tc .vmem S512x3584 .bf16) (arg24 : Memref sig .tc .vmem S3584x512 .bf16) (arg25 : Memref sig .tc .vmem S512x1536 .bf16) : sProp 𝕄 :=
  iprop((∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d))

include harg2 harg3 harg4 harg5 harg6 harg7 harg8 harg9 harg10 harg11 harg12 harg13 harg14 harg15 harg16 harg17 harg18 harg19 harg20 harg21 harg22 harg23 harg24 harg25 in
set_option maxHeartbeats 4000000 in
/-- At every kind of point the body runs, gives its input blocks back unchanged and its other buffers at some contents. -/
theorem run (c : Dev nD) (i : grid0.Coords) (hi : (cond0 i ∧ ¬cond1 i ∧ cond2 i ∧ ¬cond3 i ∧ ¬cond4 i) ∨ (¬cond0 i ∧ ¬cond1 i ∧ cond2 i ∧ ¬cond3 i ∧ ¬cond4 i) ∨ (¬cond0 i ∧ ¬cond1 i ∧ ¬cond2 i ∧ cond3 i ∧ ¬cond4 i) ∨ (¬cond0 i ∧ cond1 i ∧ ¬cond2 i ∧ ¬cond3 i ∧ ¬cond4 i) ∨ (¬cond0 i ∧ ¬cond1 i ∧ ¬cond2 i ∧ ¬cond3 i ∧ cond4 i) ∨ (¬cond0 i ∧ ¬cond1 i ∧ ¬cond2 i ∧ ¬cond3 i ∧ ¬cond4 i))
    (x0 : Vec F S1536x512 .bf16) (x1 : Vec F S1536x3584 .bf16) (x2 : Vec F S512x1792 .i8) (x3 : Vec F S14x512 .f32) (x4 : Vec F S128x512 .i8) (x5 : Vec F S4x128 .f32) (x6 : Vec F S128x512 .i8) (x7 : Vec F S4x128 .f32) (x8 : Vec F S128x3584 .i8) (x9 : Vec F S1x1x128 .f32) (x10 : Vec F S128x3584 .i8) (E : Set ℕ) (K : PUnit → sProp 𝕄) :
    iprop(ins c arg2 arg3 arg4 arg5 arg6 arg7 arg8 arg9 arg10 arg11 arg12 x0 x1 x2 x3 x4 x5 x6 x7 x8 x9 x10 ∗ rest c arg13 arg14 arg15 arg16 arg17 arg18 arg19 arg20 arg21 arg22 arg23 arg24 arg25 ∗ (iprop(ins c arg2 arg3 arg4 arg5 arg6 arg7 arg8 arg9 arg10 arg11 arg12 x0 x1 x2 x3 x4 x5 x6 x7 x8 x9 x10 ∗ rest c arg13 arg14 arg15 arg16 arg17 arg18 arg19 arg20 arg21 arg22 arg23 arg24 arg25) -∗ K ⟨⟩))
      ⊢ wp frame (wpE (defs₀ (F := F)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_qgalore_eq_skeleton]; unfold cc0_qgalore_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold ins rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  rcases hi with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  all_goals
    sl_exec (disch := first | sl_exact hc0 | sl_exact hc1 | sl_exact hc2 | sl_exact hc3 | sl_exact hc4)
    sl_step
    iapply Hk
    isplitl [H0 H1 H2 H3 H4 H5 H6 H7 H8 H9 H10]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      iexists _; isplitr; · ipureintro; exact harg12.read_unread _
      iexact H10
    · isplitl [H11]; · iexists _; iexists _; isplitr; swap; iexact H11; ipureintro; rfl
      isplitl [H12]; · iexists _; iexists _; isplitr; swap; iexact H12; ipureintro; rfl
      isplitl [H13]; · iexists _; iexists _; isplitr; swap; iexact H13; ipureintro; rfl
      isplitl [H14]; · iexists _; iexists _; isplitr; swap; iexact H14; ipureintro; rfl
      isplitl [H15]; · iexists _; iexists _; isplitr; swap; iexact H15; ipureintro; rfl
      isplitl [H16]; · iexists _; iexists _; isplitr; swap; iexact H16; ipureintro; rfl
      isplitl [H17]; · iexists _; iexists _; isplitr; swap; iexact H17; ipureintro; rfl
      isplitl [H18]; · iexists _; iexists _; isplitr; swap; iexact H18; ipureintro; rfl
      isplitl [H19]; · iexists _; iexists _; isplitr; swap; iexact H19; ipureintro; rfl
      isplitl [H20]; · iexists _; iexists _; isplitr; swap; iexact H20; ipureintro; rfl
      isplitl [H21]; · iexists _; iexists _; isplitr; swap; iexact H21; ipureintro; rfl
      isplitl [H22]; · iexists _; iexists _; isplitr; swap; iexact H22; ipureintro; rfl
      iexists _; iexists _; isplitr; swap; iexact H23; ipureintro; rfl

end Cert.Kernel.Body
-- ==== Proof.BitsFrame.lean ====
/- The frame of the program: every execution ends, with every argument array as it was and every counter at zero. Nothing is named of what
   the body leaves in its output windows or its scratch buffers. -/
module

public import proofs.«01_k».proof.Proof.BitsRun
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v7, main_v8, main_v9}
/-- The lines after the kernel write none of the arrays that the kernel works on. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      ((h c).2 main_arg7 (Finset.mem_sdiff.mpr ⟨Pipeline.mem_restRefs_of main_arg7 (by decide) (by decide), by decide⟩)).trans (V_main_arg7 m c),
      (Pipeline.RDat.FramePostR.arr_in h c 8 rfl).trans ((hA c 8).trans (V_main_arg8 m c)),
      ((h c).2 main_arg9 (Finset.mem_sdiff.mpr ⟨Pipeline.mem_restRefs_of main_arg9 (by decide) (by decide), by decide⟩)).trans (V_main_arg9 m c),
      (Pipeline.RDat.FramePostR.arr_in h c 10 rfl).trans ((hA c 10).trans (V_main_arg10 m c))⟩) h

/-- An input window is live at every point. -/
theorem live (w : Fin 19) (hw : w.val < 11) (t : Fin cfg0.N) : cfg0.idle w (grid0.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨n + 11, _⟩, hw => exact absurd hw (Nat.not_lt.2 (Nat.le_add_left _ _))

/-- The staging buffer of window 0 at point `t`. -/
abbrev ms0_0 (t : Fin cfg0.N) : Memref sig .tc .vmem S1536x512 .bf16 := win0_0.stage (cfg0.slots t 0)
/-- It is a whole buffer. -/
abbrev hs0_0 (t : Fin cfg0.N) : (ms0_0 t).IsWhole := hstage0_0 ((cfg0.slots t 0).cast nbuf0_0)
/-- The staging buffer of window 1 at point `t`. -/
abbrev ms0_1 (t : Fin cfg0.N) : Memref sig .tc .vmem S1536x3584 .bf16 := win0_1.stage (cfg0.slots t 1)
/-- It is a whole buffer. -/
abbrev hs0_1 (t : Fin cfg0.N) : (ms0_1 t).IsWhole := hstage0_1 ((cfg0.slots t 1).cast nbuf0_1)
/-- The staging buffer of window 2 at point `t`. -/
abbrev ms0_2 (t : Fin cfg0.N) : Memref sig .tc .vmem S512x1792 .i8 := win0_2.stage (cfg0.slots t 2)
/-- It is a whole buffer. -/
abbrev hs0_2 (t : Fin cfg0.N) : (ms0_2 t).IsWhole := hstage0_2 ((cfg0.slots t 2).cast nbuf0_2)
/-- The staging buffer of window 3 at point `t`. -/
abbrev ms0_3 (t : Fin cfg0.N) : Memref sig .tc .vmem S14x512 .f32 := win0_3.stage (cfg0.slots t 3)
/-- It is a whole buffer. -/
abbrev hs0_3 (t : Fin cfg0.N) : (ms0_3 t).IsWhole := hstage0_3 ((cfg0.slots t 3).cast nbuf0_3)
/-- The staging buffer of window 4 at point `t`. -/
abbrev ms0_4 (t : Fin cfg0.N) : Memref sig .tc .vmem S128x512 .i8 := win0_4.stage (cfg0.slots t 4)
/-- It is a whole buffer. -/
abbrev hs0_4 (t : Fin cfg0.N) : (ms0_4 t).IsWhole := hstage0_4 ((cfg0.slots t 4).cast nbuf0_4)
/-- The staging buffer of window 5 at point `t`. -/
abbrev ms0_5 (t : Fin cfg0.N) : Memref sig .tc .vmem S4x128 .f32 := win0_5.stage (cfg0.slots t 5)
/-- It is a whole buffer. -/
abbrev hs0_5 (t : Fin cfg0.N) : (ms0_5 t).IsWhole := hstage0_5 ((cfg0.slots t 5).cast nbuf0_5)
/-- The staging buffer of window 6 at point `t`. -/
abbrev ms0_6 (t : Fin cfg0.N) : Memref sig .tc .vmem S128x512 .i8 := win0_6.stage (cfg0.slots t 6)
/-- It is a whole buffer. -/
abbrev hs0_6 (t : Fin cfg0.N) : (ms0_6 t).IsWhole := hstage0_6 ((cfg0.slots t 6).cast nbuf0_6)
/-- The staging buffer of window 7 at point `t`. -/
abbrev ms0_7 (t : Fin cfg0.N) : Memref sig .tc .vmem S4x128 .f32 := win0_7.stage (cfg0.slots t 7)
/-- It is a whole buffer. -/
abbrev hs0_7 (t : Fin cfg0.N) : (ms0_7 t).IsWhole := hstage0_7 ((cfg0.slots t 7).cast nbuf0_7)
/-- The staging buffer of window 8 at point `t`. -/
abbrev ms0_8 (t : Fin cfg0.N) : Memref sig .tc .vmem S128x3584 .i8 := win0_8.stage (cfg0.slots t 8)
/-- It is a whole buffer. -/
abbrev hs0_8 (t : Fin cfg0.N) : (ms0_8 t).IsWhole := hstage0_8 ((cfg0.slots t 8).cast nbuf0_8)
/-- The staging buffer of window 9 at point `t`. -/
abbrev ms0_9 (t : Fin cfg0.N) : Memref sig .tc .vmem S1x1x128 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at point `t`. -/
abbrev ms0_10 (t : Fin cfg0.N) : Memref sig .tc .vmem S128x3584 .i8 := win0_10.stage (cfg0.slots t 10)
/-- It is a whole buffer. -/
abbrev hs0_10 (t : Fin cfg0.N) : (ms0_10 t).IsWhole := hstage0_10 ((cfg0.slots t 10).cast nbuf0_10)
/-- The staging buffer of window 11 at point `t`. -/
abbrev ms0_11 (t : Fin cfg0.N) : Memref sig .tc .vmem S128x3584 .i8 := win0_11.stage (cfg0.slots t 11)
/-- It is a whole buffer. -/
abbrev hs0_11 (t : Fin cfg0.N) : (ms0_11 t).IsWhole := hstage0_11 ((cfg0.slots t 11).cast nbuf0_11)
/-- The staging buffer of window 12 at point `t`. -/
abbrev ms0_12 (t : Fin cfg0.N) : Memref sig .tc .vmem S1x1x128 .f32 := win0_12.stage (cfg0.slots t 12)
/-- It is a whole buffer. -/
abbrev hs0_12 (t : Fin cfg0.N) : (ms0_12 t).IsWhole := hstage0_12 ((cfg0.slots t 12).cast nbuf0_12)
/-- The staging buffer of window 13 at point `t`. -/
abbrev ms0_13 (t : Fin cfg0.N) : Memref sig .tc .vmem S128x3584 .f32 := win0_13.stage (cfg0.slots t 13)
/-- It is a whole buffer. -/
abbrev hs0_13 (t : Fin cfg0.N) : (ms0_13 t).IsWhole := hstage0_13 ((cfg0.slots t 13).cast nbuf0_13)
/-- The staging buffer of window 14 at point `t`. -/
abbrev ms0_14 (t : Fin cfg0.N) : Memref sig .tc .vmem S128x512 .f32 := win0_14.stage (cfg0.slots t 14)
/-- It is a whole buffer. -/
abbrev hs0_14 (t : Fin cfg0.N) : (ms0_14 t).IsWhole := hstage0_14 ((cfg0.slots t 14).cast nbuf0_14)
/-- The staging buffer of window 15 at point `t`. -/
abbrev ms0_15 (t : Fin cfg0.N) : Memref sig .tc .vmem S128x512 .i8 := win0_15.stage (cfg0.slots t 15)
/-- It is a whole buffer. -/
abbrev hs0_15 (t : Fin cfg0.N) : (ms0_15 t).IsWhole := hstage0_15 ((cfg0.slots t 15).cast nbuf0_15)
/-- The staging buffer of window 16 at point `t`. -/
abbrev ms0_16 (t : Fin cfg0.N) : Memref sig .tc .vmem S4x128 .f32 := win0_16.stage (cfg0.slots t 16)
/-- It is a whole buffer. -/
abbrev hs0_16 (t : Fin cfg0.N) : (ms0_16 t).IsWhole := hstage0_16 ((cfg0.slots t 16).cast nbuf0_16)
/-- The staging buffer of window 17 at point `t`. -/
abbrev ms0_17 (t : Fin cfg0.N) : Memref sig .tc .vmem S128x512 .i8 := win0_17.stage (cfg0.slots t 17)
/-- It is a whole buffer. -/
abbrev hs0_17 (t : Fin cfg0.N) : (ms0_17 t).IsWhole := hstage0_17 ((cfg0.slots t 17).cast nbuf0_17)
/-- The staging buffer of window 18 at point `t`. -/
abbrev ms0_18 (t : Fin cfg0.N) : Memref sig .tc .vmem S4x128 .f32 := win0_18.stage (cfg0.slots t 18)
/-- It is a whole buffer. -/
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S512x3584 .f32 := Memref.whole cc0_scratch0
/-- A scratch buffer, whole. -/
abbrev scM0_1 : Memref sig .tc .vmem S512x3584 .bf16 := Memref.whole cc0_scratch1
/-- A scratch buffer, whole. -/
abbrev scM0_2 : Memref sig .tc .vmem S512x3584 .bf16 := Memref.whole cc0_scratch2
/-- A scratch buffer, whole. -/
abbrev scM0_3 : Memref sig .tc .vmem S3584x512 .bf16 := Memref.whole cc0_scratch3
/-- A scratch buffer, whole. -/
abbrev scM0_4 : Memref sig .tc .vmem S512x1536 .bf16 := Memref.whole cc0_scratch4
/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The output windows this certificate FORGETS (11, 12, 13, 14, 15, 16, 17, 18): nothing reads what the kernel leaves in them, so nothing
    of it is named (Lib/Pipeline/Dat.lean `Dat.toRForget`). -/
def forgets0 : Fin 19 → Bool := fun w => w.val == 11 || w.val == 12 || w.val == 13 || w.val == 14 || w.val == 15 || w.val == 16 || w.val == 17 || w.val == 18

/-- The proof data: after the body at a point each input window holds its block, an output window anything; between points the scratch
    buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves this input block as it found it. -/
theorem after0_1 (c : Dev nD) (t : Fin cfg0.N) : (dats m 0 c).after 1 t = iblk m c 1 t := by dsimp only [dats]
/-- The body leaves this input block as it found it. -/
theorem after0_2 (c : Dev nD) (t : Fin cfg0.N) : (dats m 0 c).after 2 t = iblk m c 2 t := by dsimp only [dats]
/-- The body leaves this input block as it found it. -/
theorem after0_3 (c : Dev nD) (t : Fin cfg0.N) : (dats m 0 c).after 3 t = iblk m c 3 t := by dsimp only [dats]
/-- The body leaves this input block as it found it. -/
theorem after0_4 (c : Dev nD) (t : Fin cfg0.N) : (dats m 0 c).after 4 t = iblk m c 4 t := by dsimp only [dats]
/-- The body leaves this input block as it found it. -/
theorem after0_5 (c : Dev nD) (t : Fin cfg0.N) : (dats m 0 c).after 5 t = iblk m c 5 t := by dsimp only [dats]
/-- The body leaves this input block as it found it. -/
theorem after0_6 (c : Dev nD) (t : Fin cfg0.N) : (dats m 0 c).after 6 t = iblk m c 6 t := by dsimp only [dats]
/-- The body leaves this input block as it found it. -/
theorem after0_7 (c : Dev nD) (t : Fin cfg0.N) : (dats m 0 c).after 7 t = iblk m c 7 t := by dsimp only [dats]
/-- The body leaves this input block as it found it. -/
theorem after0_8 (c : Dev nD) (t : Fin cfg0.N) : (dats m 0 c).after 8 t = iblk m c 8 t := by dsimp only [dats]
/-- The body leaves this input block as it found it. -/
theorem after0_9 (c : Dev nD) (t : Fin cfg0.N) : (dats m 0 c).after 9 t = iblk m c 9 t := by dsimp only [dats]
/-- The body leaves this input block as it found it. -/
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds in this input block the part of the array that the step reads. -/
theorem before0_1 (c : Dev nD) (t : Fin cfg0.N) (d) : (dats m 0 c).before 1 t d = iblk m c 1 t :=
  before0_1_of m (dats m 0 c) (A_eq m c 1) (after0_1 m c) t d
/-- The body finds in this input block the part of the array that the step reads. -/
theorem before0_2 (c : Dev nD) (t : Fin cfg0.N) (d) : (dats m 0 c).before 2 t d = iblk m c 2 t :=
  before0_2_of m (dats m 0 c) (A_eq m c 2) (after0_2 m c) t d
/-- The body finds in this input block the part of the array that the step reads. -/
theorem before0_3 (c : Dev nD) (t : Fin cfg0.N) (d) : (dats m 0 c).before 3 t d = iblk m c 3 t :=
  before0_3_of m (dats m 0 c) (A_eq m c 3) (after0_3 m c) t d
/-- The body finds in this input block the part of the array that the step reads. -/
theorem before0_4 (c : Dev nD) (t : Fin cfg0.N) (d) : (dats m 0 c).before 4 t d = iblk m c 4 t :=
  before0_4_of m (dats m 0 c) (A_eq m c 4) (after0_4 m c) t d
/-- The body finds in this input block the part of the array that the step reads. -/
theorem before0_5 (c : Dev nD) (t : Fin cfg0.N) (d) : (dats m 0 c).before 5 t d = iblk m c 5 t :=
  before0_5_of m (dats m 0 c) (A_eq m c 5) (after0_5 m c) t d
/-- The body finds in this input block the part of the array that the step reads. -/
theorem before0_6 (c : Dev nD) (t : Fin cfg0.N) (d) : (dats m 0 c).before 6 t d = iblk m c 6 t :=
  before0_6_of m (dats m 0 c) (A_eq m c 6) (after0_6 m c) t d
/-- The body finds in this input block the part of the array that the step reads. -/
theorem before0_7 (c : Dev nD) (t : Fin cfg0.N) (d) : (dats m 0 c).before 7 t d = iblk m c 7 t :=
  before0_7_of m (dats m 0 c) (A_eq m c 7) (after0_7 m c) t d
/-- The body finds in this input block the part of the array that the step reads. -/
theorem before0_8 (c : Dev nD) (t : Fin cfg0.N) (d) : (dats m 0 c).before 8 t d = iblk m c 8 t :=
  before0_8_of m (dats m 0 c) (A_eq m c 8) (after0_8 m c) t d
/-- The body finds in this input block the part of the array that the step reads. -/
theorem before0_9 (c : Dev nD) (t : Fin cfg0.N) (d) : (dats m 0 c).before 9 t d = iblk m c 9 t :=
  before0_9_of m (dats m 0 c) (A_eq m c 9) (after0_9 m c) t d
/-- The body finds in this input block the part of the array that the step reads. -/
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 4000000 in
/-- The body at any point: the run, handed the staging buffers and the scratch buffers and giving them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [live 0 (by decide) t], after0_0]
  rw [show (dats m 0 c).leavesExact 1 t = owns (c : Thread nD τ) (ms0_1 t) fullShare ((dats m 0 c).after 1 t) from by
    unfold Dat.leavesExact; rw [live 1 (by decide) t], after0_1]
  rw [show (dats m 0 c).leavesExact 2 t = owns (c : Thread nD τ) (ms0_2 t) fullShare ((dats m 0 c).after 2 t) from by
    unfold Dat.leavesExact; rw [live 2 (by decide) t], after0_2]
  rw [show (dats m 0 c).leavesExact 3 t = owns (c : Thread nD τ) (ms0_3 t) fullShare ((dats m 0 c).after 3 t) from by
    unfold Dat.leavesExact; rw [live 3 (by decide) t], after0_3]
  rw [show (dats m 0 c).leavesExact 4 t = owns (c : Thread nD τ) (ms0_4 t) fullShare ((dats m 0 c).after 4 t) from by
    unfold Dat.leavesExact; rw [live 4 (by decide) t], after0_4]
  rw [show (dats m 0 c).leavesExact 5 t = owns (c : Thread nD τ) (ms0_5 t) fullShare ((dats m 0 c).after 5 t) from by
    unfold Dat.leavesExact; rw [live 5 (by decide) t], after0_5]
  rw [show (dats m 0 c).leavesExact 6 t = owns (c : Thread nD τ) (ms0_6 t) fullShare ((dats m 0 c).after 6 t) from by
    unfold Dat.leavesExact; rw [live 6 (by decide) t], after0_6]
  rw [show (dats m 0 c).leavesExact 7 t = owns (c : Thread nD τ) (ms0_7 t) fullShare ((dats m 0 c).after 7 t) from by
    unfold Dat.leavesExact; rw [live 7 (by decide) t], after0_7]
  rw [show (dats m 0 c).leavesExact 8 t = owns (c : Thread nD τ) (ms0_8 t) fullShare ((dats m 0 c).after 8 t) from by
    unfold Dat.leavesExact; rw [live 8 (by decide) t], after0_8]
  rw [show (dats m 0 c).leavesExact 9 t = owns (c : Thread nD τ) (ms0_9 t) fullShare ((dats m 0 c).after 9 t) from by
    unfold Dat.leavesExact; rw [live 9 (by decide) t], after0_9]
  rw [show (dats m 0 c).leavesExact 10 t = owns (c : Thread nD τ) (ms0_10 t) fullShare ((dats m 0 c).after 10 t) from by
    unfold Dat.leavesExact; rw [live 10 (by decide) t], after0_10]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18⟩
  iapply (run _ _ _ _ _ _ _ _ _ _ _ _ _ _ _ _ _ _ _ _ _ _ _ _ _ _ _ _ _ _ _ _ _ _ _ _ _ _ _ _ _ _ _ _ _ _ _ _ c (grid0.coords t) (kinds t) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  unfold ins rest
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14 H15 H16 H17 H18 HS0 HS1 HS2 HS3 HS4]
  · isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    iexact HS4
  iintro ⟨⟨H0, H1, H2, H3, H4, H5, H6, H7, H8, H9, H10⟩, H11, H12, H13, H14, H15, H16, H17, H18, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := Idealize.SL.BI.Entails.refl _

/-- The invariant after the last point is what the region hands back. -/
theorem hout (c : Dev nD) : (dats m 0 c).Φ (Fin.last cfg0.N) ⊢ Pipeline.ΦA spec0 c := Idealize.SL.BI.Entails.refl _

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 11, 12, 13, 14, 15, 16, 17, 18) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The frame: every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ _ (A_eq m) (run_main m ρ))
    ((θ_run defs _ _).mono (fun _ h => h.2) (run_main_quiescent m ρ))

end Cert.Kernel.Body
-- ==== Proof.IdealCases.lean ====
/- The body of the kernel by cases of the grid point: which of its five branches run at which of the 380 points. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At grid point `i` the first branch runs (the projector is decoded). -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- At grid point `i` the second branch runs (a step of the gradient together with a part of an optimizer step). -/
abbrev cond1 (i : grid0.Coords) : Prop := k0_cond2 i = 1#1

/-- At grid point `i` the third branch runs (a step of the gradient alone). -/
abbrev cond2 (i : grid0.Coords) : Prop := (Scalar.cmpi .ne (Scalar.extui (Scalar.andi (Scalar.andi (Scalar.cmpi .slt (BitVec.ofNat 32 (i 0).val) 37#32) (Scalar.xori (Scalar.andi (Scalar.andi (Scalar.cmpi .sgt (BitVec.ofNat 32 (i 0).val) 0#32) (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 0#32)) (Scalar.cmpi .slt (BitVec.ofNat 32 (i 1).val) 8#32)) 1#1)) (Scalar.cmpi .slt (BitVec.ofNat 32 (i 1).val) 9#32))) 0#32) = 1#1

/-- At grid point `i` the fourth branch runs (the last step of a gradient block, which is put away). -/
abbrev cond3 (i : grid0.Coords) : Prop := (Scalar.cmpi .ne (Scalar.extui (Scalar.andi (Scalar.cmpi .slt (BitVec.ofNat 32 (i 0).val) 37#32) (Scalar.cmpi .eq (BitVec.ofNat 32 (i 1).val) 9#32))) 0#32) = 1#1

/-- At grid point `i` the fifth branch runs (a part of an optimizer step alone). -/
abbrev cond4 (i : grid0.Coords) : Prop := k0_cond5 i = 1#1

/-- The condition of branch 1 in closed form, over all points. -/
theorem cond0_iff : ∀ t : Fin grid0.N, cond0 (grid0.coords t) ↔ (t.val = 0) := by decide +kernel

/-- The condition of branch 2 in closed form, over all points. -/
theorem cond1_iff : ∀ t : Fin grid0.N, cond1 (grid0.coords t) ↔ (10 ≤ t.val ∧ t.val < 370 ∧ t.val % 2 = 0 ∧ t.val % 10 < 8) := by decide +kernel

/-- The condition of branch 3 in closed form, over all points. -/
theorem cond2_iff : ∀ t : Fin grid0.N, cond2 (grid0.coords t) ↔ (t.val < 370 ∧ t.val % 10 < 9 ∧ ¬(10 ≤ t.val ∧ t.val % 2 = 0 ∧ t.val % 10 < 8)) := by decide +kernel

/-- The condition of branch 4 in closed form, over all points. -/
theorem cond3_iff : ∀ t : Fin grid0.N, cond3 (grid0.coords t) ↔ (t.val < 370 ∧ t.val % 10 = 9) := by decide +kernel

/-- The condition of branch 5 in closed form, over all points. -/
theorem cond4_iff : ∀ t : Fin grid0.N, cond4 (grid0.coords t) ↔ (370 ≤ t.val ∧ t.val % 2 = 0 ∧ t.val % 10 < 8) := by decide +kernel

/-- Every point is of one of six kinds, told by the branches that run there. -/
theorem kinds (t : Fin grid0.N) :
    (cond0 (grid0.coords t) ∧ ¬cond1 (grid0.coords t) ∧ cond2 (grid0.coords t) ∧ ¬cond3 (grid0.coords t) ∧ ¬cond4 (grid0.coords t))
    ∨ (¬cond0 (grid0.coords t) ∧ ¬cond1 (grid0.coords t) ∧ cond2 (grid0.coords t) ∧ ¬cond3 (grid0.coords t) ∧ ¬cond4 (grid0.coords t))
    ∨ (¬cond0 (grid0.coords t) ∧ ¬cond1 (grid0.coords t) ∧ ¬cond2 (grid0.coords t) ∧ cond3 (grid0.coords t) ∧ ¬cond4 (grid0.coords t))
    ∨ (¬cond0 (grid0.coords t) ∧ cond1 (grid0.coords t) ∧ ¬cond2 (grid0.coords t) ∧ ¬cond3 (grid0.coords t) ∧ ¬cond4 (grid0.coords t))
    ∨ (¬cond0 (grid0.coords t) ∧ ¬cond1 (grid0.coords t) ∧ ¬cond2 (grid0.coords t) ∧ ¬cond3 (grid0.coords t) ∧ cond4 (grid0.coords t))
    ∨ (¬cond0 (grid0.coords t) ∧ ¬cond1 (grid0.coords t) ∧ ¬cond2 (grid0.coords t) ∧ ¬cond3 (grid0.coords t) ∧ ¬cond4 (grid0.coords t)) := by
  have hN : t.val < 380 := t.isLt
  simp only [cond0_iff, cond1_iff, cond2_iff, cond3_iff, cond4_iff]
  omega

end Cert.KernelIdeal.Body
-- ==== Proof.IdealRun.lean ====
/- The body's run at a point of any kind, as far as a frame needs it: the eleven input blocks come back as they were, and every
   other buffer the body may store into is there again afterwards. -/
module

public import proofs.«01_k».proof.Proof.IdealCases

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg2 : Memref sig .tc .vmem S1536x512 .bf16) (harg2 : arg2.IsWhole)
  (arg3 : Memref sig .tc .vmem S1536x3584 .bf16) (harg3 : arg3.IsWhole)
  (arg4 : Memref sig .tc .vmem S512x1792 .i8) (harg4 : arg4.IsWhole)
  (arg5 : Memref sig .tc .vmem S14x512 .f32) (harg5 : arg5.IsWhole)
  (arg6 : Memref sig .tc .vmem S128x512 .i8) (harg6 : arg6.IsWhole)
  (arg7 : Memref sig .tc .vmem S4x128 .f32) (harg7 : arg7.IsWhole)
  (arg8 : Memref sig .tc .vmem S128x512 .i8) (harg8 : arg8.IsWhole)
  (arg9 : Memref sig .tc .vmem S4x128 .f32) (harg9 : arg9.IsWhole)
  (arg10 : Memref sig .tc .vmem S128x3584 .i8) (harg10 : arg10.IsWhole)
  (arg11 : Memref sig .tc .vmem S1x1x128 .f32) (harg11 : arg11.IsWhole)
  (arg12 : Memref sig .tc .vmem S128x3584 .i8) (harg12 : arg12.IsWhole)
  (arg13 : Memref sig .tc .vmem S128x3584 .i8) (harg13 : arg13.IsWhole)
  (arg14 : Memref sig .tc .vmem S1x1x128 .f32) (harg14 : arg14.IsWhole)
  (arg15 : Memref sig .tc .vmem S128x3584 .f32) (harg15 : arg15.IsWhole)
  (arg16 : Memref sig .tc .vmem S128x512 .f32) (harg16 : arg16.IsWhole)
  (arg17 : Memref sig .tc .vmem S128x512 .i8) (harg17 : arg17.IsWhole)
  (arg18 : Memref sig .tc .vmem S4x128 .f32) (harg18 : arg18.IsWhole)
  (arg19 : Memref sig .tc .vmem S128x512 .i8) (harg19 : arg19.IsWhole)
  (arg20 : Memref sig .tc .vmem S4x128 .f32) (harg20 : arg20.IsWhole)
  (arg21 : Memref sig .tc .vmem S512x3584 .f32) (harg21 : arg21.IsWhole)
  (arg22 : Memref sig .tc .vmem S512x3584 .bf16) (harg22 : arg22.IsWhole)
  (arg23 : Memref sig .tc .vmem S512x3584 .bf16) (harg23 : arg23.IsWhole)
  (arg24 : Memref sig .tc .vmem S3584x512 .bf16) (harg24 : arg24.IsWhole)
  (arg25 : Memref sig .tc .vmem S512x1536 .bf16) (harg25 : arg25.IsWhole)

/-- The eleven input blocks at given contents. -/
def ins (c : Dev nD) (arg2 : Memref sig .tc .vmem S1536x512 .bf16) (arg3 : Memref sig .tc .vmem S1536x3584 .bf16) (arg4 : Memref sig .tc .vmem S512x1792 .i8) (arg5 : Memref sig .tc .vmem S14x512 .f32) (arg6 : Memref sig .tc .vmem S128x512 .i8) (arg7 : Memref sig .tc .vmem S4x128 .f32) (arg8 : Memref sig .tc .vmem S128x512 .i8) (arg9 : Memref sig .tc .vmem S4x128 .f32) (arg10 : Memref sig .tc .vmem S128x3584 .i8) (arg11 : Memref sig .tc .vmem S1x1x128 .f32) (arg12 : Memref sig .tc .vmem S128x3584 .i8) (x0 : Vec F S1536x512 .bf16) (x1 : Vec F S1536x3584 .bf16) (x2 : Vec F S512x1792 .i8) (x3 : Vec F S14x512 .f32) (x4 : Vec F S128x512 .i8) (x5 : Vec F S4x128 .f32) (x6 : Vec F S128x512 .i8) (x7 : Vec F S4x128 .f32) (x8 : Vec F S128x3584 .i8) (x9 : Vec F S1x1x128 .f32) (x10 : Vec F S128x3584 .i8) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10)

/-- The eight output blocks and the five scratch buffers, at any contents. -/
def rest (c : Dev nD) (arg13 : Memref sig .tc .vmem S128x3584 .i8) (arg14 : Memref sig .tc .vmem S1x1x128 .f32) (arg15 : Memref sig .tc .vmem S128x3584 .f32) (arg16 : Memref sig .tc .vmem S128x512 .f32) (arg17 : Memref sig .tc .vmem S128x512 .i8) (arg18 : Memref sig .tc .vmem S4x128 .f32) (arg19 : Memref sig .tc .vmem S128x512 .i8) (arg20 : Memref sig .tc .vmem S4x128 .f32) (arg21 : Memref sig .tc .vmem S512x3584 .f32) (arg22 : Memref sig .tc .vmem S512x3584 .bf16) (arg23 : Memref sig .tc .vmem S512x3584 .bf16) (arg24 : Memref sig .tc .vmem S3584x512 .bf16) (arg25 : Memref sig .tc .vmem S512x1536 .bf16) : sProp 𝕄 :=
  iprop((∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d))

include harg2 harg3 harg4 harg5 harg6 harg7 harg8 harg9 harg10 harg11 harg12 harg13 harg14 harg15 harg16 harg17 harg18 harg19 harg20 harg21 harg22 harg23 harg24 harg25 in
set_option maxHeartbeats 4000000 in
/-- At every kind of point the body runs, gives its input blocks back unchanged and its other buffers at some contents. -/
theorem run (c : Dev nD) (i : grid0.Coords) (hi : (cond0 i ∧ ¬cond1 i ∧ cond2 i ∧ ¬cond3 i ∧ ¬cond4 i) ∨ (¬cond0 i ∧ ¬cond1 i ∧ cond2 i ∧ ¬cond3 i ∧ ¬cond4 i) ∨ (¬cond0 i ∧ ¬cond1 i ∧ ¬cond2 i ∧ cond3 i ∧ ¬cond4 i) ∨ (¬cond0 i ∧ cond1 i ∧ ¬cond2 i ∧ ¬cond3 i ∧ ¬cond4 i) ∨ (¬cond0 i ∧ ¬cond1 i ∧ ¬cond2 i ∧ ¬cond3 i ∧ cond4 i) ∨ (¬cond0 i ∧ ¬cond1 i ∧ ¬cond2 i ∧ ¬cond3 i ∧ ¬cond4 i))
    (x0 : Vec F S1536x512 .bf16) (x1 : Vec F S1536x3584 .bf16) (x2 : Vec F S512x1792 .i8) (x3 : Vec F S14x512 .f32) (x4 : Vec F S128x512 .i8) (x5 : Vec F S4x128 .f32) (x6 : Vec F S128x512 .i8) (x7 : Vec F S4x128 .f32) (x8 : Vec F S128x3584 .i8) (x9 : Vec F S1x1x128 .f32) (x10 : Vec F S128x3584 .i8) (E : Set ℕ) (K : PUnit → sProp 𝕄) :
    iprop(ins c arg2 arg3 arg4 arg5 arg6 arg7 arg8 arg9 arg10 arg11 arg12 x0 x1 x2 x3 x4 x5 x6 x7 x8 x9 x10 ∗ rest c arg13 arg14 arg15 arg16 arg17 arg18 arg19 arg20 arg21 arg22 arg23 arg24 arg25 ∗ (iprop(ins c arg2 arg3 arg4 arg5 arg6 arg7 arg8 arg9 arg10 arg11 arg12 x0 x1 x2 x3 x4 x5 x6 x7 x8 x9 x10 ∗ rest c arg13 arg14 arg15 arg16 arg17 arg18 arg19 arg20 arg21 arg22 arg23 arg24 arg25) -∗ K ⟨⟩))
      ⊢ wp frame (wpE (defs₀ (F := F)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_qgalore_eq_skeleton]; unfold cc0_qgalore_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold ins rest owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  rcases hi with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  all_goals
    sl_exec (disch := first | sl_exact hc0 | sl_exact hc1 | sl_exact hc2 | sl_exact hc3 | sl_exact hc4)
    sl_step
    iapply Hk
    isplitl [H0 H1 H2 H3 H4 H5 H6 H7 H8 H9 H10]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      iexists _; isplitr; · ipureintro; exact harg12.read_unread _
      iexact H10
    · isplitl [H11]; · iexists _; iexists _; isplitr; swap; iexact H11; ipureintro; rfl
      isplitl [H12]; · iexists _; iexists _; isplitr; swap; iexact H12; ipureintro; rfl
      isplitl [H13]; · iexists _; iexists _; isplitr; swap; iexact H13; ipureintro; rfl
      isplitl [H14]; · iexists _; iexists _; isplitr; swap; iexact H14; ipureintro; rfl
      isplitl [H15]; · iexists _; iexists _; isplitr; swap; iexact H15; ipureintro; rfl
      isplitl [H16]; · iexists _; iexists _; isplitr; swap; iexact H16; ipureintro; rfl
      isplitl [H17]; · iexists _; iexists _; isplitr; swap; iexact H17; ipureintro; rfl
      isplitl [H18]; · iexists _; iexists _; isplitr; swap; iexact H18; ipureintro; rfl
      isplitl [H19]; · iexists _; iexists _; isplitr; swap; iexact H19; ipureintro; rfl
      isplitl [H20]; · iexists _; iexists _; isplitr; swap; iexact H20; ipureintro; rfl
      isplitl [H21]; · iexists _; iexists _; isplitr; swap; iexact H21; ipureintro; rfl
      isplitl [H22]; · iexists _; iexists _; isplitr; swap; iexact H22; ipureintro; rfl
      iexists _; iexists _; isplitr; swap; iexact H23; ipureintro; rfl

end Cert.KernelIdeal.Body
-- ==== Proof.IdealFrame.lean ====
/- The frame of the program: every execution ends, with every argument array as it was and every counter at zero. Nothing is named of what
   the body leaves in its output windows or its scratch buffers. -/
module

public import proofs.«01_k».proof.Proof.IdealRun
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v7, main_v8, main_v9}
/-- The lines after the kernel write none of the arrays that the kernel works on. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      ((h c).2 main_arg7 (Finset.mem_sdiff.mpr ⟨Pipeline.mem_restRefs_of main_arg7 (by decide) (by decide), by decide⟩)).trans (V_main_arg7 m c),
      (Pipeline.RDat.FramePostR.arr_in h c 8 rfl).trans ((hA c 8).trans (V_main_arg8 m c)),
      ((h c).2 main_arg9 (Finset.mem_sdiff.mpr ⟨Pipeline.mem_restRefs_of main_arg9 (by decide) (by decide), by decide⟩)).trans (V_main_arg9 m c),
      (Pipeline.RDat.FramePostR.arr_in h c 10 rfl).trans ((hA c 10).trans (V_main_arg10 m c))⟩) h

/-- An input window is live at every point. -/
theorem live (w : Fin 19) (hw : w.val < 11) (t : Fin cfg0.N) : cfg0.idle w (grid0.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, _ => rfl
  | ⟨10, _⟩, _ => rfl
  | ⟨n + 11, _⟩, hw => exact absurd hw (Nat.not_lt.2 (Nat.le_add_left _ _))

/-- The staging buffer of window 0 at point `t`. -/
abbrev ms0_0 (t : Fin cfg0.N) : Memref sig .tc .vmem S1536x512 .bf16 := win0_0.stage (cfg0.slots t 0)
/-- It is a whole buffer. -/
abbrev hs0_0 (t : Fin cfg0.N) : (ms0_0 t).IsWhole := hstage0_0 ((cfg0.slots t 0).cast nbuf0_0)
/-- The staging buffer of window 1 at point `t`. -/
abbrev ms0_1 (t : Fin cfg0.N) : Memref sig .tc .vmem S1536x3584 .bf16 := win0_1.stage (cfg0.slots t 1)
/-- It is a whole buffer. -/
abbrev hs0_1 (t : Fin cfg0.N) : (ms0_1 t).IsWhole := hstage0_1 ((cfg0.slots t 1).cast nbuf0_1)
/-- The staging buffer of window 2 at point `t`. -/
abbrev ms0_2 (t : Fin cfg0.N) : Memref sig .tc .vmem S512x1792 .i8 := win0_2.stage (cfg0.slots t 2)
/-- It is a whole buffer. -/
abbrev hs0_2 (t : Fin cfg0.N) : (ms0_2 t).IsWhole := hstage0_2 ((cfg0.slots t 2).cast nbuf0_2)
/-- The staging buffer of window 3 at point `t`. -/
abbrev ms0_3 (t : Fin cfg0.N) : Memref sig .tc .vmem S14x512 .f32 := win0_3.stage (cfg0.slots t 3)
/-- It is a whole buffer. -/
abbrev hs0_3 (t : Fin cfg0.N) : (ms0_3 t).IsWhole := hstage0_3 ((cfg0.slots t 3).cast nbuf0_3)
/-- The staging buffer of window 4 at point `t`. -/
abbrev ms0_4 (t : Fin cfg0.N) : Memref sig .tc .vmem S128x512 .i8 := win0_4.stage (cfg0.slots t 4)
/-- It is a whole buffer. -/
abbrev hs0_4 (t : Fin cfg0.N) : (ms0_4 t).IsWhole := hstage0_4 ((cfg0.slots t 4).cast nbuf0_4)
/-- The staging buffer of window 5 at point `t`. -/
abbrev ms0_5 (t : Fin cfg0.N) : Memref sig .tc .vmem S4x128 .f32 := win0_5.stage (cfg0.slots t 5)
/-- It is a whole buffer. -/
abbrev hs0_5 (t : Fin cfg0.N) : (ms0_5 t).IsWhole := hstage0_5 ((cfg0.slots t 5).cast nbuf0_5)
/-- The staging buffer of window 6 at point `t`. -/
abbrev ms0_6 (t : Fin cfg0.N) : Memref sig .tc .vmem S128x512 .i8 := win0_6.stage (cfg0.slots t 6)
/-- It is a whole buffer. -/
abbrev hs0_6 (t : Fin cfg0.N) : (ms0_6 t).IsWhole := hstage0_6 ((cfg0.slots t 6).cast nbuf0_6)
/-- The staging buffer of window 7 at point `t`. -/
abbrev ms0_7 (t : Fin cfg0.N) : Memref sig .tc .vmem S4x128 .f32 := win0_7.stage (cfg0.slots t 7)
/-- It is a whole buffer. -/
abbrev hs0_7 (t : Fin cfg0.N) : (ms0_7 t).IsWhole := hstage0_7 ((cfg0.slots t 7).cast nbuf0_7)
/-- The staging buffer of window 8 at point `t`. -/
abbrev ms0_8 (t : Fin cfg0.N) : Memref sig .tc .vmem S128x3584 .i8 := win0_8.stage (cfg0.slots t 8)
/-- It is a whole buffer. -/
abbrev hs0_8 (t : Fin cfg0.N) : (ms0_8 t).IsWhole := hstage0_8 ((cfg0.slots t 8).cast nbuf0_8)
/-- The staging buffer of window 9 at point `t`. -/
abbrev ms0_9 (t : Fin cfg0.N) : Memref sig .tc .vmem S1x1x128 .f32 := win0_9.stage (cfg0.slots t 9)
/-- It is a whole buffer. -/
abbrev hs0_9 (t : Fin cfg0.N) : (ms0_9 t).IsWhole := hstage0_9 ((cfg0.slots t 9).cast nbuf0_9)
/-- The staging buffer of window 10 at point `t`. -/
abbrev ms0_10 (t : Fin cfg0.N) : Memref sig .tc .vmem S128x3584 .i8 := win0_10.stage (cfg0.slots t 10)
/-- It is a whole buffer. -/
abbrev hs0_10 (t : Fin cfg0.N) : (ms0_10 t).IsWhole := hstage0_10 ((cfg0.slots t 10).cast nbuf0_10)
/-- The staging buffer of window 11 at point `t`. -/
abbrev ms0_11 (t : Fin cfg0.N) : Memref sig .tc .vmem S128x3584 .i8 := win0_11.stage (cfg0.slots t 11)
/-- It is a whole buffer. -/
abbrev hs0_11 (t : Fin cfg0.N) : (ms0_11 t).IsWhole := hstage0_11 ((cfg0.slots t 11).cast nbuf0_11)
/-- The staging buffer of window 12 at point `t`. -/
abbrev ms0_12 (t : Fin cfg0.N) : Memref sig .tc .vmem S1x1x128 .f32 := win0_12.stage (cfg0.slots t 12)
/-- It is a whole buffer. -/
abbrev hs0_12 (t : Fin cfg0.N) : (ms0_12 t).IsWhole := hstage0_12 ((cfg0.slots t 12).cast nbuf0_12)
/-- The staging buffer of window 13 at point `t`. -/
abbrev ms0_13 (t : Fin cfg0.N) : Memref sig .tc .vmem S128x3584 .f32 := win0_13.stage (cfg0.slots t 13)
/-- It is a whole buffer. -/
abbrev hs0_13 (t : Fin cfg0.N) : (ms0_13 t).IsWhole := hstage0_13 ((cfg0.slots t 13).cast nbuf0_13)
/-- The staging buffer of window 14 at point `t`. -/
abbrev ms0_14 (t : Fin cfg0.N) : Memref sig .tc .vmem S128x512 .f32 := win0_14.stage (cfg0.slots t 14)
/-- It is a whole buffer. -/
abbrev hs0_14 (t : Fin cfg0.N) : (ms0_14 t).IsWhole := hstage0_14 ((cfg0.slots t 14).cast nbuf0_14)
/-- The staging buffer of window 15 at point `t`. -/
abbrev ms0_15 (t : Fin cfg0.N) : Memref sig .tc .vmem S128x512 .i8 := win0_15.stage (cfg0.slots t 15)
/-- It is a whole buffer. -/
abbrev hs0_15 (t : Fin cfg0.N) : (ms0_15 t).IsWhole := hstage0_15 ((cfg0.slots t 15).cast nbuf0_15)
/-- The staging buffer of window 16 at point `t`. -/
abbrev ms0_16 (t : Fin cfg0.N) : Memref sig .tc .vmem S4x128 .f32 := win0_16.stage (cfg0.slots t 16)
/-- It is a whole buffer. -/
abbrev hs0_16 (t : Fin cfg0.N) : (ms0_16 t).IsWhole := hstage0_16 ((cfg0.slots t 16).cast nbuf0_16)
/-- The staging buffer of window 17 at point `t`. -/
abbrev ms0_17 (t : Fin cfg0.N) : Memref sig .tc .vmem S128x512 .i8 := win0_17.stage (cfg0.slots t 17)
/-- It is a whole buffer. -/
abbrev hs0_17 (t : Fin cfg0.N) : (ms0_17 t).IsWhole := hstage0_17 ((cfg0.slots t 17).cast nbuf0_17)
/-- The staging buffer of window 18 at point `t`. -/
abbrev ms0_18 (t : Fin cfg0.N) : Memref sig .tc .vmem S4x128 .f32 := win0_18.stage (cfg0.slots t 18)
/-- It is a whole buffer. -/
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S512x3584 .f32 := Memref.whole cc0_scratch0
/-- A scratch buffer, whole. -/
abbrev scM0_1 : Memref sig .tc .vmem S512x3584 .bf16 := Memref.whole cc0_scratch1
/-- A scratch buffer, whole. -/
abbrev scM0_2 : Memref sig .tc .vmem S512x3584 .bf16 := Memref.whole cc0_scratch2
/-- A scratch buffer, whole. -/
abbrev scM0_3 : Memref sig .tc .vmem S3584x512 .bf16 := Memref.whole cc0_scratch3
/-- A scratch buffer, whole. -/
abbrev scM0_4 : Memref sig .tc .vmem S512x1536 .bf16 := Memref.whole cc0_scratch4
/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The output windows this certificate FORGETS (11, 12, 13, 14, 15, 16, 17, 18): nothing reads what the kernel leaves in them, so nothing
    of it is named (Lib/Pipeline/Dat.lean `Dat.toRForget`). -/
def forgets0 : Fin 19 → Bool := fun w => w.val == 11 || w.val == 12 || w.val == 13 || w.val == 14 || w.val == 15 || w.val == 16 || w.val == 17 || w.val == 18

/-- The proof data: after the body at a point each input window holds its block, an output window anything; between points the scratch
    buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves this input block as it found it. -/
theorem after0_1 (c : Dev nD) (t : Fin cfg0.N) : (dats m 0 c).after 1 t = iblk m c 1 t := by dsimp only [dats]
/-- The body leaves this input block as it found it. -/
theorem after0_2 (c : Dev nD) (t : Fin cfg0.N) : (dats m 0 c).after 2 t = iblk m c 2 t := by dsimp only [dats]
/-- The body leaves this input block as it found it. -/
theorem after0_3 (c : Dev nD) (t : Fin cfg0.N) : (dats m 0 c).after 3 t = iblk m c 3 t := by dsimp only [dats]
/-- The body leaves this input block as it found it. -/
theorem after0_4 (c : Dev nD) (t : Fin cfg0.N) : (dats m 0 c).after 4 t = iblk m c 4 t := by dsimp only [dats]
/-- The body leaves this input block as it found it. -/
theorem after0_5 (c : Dev nD) (t : Fin cfg0.N) : (dats m 0 c).after 5 t = iblk m c 5 t := by dsimp only [dats]
/-- The body leaves this input block as it found it. -/
theorem after0_6 (c : Dev nD) (t : Fin cfg0.N) : (dats m 0 c).after 6 t = iblk m c 6 t := by dsimp only [dats]
/-- The body leaves this input block as it found it. -/
theorem after0_7 (c : Dev nD) (t : Fin cfg0.N) : (dats m 0 c).after 7 t = iblk m c 7 t := by dsimp only [dats]
/-- The body leaves this input block as it found it. -/
theorem after0_8 (c : Dev nD) (t : Fin cfg0.N) : (dats m 0 c).after 8 t = iblk m c 8 t := by dsimp only [dats]
/-- The body leaves this input block as it found it. -/
theorem after0_9 (c : Dev nD) (t : Fin cfg0.N) : (dats m 0 c).after 9 t = iblk m c 9 t := by dsimp only [dats]
/-- The body leaves this input block as it found it. -/
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The body finds in this input block the part of the array that the step reads. -/
theorem before0_1 (c : Dev nD) (t : Fin cfg0.N) (d) : (dats m 0 c).before 1 t d = iblk m c 1 t :=
  before0_1_of m (dats m 0 c) (A_eq m c 1) (after0_1 m c) t d
/-- The body finds in this input block the part of the array that the step reads. -/
theorem before0_2 (c : Dev nD) (t : Fin cfg0.N) (d) : (dats m 0 c).before 2 t d = iblk m c 2 t :=
  before0_2_of m (dats m 0 c) (A_eq m c 2) (after0_2 m c) t d
/-- The body finds in this input block the part of the array that the step reads. -/
theorem before0_3 (c : Dev nD) (t : Fin cfg0.N) (d) : (dats m 0 c).before 3 t d = iblk m c 3 t :=
  before0_3_of m (dats m 0 c) (A_eq m c 3) (after0_3 m c) t d
/-- The body finds in this input block the part of the array that the step reads. -/
theorem before0_4 (c : Dev nD) (t : Fin cfg0.N) (d) : (dats m 0 c).before 4 t d = iblk m c 4 t :=
  before0_4_of m (dats m 0 c) (A_eq m c 4) (after0_4 m c) t d
/-- The body finds in this input block the part of the array that the step reads. -/
theorem before0_5 (c : Dev nD) (t : Fin cfg0.N) (d) : (dats m 0 c).before 5 t d = iblk m c 5 t :=
  before0_5_of m (dats m 0 c) (A_eq m c 5) (after0_5 m c) t d
/-- The body finds in this input block the part of the array that the step reads. -/
theorem before0_6 (c : Dev nD) (t : Fin cfg0.N) (d) : (dats m 0 c).before 6 t d = iblk m c 6 t :=
  before0_6_of m (dats m 0 c) (A_eq m c 6) (after0_6 m c) t d
/-- The body finds in this input block the part of the array that the step reads. -/
theorem before0_7 (c : Dev nD) (t : Fin cfg0.N) (d) : (dats m 0 c).before 7 t d = iblk m c 7 t :=
  before0_7_of m (dats m 0 c) (A_eq m c 7) (after0_7 m c) t d
/-- The body finds in this input block the part of the array that the step reads. -/
theorem before0_8 (c : Dev nD) (t : Fin cfg0.N) (d) : (dats m 0 c).before 8 t d = iblk m c 8 t :=
  before0_8_of m (dats m 0 c) (A_eq m c 8) (after0_8 m c) t d
/-- The body finds in this input block the part of the array that the step reads. -/
theorem before0_9 (c : Dev nD) (t : Fin cfg0.N) (d) : (dats m 0 c).before 9 t d = iblk m c 9 t :=
  before0_9_of m (dats m 0 c) (A_eq m c 9) (after0_9 m c) t d
/-- The body finds in this input block the part of the array that the step reads. -/
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 4000000 in
/-- The body at any point: the run, handed the staging buffers and the scratch buffers and giving them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [live 0 (by decide) t], after0_0]
  rw [show (dats m 0 c).leavesExact 1 t = owns (c : Thread nD τ) (ms0_1 t) fullShare ((dats m 0 c).after 1 t) from by
    unfold Dat.leavesExact; rw [live 1 (by decide) t], after0_1]
  rw [show (dats m 0 c).leavesExact 2 t = owns (c : Thread nD τ) (ms0_2 t) fullShare ((dats m 0 c).after 2 t) from by
    unfold Dat.leavesExact; rw [live 2 (by decide) t], after0_2]
  rw [show (dats m 0 c).leavesExact 3 t = owns (c : Thread nD τ) (ms0_3 t) fullShare ((dats m 0 c).after 3 t) from by
    unfold Dat.leavesExact; rw [live 3 (by decide) t], after0_3]
  rw [show (dats m 0 c).leavesExact 4 t = owns (c : Thread nD τ) (ms0_4 t) fullShare ((dats m 0 c).after 4 t) from by
    unfold Dat.leavesExact; rw [live 4 (by decide) t], after0_4]
  rw [show (dats m 0 c).leavesExact 5 t = owns (c : Thread nD τ) (ms0_5 t) fullShare ((dats m 0 c).after 5 t) from by
    unfold Dat.leavesExact; rw [live 5 (by decide) t], after0_5]
  rw [show (dats m 0 c).leavesExact 6 t = owns (c : Thread nD τ) (ms0_6 t) fullShare ((dats m 0 c).after 6 t) from by
    unfold Dat.leavesExact; rw [live 6 (by decide) t], after0_6]
  rw [show (dats m 0 c).leavesExact 7 t = owns (c : Thread nD τ) (ms0_7 t) fullShare ((dats m 0 c).after 7 t) from by
    unfold Dat.leavesExact; rw [live 7 (by decide) t], after0_7]
  rw [show (dats m 0 c).leavesExact 8 t = owns (c : Thread nD τ) (ms0_8 t) fullShare ((dats m 0 c).after 8 t) from by
    unfold Dat.leavesExact; rw [live 8 (by decide) t], after0_8]
  rw [show (dats m 0 c).leavesExact 9 t = owns (c : Thread nD τ) (ms0_9 t) fullShare ((dats m 0 c).after 9 t) from by
    unfold Dat.leavesExact; rw [live 9 (by decide) t], after0_9]
  rw [show (dats m 0 c).leavesExact 10 t = owns (c : Thread nD τ) (ms0_10 t) fullShare ((dats m 0 c).after 10 t) from by
    unfold Dat.leavesExact; rw [live 10 (by decide) t], after0_10]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18⟩
  iapply (run _ _ _ _ _ _ _ _ _ _ _ _ _ _ _ _ _ _ _ _ _ _ _ _ _ _ _ _ _ _ _ _ _ _ _ _ _ _ _ _ _ _ _ _ _ _ _ _ c (grid0.coords t) (kinds t) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  unfold ins rest
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14 H15 H16 H17 H18 HS0 HS1 HS2 HS3 HS4]
  · isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    iexact HS4
  iintro ⟨⟨H0, H1, H2, H3, H4, H5, H6, H7, H8, H9, H10⟩, H11, H12, H13, H14, H15, H16, H17, H18, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := Idealize.SL.BI.Entails.refl _

/-- The invariant after the last point is what the region hands back. -/
theorem hout (c : Dev nD) : (dats m 0 c).Φ (Fin.last cfg0.N) ⊢ Pipeline.ΦA spec0 c := Idealize.SL.BI.Entails.refl _

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 11, 12, 13, 14, 15, 16, 17, 18) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The frame: every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ _ (A_eq m) (run_main m ρ))
    ((θ_run defs _ _).mono (fun _ h => h.2) (run_main_quiescent m ρ))

end Cert.KernelIdeal.Body
-- ==== Proof.RefFacts.lean ====
/- The side conditions of the reference program (its shapes fit together). -/
module

public import proofs.«01_k».proof.Defs
public import Idealize.ShloMosaic.Lib.Claim

@[expose] public section

set_option maxRecDepth 16384

namespace Cert.ReferenceIdeal.Hand

open Idealize.ShloMosaic Cert.ReferenceIdeal

/-- Every side condition of the reference holds. -/
theorem facts : Cert.ReferenceIdeal.Facts where
  bitsLt_bf16_f32 := by decide
  bcast_S512x14_S512x14x256_0_1 := by decide
  shapeCasts_S512x14x256_S512x3584 := by decide
  natLt_8_32 := by decide
  bcast_S_S512x1792 := by decide
  bcast_S512x1792_S512x1792x1_0_1 := by decide
  concatenates_S512x1792x1_S512x1792x1_S512x1792x2_d2 := by decide
  shapeCasts_S512x1792x2_S512x3584 := by decide
  bcast_S18944x4_S18944x4x128_0_1 := by decide
  shapeCasts_S18944x4x128_S18944x512 := by decide
  bcast_S_S18944x512 := by decide
  shapeCasts_S18944x512_S18944x4x128 := by decide
  reducesTo_S18944x4x128_S18944x4_d2 := by decide
  h_S_ := by decide
  bcast_S_S18944x4 := by decide
  bcast_S18944x4_S18944x4x1_0_1 := by decide
  bcast_S18944x4x1_S18944x4x128_0_1_2 := by decide
  bcast_S_S18944x4x128 := by decide
  bcast_S_S18944x3584 := by decide
  bcast_S18944_S18944x1_0 := by decide
  bcast_S18944x1_S18944x3584_0_1 := by decide
  reducesTo_S18944x3584_S18944_d1 := by decide
  bcast_S_S18944 := by decide
  dot_S5x3072x18944_S5x3072x3584_S18944x3584_01_01_2_2_n_n_wf := by decide
  dot_S18944x3584_S512x3584_S18944x512_1_1_0_0_n_n_wf := by decide
  dot_S18944x512_S512x3584_S18944x3584_1_0_0_1_n_n_wf := by decide

instance : Cert.ReferenceIdeal.Facts := facts

end Cert.ReferenceIdeal.Hand
-- ==== Proof.RefRun.lean ====
/- The reference as a list of host operations, in eight stretches, and its run. -/
module

public import proofs.«01_k».proof.Proof.RefFacts

@[expose] public section

set_option maxRecDepth 16384

noncomputable section

namespace Cert.ReferenceIdeal.Hand

open Idealize.ShloMosaic Idealize.ShloMosaic.TcCoe Idealize.SL.Sem Cert.ReferenceIdeal
open Cert.ReferenceIdeal.Facts₀ Cert.ReferenceIdeal.Facts

variable {F : FTy → Type} [FloatOps F]

/-- The operations that compute the gradient. -/
def opsGrad : List (HloOp τ sig (Elt F)) :=
  [StableHlo.binary main_arg1 main_arg0 main_v0 ((fun l r => Host.dotGeneral dot_S5x3072x18944_S5x3072x3584_S18944x3584_01_01_2_2_n_n none l r) : (⟨S5x3072x18944, .bf16⟩ : BufTy).Contents (Elt F) → (⟨S5x3072x3584, .bf16⟩ : BufTy).Contents (Elt F) → (⟨S18944x3584, .f32⟩ : BufTy).Contents (Elt F)),
   StableHlo.unary main_v0 main_v1 ((truncf .bf16 · bitsLt_bf16_f32) : (⟨S18944x3584, .f32⟩ : BufTy).Contents (Elt F) → (⟨S18944x3584, .bf16⟩ : BufTy).Contents (Elt F))]

/-- The operations that compute the decoded projector. -/
def opsProj : List (HloOp τ sig (Elt F)) :=
  [StableHlo.unary main_arg3 main_v2 (broadcastInDim S512x14x256 ![0, 1] bcast_S512x14_S512x14x256_0_1 : (⟨S512x14, .f32⟩ : BufTy).Contents (Elt F) → (⟨S512x14x256, .f32⟩ : BufTy).Contents (Elt F)),
   StableHlo.reshape main_v2 main_v3 (rfl : (.f32 : EltTy) = .f32) shapeCasts_S512x14x256_S512x3584,
   StableHlo.unary main_v3 main_v4 ((truncf .bf16 · bitsLt_bf16_f32) : (⟨S512x3584, .f32⟩ : BufTy).Contents (Elt F) → (⟨S512x3584, .bf16⟩ : BufTy).Contents (Elt F)),
   StableHlo.unary main_arg2 main_v5 ((extui 32 · natLt_8_32) : (⟨S512x1792, .i8⟩ : BufTy).Contents (Elt F) → (⟨S512x1792, .i32⟩ : BufTy).Contents (Elt F)),
   StableHlo.nullary main_c (constantI S_ 32 15#32),
   StableHlo.unary main_c main_v6 (broadcastInDim S512x1792 ![] bcast_S_S512x1792 : (⟨S_, .i32⟩ : BufTy).Contents (Elt F) → (⟨S512x1792, .i32⟩ : BufTy).Contents (Elt F)),
   StableHlo.binary main_v5 main_v6 main_v7 (andi : (⟨S512x1792, .i32⟩ : BufTy).Contents (Elt F) → (⟨S512x1792, .i32⟩ : BufTy).Contents (Elt F) → (⟨S512x1792, .i32⟩ : BufTy).Contents (Elt F)),
   StableHlo.nullary main_c_0 (constantI S_ 32 8#32),
   StableHlo.unary main_c_0 main_v8 (broadcastInDim S512x1792 ![] bcast_S_S512x1792 : (⟨S_, .i32⟩ : BufTy).Contents (Elt F) → (⟨S512x1792, .i32⟩ : BufTy).Contents (Elt F)),
   StableHlo.binary main_v7 main_v8 main_v9 (cmpi .sge : (⟨S512x1792, .i32⟩ : BufTy).Contents (Elt F) → (⟨S512x1792, .i32⟩ : BufTy).Contents (Elt F) → (⟨S512x1792, .i1⟩ : BufTy).Contents (Elt F)),
   StableHlo.nullary main_c_1 (constantI S_ 32 16#32),
   StableHlo.unary main_c_1 main_v10 (broadcastInDim S512x1792 ![] bcast_S_S512x1792 : (⟨S_, .i32⟩ : BufTy).Contents (Elt F) → (⟨S512x1792, .i32⟩ : BufTy).Contents (Elt F)),
   StableHlo.binary main_v7 main_v10 main_v11 (subi : (⟨S512x1792, .i32⟩ : BufTy).Contents (Elt F) → (⟨S512x1792, .i32⟩ : BufTy).Contents (Elt F) → (⟨S512x1792, .i32⟩ : BufTy).Contents (Elt F)),
   StableHlo.TRef.ternary (.of main_v9) (.of main_v11) (.of main_v7) (.of main_v12) select,
   StableHlo.unary main_arg2 main_v13 ((extui 32 · natLt_8_32) : (⟨S512x1792, .i8⟩ : BufTy).Contents (Elt F) → (⟨S512x1792, .i32⟩ : BufTy).Contents (Elt F)),
   StableHlo.nullary main_c_2 (constantI S_ 32 4#32),
   StableHlo.unary main_c_2 main_v14 (broadcastInDim S512x1792 ![] bcast_S_S512x1792 : (⟨S_, .i32⟩ : BufTy).Contents (Elt F) → (⟨S512x1792, .i32⟩ : BufTy).Contents (Elt F)),
   StableHlo.binary main_v13 main_v14 main_v15 (Host.shrsi : (⟨S512x1792, .i32⟩ : BufTy).Contents (Elt F) → (⟨S512x1792, .i32⟩ : BufTy).Contents (Elt F) → (⟨S512x1792, .i32⟩ : BufTy).Contents (Elt F)),
   StableHlo.nullary main_c_3 (constantI S_ 32 8#32),
   StableHlo.unary main_c_3 main_v16 (broadcastInDim S512x1792 ![] bcast_S_S512x1792 : (⟨S_, .i32⟩ : BufTy).Contents (Elt F) → (⟨S512x1792, .i32⟩ : BufTy).Contents (Elt F)),
   StableHlo.binary main_v15 main_v16 main_v17 (cmpi .sge : (⟨S512x1792, .i32⟩ : BufTy).Contents (Elt F) → (⟨S512x1792, .i32⟩ : BufTy).Contents (Elt F) → (⟨S512x1792, .i1⟩ : BufTy).Contents (Elt F)),
   StableHlo.nullary main_c_4 (constantI S_ 32 16#32),
   StableHlo.unary main_c_4 main_v18 (broadcastInDim S512x1792 ![] bcast_S_S512x1792 : (⟨S_, .i32⟩ : BufTy).Contents (Elt F) → (⟨S512x1792, .i32⟩ : BufTy).Contents (Elt F)),
   StableHlo.binary main_v15 main_v18 main_v19 (subi : (⟨S512x1792, .i32⟩ : BufTy).Contents (Elt F) → (⟨S512x1792, .i32⟩ : BufTy).Contents (Elt F) → (⟨S512x1792, .i32⟩ : BufTy).Contents (Elt F)),
   StableHlo.TRef.ternary (.of main_v17) (.of main_v19) (.of main_v15) (.of main_v20) select,
   StableHlo.unary main_v12 main_v21 (broadcastInDim S512x1792x1 ![0, 1] bcast_S512x1792_S512x1792x1_0_1 : (⟨S512x1792, .i32⟩ : BufTy).Contents (Elt F) → (⟨S512x1792x1, .i32⟩ : BufTy).Contents (Elt F)),
   StableHlo.unary main_v20 main_v22 (broadcastInDim S512x1792x1 ![0, 1] bcast_S512x1792_S512x1792x1_0_1 : (⟨S512x1792, .i32⟩ : BufTy).Contents (Elt F) → (⟨S512x1792x1, .i32⟩ : BufTy).Contents (Elt F)),
   StableHlo.binary main_v21 main_v22 main_v23 ((fun a b => concatenate S512x1792x2 2 [⟨S512x1792x1, a⟩, ⟨S512x1792x1, b⟩] concatenates_S512x1792x1_S512x1792x1_S512x1792x2_d2) : (⟨S512x1792x1, .i32⟩ : BufTy).Contents (Elt F) → (⟨S512x1792x1, .i32⟩ : BufTy).Contents (Elt F) → (⟨S512x1792x2, .i32⟩ : BufTy).Contents (Elt F)),
   StableHlo.reshape main_v23 main_v24 (rfl : (.i32 : EltTy) = .i32) shapeCasts_S512x1792x2_S512x3584,
   StableHlo.unary main_v24 main_v25 (sitofp .f32 : (⟨S512x3584, .i32⟩ : BufTy).Contents (Elt F) → (⟨S512x3584, .f32⟩ : BufTy).Contents (Elt F)),
   StableHlo.unary main_v25 main_v26 ((truncf .bf16 · bitsLt_bf16_f32) : (⟨S512x3584, .f32⟩ : BufTy).Contents (Elt F) → (⟨S512x3584, .bf16⟩ : BufTy).Contents (Elt F)),
   StableHlo.binary main_v26 main_v4 main_v27 (mulf : (⟨S512x3584, .bf16⟩ : BufTy).Contents (Elt F) → (⟨S512x3584, .bf16⟩ : BufTy).Contents (Elt F) → (⟨S512x3584, .bf16⟩ : BufTy).Contents (Elt F))]

/-- The operations that compute the projected gradient. -/
def opsLow : List (HloOp τ sig (Elt F)) :=
  [StableHlo.binary main_v1 main_v27 main_v28 ((fun l r => Host.dotGeneral dot_S18944x3584_S512x3584_S18944x512_1_1_0_0_n_n none l r) : (⟨S18944x3584, .bf16⟩ : BufTy).Contents (Elt F) → (⟨S512x3584, .bf16⟩ : BufTy).Contents (Elt F) → (⟨S18944x512, .f32⟩ : BufTy).Contents (Elt F))]

/-- The operations that compute the moments and the normalised step. -/
def opsMom : List (HloOp τ sig (Elt F)) :=
  [StableHlo.unary main_arg4 main_v29 ((extsi 32 · natLt_8_32) : (⟨S18944x512, .i8⟩ : BufTy).Contents (Elt F) → (⟨S18944x512, .i32⟩ : BufTy).Contents (Elt F)),
   StableHlo.unary main_v29 main_v30 (sitofp .f32 : (⟨S18944x512, .i32⟩ : BufTy).Contents (Elt F) → (⟨S18944x512, .f32⟩ : BufTy).Contents (Elt F)),
   StableHlo.unary main_arg5 main_v31 (broadcastInDim S18944x4x128 ![0, 1] bcast_S18944x4_S18944x4x128_0_1 : (⟨S18944x4, .f32⟩ : BufTy).Contents (Elt F) → (⟨S18944x4x128, .f32⟩ : BufTy).Contents (Elt F)),
   StableHlo.reshape main_v31 main_v32 (rfl : (.f32 : EltTy) = .f32) shapeCasts_S18944x4x128_S18944x512,
   StableHlo.binary main_v30 main_v32 main_v33 (mulf : (⟨S18944x512, .f32⟩ : BufTy).Contents (Elt F) → (⟨S18944x512, .f32⟩ : BufTy).Contents (Elt F) → (⟨S18944x512, .f32⟩ : BufTy).Contents (Elt F)),
   StableHlo.unary main_arg6 main_v34 ((extsi 32 · natLt_8_32) : (⟨S18944x512, .i8⟩ : BufTy).Contents (Elt F) → (⟨S18944x512, .i32⟩ : BufTy).Contents (Elt F)),
   StableHlo.unary main_v34 main_v35 (sitofp .f32 : (⟨S18944x512, .i32⟩ : BufTy).Contents (Elt F) → (⟨S18944x512, .f32⟩ : BufTy).Contents (Elt F)),
   StableHlo.unary main_arg7 main_v36 (broadcastInDim S18944x4x128 ![0, 1] bcast_S18944x4_S18944x4x128_0_1 : (⟨S18944x4, .f32⟩ : BufTy).Contents (Elt F) → (⟨S18944x4x128, .f32⟩ : BufTy).Contents (Elt F)),
   StableHlo.reshape main_v36 main_v37 (rfl : (.f32 : EltTy) = .f32) shapeCasts_S18944x4x128_S18944x512,
   StableHlo.binary main_v35 main_v37 main_v38 (mulf : (⟨S18944x512, .f32⟩ : BufTy).Contents (Elt F) → (⟨S18944x512, .f32⟩ : BufTy).Contents (Elt F) → (⟨S18944x512, .f32⟩ : BufTy).Contents (Elt F)),
   StableHlo.nullary main_cst (constant S_ .f32 0x3F666666#32),
   StableHlo.unary main_cst main_v39 (broadcastInDim S18944x512 ![] bcast_S_S18944x512 : (⟨S_, .f32⟩ : BufTy).Contents (Elt F) → (⟨S18944x512, .f32⟩ : BufTy).Contents (Elt F)),
   StableHlo.binary main_v39 main_v33 main_v40 (mulf : (⟨S18944x512, .f32⟩ : BufTy).Contents (Elt F) → (⟨S18944x512, .f32⟩ : BufTy).Contents (Elt F) → (⟨S18944x512, .f32⟩ : BufTy).Contents (Elt F)),
   StableHlo.nullary main_cst_5 (constant S_ .f32 0x3DCCCCCD#32),
   StableHlo.unary main_cst_5 main_v41 (broadcastInDim S18944x512 ![] bcast_S_S18944x512 : (⟨S_, .f32⟩ : BufTy).Contents (Elt F) → (⟨S18944x512, .f32⟩ : BufTy).Contents (Elt F)),
   StableHlo.binary main_v41 main_v28 main_v42 (mulf : (⟨S18944x512, .f32⟩ : BufTy).Contents (Elt F) → (⟨S18944x512, .f32⟩ : BufTy).Contents (Elt F) → (⟨S18944x512, .f32⟩ : BufTy).Contents (Elt F)),
   StableHlo.binary main_v40 main_v42 main_v43 (addf : (⟨S18944x512, .f32⟩ : BufTy).Contents (Elt F) → (⟨S18944x512, .f32⟩ : BufTy).Contents (Elt F) → (⟨S18944x512, .f32⟩ : BufTy).Contents (Elt F)),
   StableHlo.nullary main_cst_6 (constant S_ .f32 0x3F7FBE77#32),
   StableHlo.unary main_cst_6 main_v44 (broadcastInDim S18944x512 ![] bcast_S_S18944x512 : (⟨S_, .f32⟩ : BufTy).Contents (Elt F) → (⟨S18944x512, .f32⟩ : BufTy).Contents (Elt F)),
   StableHlo.binary main_v44 main_v38 main_v45 (mulf : (⟨S18944x512, .f32⟩ : BufTy).Contents (Elt F) → (⟨S18944x512, .f32⟩ : BufTy).Contents (Elt F) → (⟨S18944x512, .f32⟩ : BufTy).Contents (Elt F)),
   StableHlo.nullary main_cst_7 (constant S_ .f32 0x3A83126F#32),
   StableHlo.unary main_cst_7 main_v46 (broadcastInDim S18944x512 ![] bcast_S_S18944x512 : (⟨S_, .f32⟩ : BufTy).Contents (Elt F) → (⟨S18944x512, .f32⟩ : BufTy).Contents (Elt F)),
   StableHlo.binary main_v46 main_v28 main_v47 (mulf : (⟨S18944x512, .f32⟩ : BufTy).Contents (Elt F) → (⟨S18944x512, .f32⟩ : BufTy).Contents (Elt F) → (⟨S18944x512, .f32⟩ : BufTy).Contents (Elt F)),
   StableHlo.binary main_v47 main_v28 main_v48 (mulf : (⟨S18944x512, .f32⟩ : BufTy).Contents (Elt F) → (⟨S18944x512, .f32⟩ : BufTy).Contents (Elt F) → (⟨S18944x512, .f32⟩ : BufTy).Contents (Elt F)),
   StableHlo.binary main_v45 main_v48 main_v49 (addf : (⟨S18944x512, .f32⟩ : BufTy).Contents (Elt F) → (⟨S18944x512, .f32⟩ : BufTy).Contents (Elt F) → (⟨S18944x512, .f32⟩ : BufTy).Contents (Elt F)),
   StableHlo.nullary main_cst_8 (constant S_ .f32 0x3F26BD02#32),
   StableHlo.unary main_cst_8 main_v50 (broadcastInDim S18944x512 ![] bcast_S_S18944x512 : (⟨S_, .f32⟩ : BufTy).Contents (Elt F) → (⟨S18944x512, .f32⟩ : BufTy).Contents (Elt F)),
   StableHlo.binary main_v43 main_v50 main_v51 (Host.divf : (⟨S18944x512, .f32⟩ : BufTy).Contents (Elt F) → (⟨S18944x512, .f32⟩ : BufTy).Contents (Elt F) → (⟨S18944x512, .f32⟩ : BufTy).Contents (Elt F)),
   StableHlo.nullary main_cst_9 (constant S_ .f32 0x3C231ACC#32),
   StableHlo.unary main_cst_9 main_v52 (broadcastInDim S18944x512 ![] bcast_S_S18944x512 : (⟨S_, .f32⟩ : BufTy).Contents (Elt F) → (⟨S18944x512, .f32⟩ : BufTy).Contents (Elt F)),
   StableHlo.binary main_v49 main_v52 main_v53 (Host.divf : (⟨S18944x512, .f32⟩ : BufTy).Contents (Elt F) → (⟨S18944x512, .f32⟩ : BufTy).Contents (Elt F) → (⟨S18944x512, .f32⟩ : BufTy).Contents (Elt F)),
   StableHlo.unary main_v53 main_v54 (Host.sqrt : (⟨S18944x512, .f32⟩ : BufTy).Contents (Elt F) → (⟨S18944x512, .f32⟩ : BufTy).Contents (Elt F)),
   StableHlo.nullary main_cst_10 (constant S_ .f32 0x322BCC77#32),
   StableHlo.unary main_cst_10 main_v55 (broadcastInDim S18944x512 ![] bcast_S_S18944x512 : (⟨S_, .f32⟩ : BufTy).Contents (Elt F) → (⟨S18944x512, .f32⟩ : BufTy).Contents (Elt F)),
   StableHlo.binary main_v54 main_v55 main_v56 (addf : (⟨S18944x512, .f32⟩ : BufTy).Contents (Elt F) → (⟨S18944x512, .f32⟩ : BufTy).Contents (Elt F) → (⟨S18944x512, .f32⟩ : BufTy).Contents (Elt F)),
   StableHlo.binary main_v51 main_v56 main_v57 (Host.divf : (⟨S18944x512, .f32⟩ : BufTy).Contents (Elt F) → (⟨S18944x512, .f32⟩ : BufTy).Contents (Elt F) → (⟨S18944x512, .f32⟩ : BufTy).Contents (Elt F))]

/-- The operations that compute the first moment quantised. -/
def opsQm : List (HloOp τ sig (Elt F)) :=
  [StableHlo.reshape main_v43 main_v58 (rfl : (.f32 : EltTy) = .f32) shapeCasts_S18944x512_S18944x4x128,
   StableHlo.unary main_v58 main_v59 (Host.absf : (⟨S18944x4x128, .f32⟩ : BufTy).Contents (Elt F) → (⟨S18944x4x128, .f32⟩ : BufTy).Contents (Elt F)),
   StableHlo.nullary main_cst_11 (constant S_ .f32 0xFF800000#32),
   StableHlo.binary main_v59 main_cst_11 main_v60 ((fun x v => Host.reduce FloatOps.maximumf x v reducesTo_S18944x4x128_S18944x4_d2 h_S_) : (⟨S18944x4x128, .f32⟩ : BufTy).Contents (Elt F) → (⟨S_, .f32⟩ : BufTy).Contents (Elt F) → (⟨S18944x4, .f32⟩ : BufTy).Contents (Elt F)),
   StableHlo.nullary main_cst_12 (constant S_ .f32 0x00000000#32),
   StableHlo.unary main_cst_12 main_v61 (broadcastInDim S18944x4 ![] bcast_S_S18944x4 : (⟨S_, .f32⟩ : BufTy).Contents (Elt F) → (⟨S18944x4, .f32⟩ : BufTy).Contents (Elt F)),
   StableHlo.binary main_v60 main_v61 main_v62 (cmpf .oeq : (⟨S18944x4, .f32⟩ : BufTy).Contents (Elt F) → (⟨S18944x4, .f32⟩ : BufTy).Contents (Elt F) → (⟨S18944x4, .i1⟩ : BufTy).Contents (Elt F)),
   StableHlo.nullary main_cst_13 (constant S_ .f32 0x42FE0000#32),
   StableHlo.unary main_cst_13 main_v63 (broadcastInDim S18944x4 ![] bcast_S_S18944x4 : (⟨S_, .f32⟩ : BufTy).Contents (Elt F) → (⟨S18944x4, .f32⟩ : BufTy).Contents (Elt F)),
   StableHlo.binary main_v60 main_v63 main_v64 (Host.divf : (⟨S18944x4, .f32⟩ : BufTy).Contents (Elt F) → (⟨S18944x4, .f32⟩ : BufTy).Contents (Elt F) → (⟨S18944x4, .f32⟩ : BufTy).Contents (Elt F)),
   StableHlo.nullary main_cst_14 (constant S_ .f32 0x3F800000#32),
   StableHlo.TRef.unary (.of main_cst_14) (.of main_call2_v0) id,
   StableHlo.TRef.unary (.of main_call2_v0) (.of main_call2_v1) (broadcastInDim S18944x4 ![] bcast_S_S18944x4),
   StableHlo.TRef.ternary (.of main_v62) (.of main_call2_v1) (.of main_v64) (.of main_v65) select,
   StableHlo.unary main_v65 main_v66 (broadcastInDim S18944x4x1 ![0, 1] bcast_S18944x4_S18944x4x1_0_1 : (⟨S18944x4, .f32⟩ : BufTy).Contents (Elt F) → (⟨S18944x4x1, .f32⟩ : BufTy).Contents (Elt F)),
   StableHlo.unary main_v66 main_v67 (broadcastInDim S18944x4x128 ![0, 1, 2] bcast_S18944x4x1_S18944x4x128_0_1_2 : (⟨S18944x4x1, .f32⟩ : BufTy).Contents (Elt F) → (⟨S18944x4x128, .f32⟩ : BufTy).Contents (Elt F)),
   StableHlo.binary main_v58 main_v67 main_v68 (Host.divf : (⟨S18944x4x128, .f32⟩ : BufTy).Contents (Elt F) → (⟨S18944x4x128, .f32⟩ : BufTy).Contents (Elt F) → (⟨S18944x4x128, .f32⟩ : BufTy).Contents (Elt F)),
   StableHlo.TRef.unary (.of main_v68) (.of main_v69) Host.roundeven,
   StableHlo.nullary main_c_15 (constantI S_ 32 4294967169#32),
   StableHlo.nullary main_c_16 (constantI S_ 32 127#32),
   StableHlo.TRef.unary (.of main_c_15) (.of main_call4_v0) (sitofp .f32),
   StableHlo.TRef.unary (.of main_call4_v0) (.of main_call4_v1) (broadcastInDim S18944x4x128 ![] bcast_S_S18944x4x128),
   StableHlo.TRef.binary (.of main_call4_v1) (.of main_v69) (.of main_call4_v2) maximumf,
   StableHlo.TRef.unary (.of main_c_16) (.of main_call4_v3) (sitofp .f32),
   StableHlo.TRef.unary (.of main_call4_v3) (.of main_call4_v4) (broadcastInDim S18944x4x128 ![] bcast_S_S18944x4x128),
   StableHlo.TRef.binary (.of main_call4_v4) (.of main_call4_v2) (.of main_v70) minimumf,
   StableHlo.unary main_v70 main_v71 (fptosi 32 : (⟨S18944x4x128, .f32⟩ : BufTy).Contents (Elt F) → (⟨S18944x4x128, .i32⟩ : BufTy).Contents (Elt F)),
   StableHlo.unary main_v71 main_v72 ((trunci 8 · natLt_8_32) : (⟨S18944x4x128, .i32⟩ : BufTy).Contents (Elt F) → (⟨S18944x4x128, .i8⟩ : BufTy).Contents (Elt F)),
   StableHlo.reshape main_v72 main_v73 (rfl : (.i8 : EltTy) = .i8) shapeCasts_S18944x4x128_S18944x512]

/-- The operations that compute the second moment quantised. -/
def opsQv : List (HloOp τ sig (Elt F)) :=
  [StableHlo.reshape main_v49 main_v74 (rfl : (.f32 : EltTy) = .f32) shapeCasts_S18944x512_S18944x4x128,
   StableHlo.unary main_v74 main_v75 (Host.absf : (⟨S18944x4x128, .f32⟩ : BufTy).Contents (Elt F) → (⟨S18944x4x128, .f32⟩ : BufTy).Contents (Elt F)),
   StableHlo.nullary main_cst_17 (constant S_ .f32 0xFF800000#32),
   StableHlo.binary main_v75 main_cst_17 main_v76 ((fun x v => Host.reduce FloatOps.maximumf x v reducesTo_S18944x4x128_S18944x4_d2 h_S_) : (⟨S18944x4x128, .f32⟩ : BufTy).Contents (Elt F) → (⟨S_, .f32⟩ : BufTy).Contents (Elt F) → (⟨S18944x4, .f32⟩ : BufTy).Contents (Elt F)),
   StableHlo.nullary main_cst_18 (constant S_ .f32 0x00000000#32),
   StableHlo.unary main_cst_18 main_v77 (broadcastInDim S18944x4 ![] bcast_S_S18944x4 : (⟨S_, .f32⟩ : BufTy).Contents (Elt F) → (⟨S18944x4, .f32⟩ : BufTy).Contents (Elt F)),
   StableHlo.binary main_v76 main_v77 main_v78 (cmpf .oeq : (⟨S18944x4, .f32⟩ : BufTy).Contents (Elt F) → (⟨S18944x4, .f32⟩ : BufTy).Contents (Elt F) → (⟨S18944x4, .i1⟩ : BufTy).Contents (Elt F)),
   StableHlo.nullary main_cst_19 (constant S_ .f32 0x42FE0000#32),
   StableHlo.unary main_cst_19 main_v79 (broadcastInDim S18944x4 ![] bcast_S_S18944x4 : (⟨S_, .f32⟩ : BufTy).Contents (Elt F) → (⟨S18944x4, .f32⟩ : BufTy).Contents (Elt F)),
   StableHlo.binary main_v76 main_v79 main_v80 (Host.divf : (⟨S18944x4, .f32⟩ : BufTy).Contents (Elt F) → (⟨S18944x4, .f32⟩ : BufTy).Contents (Elt F) → (⟨S18944x4, .f32⟩ : BufTy).Contents (Elt F)),
   StableHlo.nullary main_cst_20 (constant S_ .f32 0x3F800000#32),
   StableHlo.TRef.unary (.of main_cst_20) (.of main_call5_v0) id,
   StableHlo.TRef.unary (.of main_call5_v0) (.of main_call5_v1) (broadcastInDim S18944x4 ![] bcast_S_S18944x4),
   StableHlo.TRef.ternary (.of main_v78) (.of main_call5_v1) (.of main_v80) (.of main_v81) select,
   StableHlo.unary main_v81 main_v82 (broadcastInDim S18944x4x1 ![0, 1] bcast_S18944x4_S18944x4x1_0_1 : (⟨S18944x4, .f32⟩ : BufTy).Contents (Elt F) → (⟨S18944x4x1, .f32⟩ : BufTy).Contents (Elt F)),
   StableHlo.unary main_v82 main_v83 (broadcastInDim S18944x4x128 ![0, 1, 2] bcast_S18944x4x1_S18944x4x128_0_1_2 : (⟨S18944x4x1, .f32⟩ : BufTy).Contents (Elt F) → (⟨S18944x4x128, .f32⟩ : BufTy).Contents (Elt F)),
   StableHlo.binary main_v74 main_v83 main_v84 (Host.divf : (⟨S18944x4x128, .f32⟩ : BufTy).Contents (Elt F) → (⟨S18944x4x128, .f32⟩ : BufTy).Contents (Elt F) → (⟨S18944x4x128, .f32⟩ : BufTy).Contents (Elt F)),
   StableHlo.TRef.unary (.of main_v84) (.of main_v85) Host.roundeven,
   StableHlo.nullary main_c_21 (constantI S_ 32 4294967169#32),
   StableHlo.nullary main_c_22 (constantI S_ 32 127#32),
   StableHlo.TRef.unary (.of main_c_21) (.of main_call7_v0) (sitofp .f32),
   StableHlo.TRef.unary (.of main_call7_v0) (.of main_call7_v1) (broadcastInDim S18944x4x128 ![] bcast_S_S18944x4x128),
   StableHlo.TRef.binary (.of main_call7_v1) (.of main_v85) (.of main_call7_v2) maximumf,
   StableHlo.TRef.unary (.of main_c_22) (.of main_call7_v3) (sitofp .f32),
   StableHlo.TRef.unary (.of main_call7_v3) (.of main_call7_v4) (broadcastInDim S18944x4x128 ![] bcast_S_S18944x4x128),
   StableHlo.TRef.binary (.of main_call7_v4) (.of main_call7_v2) (.of main_v86) minimumf,
   StableHlo.unary main_v86 main_v87 (fptosi 32 : (⟨S18944x4x128, .f32⟩ : BufTy).Contents (Elt F) → (⟨S18944x4x128, .i32⟩ : BufTy).Contents (Elt F)),
   StableHlo.unary main_v87 main_v88 ((trunci 8 · natLt_8_32) : (⟨S18944x4x128, .i32⟩ : BufTy).Contents (Elt F) → (⟨S18944x4x128, .i8⟩ : BufTy).Contents (Elt F)),
   StableHlo.reshape main_v88 main_v89 (rfl : (.i8 : EltTy) = .i8) shapeCasts_S18944x4x128_S18944x512]

/-- The operations that compute the step projected back. -/
def opsDel : List (HloOp τ sig (Elt F)) :=
  [StableHlo.unary main_v57 main_v90 ((truncf .bf16 · bitsLt_bf16_f32) : (⟨S18944x512, .f32⟩ : BufTy).Contents (Elt F) → (⟨S18944x512, .bf16⟩ : BufTy).Contents (Elt F)),
   StableHlo.binary main_v90 main_v27 main_v91 ((fun l r => Host.dotGeneral dot_S18944x512_S512x3584_S18944x3584_1_0_0_1_n_n none l r) : (⟨S18944x512, .bf16⟩ : BufTy).Contents (Elt F) → (⟨S512x3584, .bf16⟩ : BufTy).Contents (Elt F) → (⟨S18944x3584, .f32⟩ : BufTy).Contents (Elt F)),
   StableHlo.nullary main_cst_23 (constant S_ .f32 0x3A83126F#32),
   StableHlo.unary main_cst_23 main_v92 (broadcastInDim S18944x3584 ![] bcast_S_S18944x3584 : (⟨S_, .f32⟩ : BufTy).Contents (Elt F) → (⟨S18944x3584, .f32⟩ : BufTy).Contents (Elt F)),
   StableHlo.binary main_v92 main_v91 main_v93 (mulf : (⟨S18944x3584, .f32⟩ : BufTy).Contents (Elt F) → (⟨S18944x3584, .f32⟩ : BufTy).Contents (Elt F) → (⟨S18944x3584, .f32⟩ : BufTy).Contents (Elt F))]

/-- The operations that compute the weights quantised with stochastic rounding. -/
def opsW : List (HloOp τ sig (Elt F)) :=
  [StableHlo.unary main_arg8 main_v94 ((extsi 32 · natLt_8_32) : (⟨S18944x3584, .i8⟩ : BufTy).Contents (Elt F) → (⟨S18944x3584, .i32⟩ : BufTy).Contents (Elt F)),
   StableHlo.unary main_v94 main_v95 (sitofp .f32 : (⟨S18944x3584, .i32⟩ : BufTy).Contents (Elt F) → (⟨S18944x3584, .f32⟩ : BufTy).Contents (Elt F)),
   StableHlo.unary main_arg9 main_v96 (broadcastInDim S18944x1 ![0] bcast_S18944_S18944x1_0 : (⟨S18944, .f32⟩ : BufTy).Contents (Elt F) → (⟨S18944x1, .f32⟩ : BufTy).Contents (Elt F)),
   StableHlo.unary main_v96 main_v97 (broadcastInDim S18944x3584 ![0, 1] bcast_S18944x1_S18944x3584_0_1 : (⟨S18944x1, .f32⟩ : BufTy).Contents (Elt F) → (⟨S18944x3584, .f32⟩ : BufTy).Contents (Elt F)),
   StableHlo.binary main_v95 main_v97 main_v98 (mulf : (⟨S18944x3584, .f32⟩ : BufTy).Contents (Elt F) → (⟨S18944x3584, .f32⟩ : BufTy).Contents (Elt F) → (⟨S18944x3584, .f32⟩ : BufTy).Contents (Elt F)),
   StableHlo.binary main_v98 main_v93 main_v99 (subf : (⟨S18944x3584, .f32⟩ : BufTy).Contents (Elt F) → (⟨S18944x3584, .f32⟩ : BufTy).Contents (Elt F) → (⟨S18944x3584, .f32⟩ : BufTy).Contents (Elt F)),
   StableHlo.unary main_v99 main_v100 (Host.absf : (⟨S18944x3584, .f32⟩ : BufTy).Contents (Elt F) → (⟨S18944x3584, .f32⟩ : BufTy).Contents (Elt F)),
   StableHlo.nullary main_cst_24 (constant S_ .f32 0xFF800000#32),
   StableHlo.binary main_v100 main_cst_24 main_v101 ((fun x v => Host.reduce FloatOps.maximumf x v reducesTo_S18944x3584_S18944_d1 h_S_) : (⟨S18944x3584, .f32⟩ : BufTy).Contents (Elt F) → (⟨S_, .f32⟩ : BufTy).Contents (Elt F) → (⟨S18944, .f32⟩ : BufTy).Contents (Elt F)),
   StableHlo.nullary main_cst_25 (constant S_ .f32 0x00000000#32),
   StableHlo.unary main_cst_25 main_v102 (broadcastInDim S18944 ![] bcast_S_S18944 : (⟨S_, .f32⟩ : BufTy).Contents (Elt F) → (⟨S18944, .f32⟩ : BufTy).Contents (Elt F)),
   StableHlo.binary main_v101 main_v102 main_v103 (cmpf .oeq : (⟨S18944, .f32⟩ : BufTy).Contents (Elt F) → (⟨S18944, .f32⟩ : BufTy).Contents (Elt F) → (⟨S18944, .i1⟩ : BufTy).Contents (Elt F)),
   StableHlo.nullary main_cst_26 (constant S_ .f32 0x42FE0000#32),
   StableHlo.unary main_cst_26 main_v104 (broadcastInDim S18944 ![] bcast_S_S18944 : (⟨S_, .f32⟩ : BufTy).Contents (Elt F) → (⟨S18944, .f32⟩ : BufTy).Contents (Elt F)),
   StableHlo.binary main_v101 main_v104 main_v105 (Host.divf : (⟨S18944, .f32⟩ : BufTy).Contents (Elt F) → (⟨S18944, .f32⟩ : BufTy).Contents (Elt F) → (⟨S18944, .f32⟩ : BufTy).Contents (Elt F)),
   StableHlo.nullary main_cst_27 (constant S_ .f32 0x3F800000#32),
   StableHlo.TRef.unary (.of main_cst_27) (.of main_call8_v0) id,
   StableHlo.TRef.unary (.of main_call8_v0) (.of main_call8_v1) (broadcastInDim S18944 ![] bcast_S_S18944),
   StableHlo.TRef.ternary (.of main_v103) (.of main_call8_v1) (.of main_v105) (.of main_v106) select,
   StableHlo.unary main_arg10 main_v107 ((extui 32 · natLt_8_32) : (⟨S18944x3584, .i8⟩ : BufTy).Contents (Elt F) → (⟨S18944x3584, .i32⟩ : BufTy).Contents (Elt F)),
   StableHlo.unary main_v107 main_v108 (sitofp .f32 : (⟨S18944x3584, .i32⟩ : BufTy).Contents (Elt F) → (⟨S18944x3584, .f32⟩ : BufTy).Contents (Elt F)),
   StableHlo.nullary main_cst_28 (constant S_ .f32 0x3B800000#32),
   StableHlo.unary main_cst_28 main_v109 (broadcastInDim S18944x3584 ![] bcast_S_S18944x3584 : (⟨S_, .f32⟩ : BufTy).Contents (Elt F) → (⟨S18944x3584, .f32⟩ : BufTy).Contents (Elt F)),
   StableHlo.binary main_v108 main_v109 main_v110 (mulf : (⟨S18944x3584, .f32⟩ : BufTy).Contents (Elt F) → (⟨S18944x3584, .f32⟩ : BufTy).Contents (Elt F) → (⟨S18944x3584, .f32⟩ : BufTy).Contents (Elt F)),
   StableHlo.unary main_v106 main_v111 (broadcastInDim S18944x1 ![0] bcast_S18944_S18944x1_0 : (⟨S18944, .f32⟩ : BufTy).Contents (Elt F) → (⟨S18944x1, .f32⟩ : BufTy).Contents (Elt F)),
   StableHlo.unary main_v111 main_v112 (broadcastInDim S18944x3584 ![0, 1] bcast_S18944x1_S18944x3584_0_1 : (⟨S18944x1, .f32⟩ : BufTy).Contents (Elt F) → (⟨S18944x3584, .f32⟩ : BufTy).Contents (Elt F)),
   StableHlo.binary main_v99 main_v112 main_v113 (Host.divf : (⟨S18944x3584, .f32⟩ : BufTy).Contents (Elt F) → (⟨S18944x3584, .f32⟩ : BufTy).Contents (Elt F) → (⟨S18944x3584, .f32⟩ : BufTy).Contents (Elt F)),
   StableHlo.binary main_v113 main_v110 main_v114 (addf : (⟨S18944x3584, .f32⟩ : BufTy).Contents (Elt F) → (⟨S18944x3584, .f32⟩ : BufTy).Contents (Elt F) → (⟨S18944x3584, .f32⟩ : BufTy).Contents (Elt F)),
   StableHlo.unary main_v114 main_v115 (Host.floor : (⟨S18944x3584, .f32⟩ : BufTy).Contents (Elt F) → (⟨S18944x3584, .f32⟩ : BufTy).Contents (Elt F)),
   StableHlo.nullary main_c_29 (constantI S_ 32 4294967169#32),
   StableHlo.nullary main_c_30 (constantI S_ 32 127#32),
   StableHlo.TRef.unary (.of main_c_29) (.of main_call9_v0) (sitofp .f32),
   StableHlo.TRef.unary (.of main_call9_v0) (.of main_call9_v1) (broadcastInDim S18944x3584 ![] bcast_S_S18944x3584),
   StableHlo.TRef.binary (.of main_call9_v1) (.of main_v115) (.of main_call9_v2) maximumf,
   StableHlo.TRef.unary (.of main_c_30) (.of main_call9_v3) (sitofp .f32),
   StableHlo.TRef.unary (.of main_call9_v3) (.of main_call9_v4) (broadcastInDim S18944x3584 ![] bcast_S_S18944x3584),
   StableHlo.TRef.binary (.of main_call9_v4) (.of main_call9_v2) (.of main_v116) minimumf,
   StableHlo.unary main_v116 main_v117 (fptosi 32 : (⟨S18944x3584, .f32⟩ : BufTy).Contents (Elt F) → (⟨S18944x3584, .i32⟩ : BufTy).Contents (Elt F)),
   StableHlo.unary main_v117 main_v118 ((trunci 8 · natLt_8_32) : (⟨S18944x3584, .i32⟩ : BufTy).Contents (Elt F) → (⟨S18944x3584, .i8⟩ : BufTy).Contents (Elt F))]

/-- All operations of the reference. -/
def ops : List (HloOp τ sig (Elt F)) :=
  opsGrad ++ opsProj ++ opsLow ++ opsMom ++ opsQm ++ opsQv ++ opsDel ++ opsW

set_option maxHeartbeats 4000000 in
/-- The reference is that list, run in order. -/
theorem main_eq (d : Dev nD) : main (F := F) d = StableHlo.seq ops := rfl

/-- Core `c`'s buffers after the reference, from memory `m`. -/
abbrev fin (m : (ℓ : Loc nD τ sig) → Buf (Elt F) ℓ) (c : Dev nD) : Valuation τ sig (Elt F) :=
  StableHlo.after ops (StableHlo.launchContents m c)

set_option maxHeartbeats 4000000 in
/-- Every operation stays inside the device's buffers. -/
theorem ops_sub : (ops (F := F)).Forall fun op => op.bufs ⊆ StableHlo.tcRefs τ sig := by
  simp [ops, opsGrad, opsProj, opsLow, opsMom, opsQm, opsQv, opsDel, opsW]

/-- Every operation determines what it writes. -/
theorem ops_fresh : (ops (F := F)).Forall fun op => op.fresh = ∅ := StableHlo.forall_fresh_of_map rfl

set_option maxHeartbeats 4000000 in
/-- The reference runs from any memory; each buffer ends at the operations' fold and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ (d : Dev nD) (b : Ref sig .tc), r.2.mem ((d.tc : Thread nD τ).loc b) = fin m d (Proc.devRef .tc b)) ∧ r.2.sem = fun _ => 0 := by
  have h := StableHlo.run_seq (by decide) (by decide) defs main (fun _ => ops) main_eq
    (fun _ => ops_sub) m ρ (fun _ => List.forall_iff_forall_mem.mp ops_fresh)
  exact θ_run_and h ((θ_run defs _ _).mono (fun r _ => sem_eq_zero_of_no_sems (by decide) r.2) h)

end Cert.ReferenceIdeal.Hand
-- ==== Proof.RefSpec.lean ====
/- What the reference computes, as plain functions of its arguments. -/
module

public import proofs.«01_k».proof.Proof.RefFacts

@[expose] public section

set_option maxRecDepth 16384

noncomputable section

namespace Cert.ReferenceIdeal.Hand

open Idealize.ShloMosaic Idealize.ShloMosaic.TcCoe Cert.ReferenceIdeal
open Cert.ReferenceIdeal.Facts₀ Cert.ReferenceIdeal.Facts

variable {F : FTy → Type} [FloatOps F]

/-- The gradient of the weights: the products of the two activations summed over all tokens, in bf16. -/
def grad (x : FVec F S5x3072x3584 .bf16) (dy : FVec F S5x3072x18944 .bf16) : FVec F S18944x3584 .bf16 :=
  truncf .bf16 (Host.dotGeneral dot_S5x3072x18944_S5x3072x3584_S18944x3584_01_01_2_2_n_n none dy x) bitsLt_bf16_f32

/-- A four-bit number read as signed. -/
def signed4 (a : IVec S512x1792 32) : IVec S512x1792 32 :=
  select (cmpi .sge a (broadcastInDim S512x1792 ![] bcast_S_S512x1792 (constantI S_ 32 8#32)))
    (subi a (broadcastInDim S512x1792 ![] bcast_S_S512x1792 (constantI S_ 32 16#32))) a

/-- The codes of the projector: each byte holds two, the low four bits first. -/
def codes (q : IVec S512x1792 8) : IVec S512x3584 32 :=
  shapeCast S512x3584 (concatenate S512x1792x2 2
    [⟨S512x1792x1, broadcastInDim S512x1792x1 ![0, 1] bcast_S512x1792_S512x1792x1_0_1
        (signed4 (andi (extui 32 q natLt_8_32) (broadcastInDim S512x1792 ![] bcast_S_S512x1792 (constantI S_ 32 15#32))))⟩,
     ⟨S512x1792x1, broadcastInDim S512x1792x1 ![0, 1] bcast_S512x1792_S512x1792x1_0_1
        (signed4 (Host.shrsi (extui 32 q natLt_8_32) (broadcastInDim S512x1792 ![] bcast_S_S512x1792 (constantI S_ 32 4#32))))⟩]
    concatenates_S512x1792x1_S512x1792x1_S512x1792x2_d2) shapeCasts_S512x1792x2_S512x3584

/-- The projector: its codes times the scales of their groups. -/
def proj (q : IVec S512x1792 8) (s : FVec F S512x14 .f32) : FVec F S512x3584 .bf16 :=
  mulf (truncf .bf16 (sitofp .f32 (codes q)) bitsLt_bf16_f32)
    (truncf .bf16 (shapeCast S512x3584 (broadcastInDim S512x14x256 ![0, 1] bcast_S512x14_S512x14x256_0_1 s) shapeCasts_S512x14x256_S512x3584) bitsLt_bf16_f32)

/-- The gradient projected to the low rank. -/
def low (g : FVec F S18944x3584 .bf16) (p : FVec F S512x3584 .bf16) : FVec F S18944x512 .f32 :=
  Host.dotGeneral dot_S18944x3584_S512x3584_S18944x512_1_1_0_0_n_n none g p

/-- A moment as stored: codes times the scales of their groups of 128. -/
def stored (q : IVec S18944x512 8) (s : FVec F S18944x4 .f32) : FVec F S18944x512 .f32 :=
  mulf (sitofp .f32 (extsi 32 q natLt_8_32))
    (shapeCast S18944x512 (broadcastInDim S18944x4x128 ![0, 1] bcast_S18944x4_S18944x4x128_0_1 s) shapeCasts_S18944x4x128_S18944x512)

/-- A scalar over the low-rank arrays. -/
def sc (b : BitVec 32) : FVec F S18944x512 .f32 := broadcastInDim S18944x512 ![] bcast_S_S18944x512 (constant S_ .f32 b)

/-- The new first moment. -/
def mom1 (m r : FVec F S18944x512 .f32) : FVec F S18944x512 .f32 :=
  addf (mulf (sc 0x3F666666#32) m) (mulf (sc 0x3DCCCCCD#32) r)

/-- The new second moment. -/
def mom2 (v r : FVec F S18944x512 .f32) : FVec F S18944x512 .f32 :=
  addf (mulf (sc 0x3F7FBE77#32) v) (mulf (mulf (sc 0x3A83126F#32) r) r)

/-- The normalised step. -/
def step (m v : FVec F S18944x512 .f32) : FVec F S18944x512 .f32 :=
  Host.divf (Host.divf m (sc 0x3F26BD02#32)) (addf (Host.sqrt (Host.divf v (sc 0x3C231ACC#32))) (sc 0x322BCC77#32))

/-- The largest absolute value of each group of 128. -/
def groupMax (x : FVec F S18944x512 .f32) : FVec F S18944x4 .f32 :=
  Host.reduce FloatOps.maximumf (Host.absf (shapeCast S18944x4x128 x shapeCasts_S18944x512_S18944x4x128)) (constant S_ .f32 0xFF800000#32)
    reducesTo_S18944x4x128_S18944x4_d2 h_S_

/-- The scale of each group: its largest absolute value over 127, or one. -/
def groupScale (x : FVec F S18944x512 .f32) : FVec F S18944x4 .f32 :=
  select (cmpf .oeq (groupMax x) (broadcastInDim S18944x4 ![] bcast_S_S18944x4 (constant S_ .f32 0x00000000#32)))
    (broadcastInDim S18944x4 ![] bcast_S_S18944x4 (constant S_ .f32 0x3F800000#32))
    (Host.divf (groupMax x) (broadcastInDim S18944x4 ![] bcast_S_S18944x4 (constant S_ .f32 0x42FE0000#32)))

/-- The codes of each group: entries over the scale, rounded to even and clipped. -/
def groupCodes (x : FVec F S18944x512 .f32) : IVec S18944x512 8 :=
  shapeCast S18944x512 (trunci 8 (fptosi 32
    (minimumf (broadcastInDim S18944x4x128 ![] bcast_S_S18944x4x128 (sitofp .f32 (constantI S_ 32 127#32)))
      (maximumf (broadcastInDim S18944x4x128 ![] bcast_S_S18944x4x128 (sitofp .f32 (constantI S_ 32 4294967169#32)))
        (Host.roundeven (Host.divf (shapeCast S18944x4x128 x shapeCasts_S18944x512_S18944x4x128)
          (broadcastInDim S18944x4x128 ![0, 1, 2] bcast_S18944x4x1_S18944x4x128_0_1_2
            (broadcastInDim S18944x4x1 ![0, 1] bcast_S18944x4_S18944x4x1_0_1 (groupScale x)))))))) natLt_8_32) shapeCasts_S18944x4x128_S18944x512

/-- The update of the weights: the step projected back, times the rate. -/
def delta (n : FVec F S18944x512 .f32) (p : FVec F S512x3584 .bf16) : FVec F S18944x3584 .f32 :=
  mulf (broadcastInDim S18944x3584 ![] bcast_S_S18944x3584 (constant S_ .f32 0x3A83126F#32))
    (Host.dotGeneral dot_S18944x512_S512x3584_S18944x3584_1_0_0_1_n_n none (truncf .bf16 n bitsLt_bf16_f32) p)

/-- One value per row, over the whole rows. -/
def rows (s : FVec F S18944 .f32) : FVec F S18944x3584 .f32 :=
  broadcastInDim S18944x3584 ![0, 1] bcast_S18944x1_S18944x3584_0_1 (broadcastInDim S18944x1 ![0] bcast_S18944_S18944x1_0 s)

/-- The new weights: codes times their rows' scales, less the update. -/
def weights (q : IVec S18944x3584 8) (s : FVec F S18944 .f32) (d : FVec F S18944x3584 .f32) : FVec F S18944x3584 .f32 :=
  subf (mulf (sitofp .f32 (extsi 32 q natLt_8_32)) (rows s)) d

/-- The largest absolute value of each row. -/
def rowMax (w : FVec F S18944x3584 .f32) : FVec F S18944 .f32 :=
  Host.reduce FloatOps.maximumf (Host.absf w) (constant S_ .f32 0xFF800000#32) reducesTo_S18944x3584_S18944_d1 h_S_

/-- The scale of each row: its largest absolute value over 127, or one. -/
def rowScale (w : FVec F S18944x3584 .f32) : FVec F S18944 .f32 :=
  select (cmpf .oeq (rowMax w) (broadcastInDim S18944 ![] bcast_S_S18944 (constant S_ .f32 0x00000000#32)))
    (broadcastInDim S18944 ![] bcast_S_S18944 (constant S_ .f32 0x3F800000#32))
    (Host.divf (rowMax w) (broadcastInDim S18944 ![] bcast_S_S18944 (constant S_ .f32 0x42FE0000#32)))

/-- The codes of each row: entries over the scale plus a random fraction, rounded down and clipped. -/
def rowCodes (w : FVec F S18944x3584 .f32) (bits : IVec S18944x3584 8) : IVec S18944x3584 8 :=
  trunci 8 (fptosi 32
    (minimumf (broadcastInDim S18944x3584 ![] bcast_S_S18944x3584 (sitofp .f32 (constantI S_ 32 127#32)))
      (maximumf (broadcastInDim S18944x3584 ![] bcast_S_S18944x3584 (sitofp .f32 (constantI S_ 32 4294967169#32)))
        (Host.floor (addf (Host.divf w (rows (rowScale w)))
          (mulf (sitofp .f32 (extui 32 bits natLt_8_32)) (broadcastInDim S18944x3584 ![] bcast_S_S18944x3584 (constant S_ .f32 0x3B800000#32)))))))) natLt_8_32

end Cert.ReferenceIdeal.Hand
-- ==== Proof.RefVal.lean ====
/- Each stretch of the reference computes the functions named for it, and leaves every other buffer as it was. -/
module

public import proofs.«01_k».proof.Proof.RefRun
public import proofs.«01_k».proof.Proof.RefSpec

@[expose] public section

set_option maxRecDepth 16384

noncomputable section

namespace Cert.ReferenceIdeal.Hand

open Idealize.ShloMosaic Idealize.ShloMosaic.TcCoe Idealize.SL.Sem Cert.ReferenceIdeal
open Cert.ReferenceIdeal.Facts₀ Cert.ReferenceIdeal.Facts
open Idealize.ShloMosaic.StableHlo (after after_of_writes_sub forall_writes_sub_of_map)

variable {F : FTy → Type} [FloatOps F]

variable (V : Valuation τ sig (Elt F))

/-- The buffers that this stretch writes. -/
def w_opsGrad : List (Ref sig .tc) := [main_v0, main_v1]

/-- It leaves every other buffer alone. -/
theorem keep_opsGrad {r : Ref sig .tc} (hr : r ∉ w_opsGrad) :
    after opsGrad V (Proc.devRef .tc r) = V (Proc.devRef .tc r) :=
  after_of_writes_sub _ V (forall_writes_sub_of_map rfl) hr

/-- The buffers that this stretch writes. -/
def w_opsProj : List (Ref sig .tc) := [main_v2, main_v3, main_v4, main_v5, main_c, main_v6, main_v7, main_c_0, main_v8, main_v9, main_c_1, main_v10, main_v11, main_v12, main_v13, main_c_2, main_v14, main_v15, main_c_3, main_v16, main_v17, main_c_4, main_v18, main_v19, main_v20, main_v21, main_v22, main_v23, main_v24, main_v25, main_v26, main_v27]

/-- It leaves every other buffer alone. -/
theorem keep_opsProj {r : Ref sig .tc} (hr : r ∉ w_opsProj) :
    after opsProj V (Proc.devRef .tc r) = V (Proc.devRef .tc r) :=
  after_of_writes_sub _ V (forall_writes_sub_of_map rfl) hr

/-- The buffers that this stretch writes. -/
def w_opsLow : List (Ref sig .tc) := [main_v28]

/-- It leaves every other buffer alone. -/
theorem keep_opsLow {r : Ref sig .tc} (hr : r ∉ w_opsLow) :
    after opsLow V (Proc.devRef .tc r) = V (Proc.devRef .tc r) :=
  after_of_writes_sub _ V (forall_writes_sub_of_map rfl) hr

/-- The buffers that this stretch writes. -/
def w_opsMom : List (Ref sig .tc) := [main_v29, main_v30, main_v31, main_v32, main_v33, main_v34, main_v35, main_v36, main_v37, main_v38, main_cst, main_v39, main_v40, main_cst_5, main_v41, main_v42, main_v43, main_cst_6, main_v44, main_v45, main_cst_7, main_v46, main_v47, main_v48, main_v49, main_cst_8, main_v50, main_v51, main_cst_9, main_v52, main_v53, main_v54, main_cst_10, main_v55, main_v56, main_v57]

/-- It leaves every other buffer alone. -/
theorem keep_opsMom {r : Ref sig .tc} (hr : r ∉ w_opsMom) :
    after opsMom V (Proc.devRef .tc r) = V (Proc.devRef .tc r) :=
  after_of_writes_sub _ V (forall_writes_sub_of_map rfl) hr

/-- The buffers that this stretch writes. -/
def w_opsQm : List (Ref sig .tc) := [main_v58, main_v59, main_cst_11, main_v60, main_cst_12, main_v61, main_v62, main_cst_13, main_v63, main_v64, main_cst_14, main_call2_v0, main_call2_v1, main_v65, main_v66, main_v67, main_v68, main_v69, main_c_15, main_c_16, main_call4_v0, main_call4_v1, main_call4_v2, main_call4_v3, main_call4_v4, main_v70, main_v71, main_v72, main_v73]

/-- It leaves every other buffer alone. -/
theorem keep_opsQm {r : Ref sig .tc} (hr : r ∉ w_opsQm) :
    after opsQm V (Proc.devRef .tc r) = V (Proc.devRef .tc r) :=
  after_of_writes_sub _ V (forall_writes_sub_of_map rfl) hr

/-- The buffers that this stretch writes. -/
def w_opsQv : List (Ref sig .tc) := [main_v74, main_v75, main_cst_17, main_v76, main_cst_18, main_v77, main_v78, main_cst_19, main_v79, main_v80, main_cst_20, main_call5_v0, main_call5_v1, main_v81, main_v82, main_v83, main_v84, main_v85, main_c_21, main_c_22, main_call7_v0, main_call7_v1, main_call7_v2, main_call7_v3, main_call7_v4, main_v86, main_v87, main_v88, main_v89]

/-- It leaves every other buffer alone. -/
theorem keep_opsQv {r : Ref sig .tc} (hr : r ∉ w_opsQv) :
    after opsQv V (Proc.devRef .tc r) = V (Proc.devRef .tc r) :=
  after_of_writes_sub _ V (forall_writes_sub_of_map rfl) hr

/-- The buffers that this stretch writes. -/
def w_opsDel : List (Ref sig .tc) := [main_v90, main_v91, main_cst_23, main_v92, main_v93]

/-- It leaves every other buffer alone. -/
theorem keep_opsDel {r : Ref sig .tc} (hr : r ∉ w_opsDel) :
    after opsDel V (Proc.devRef .tc r) = V (Proc.devRef .tc r) :=
  after_of_writes_sub _ V (forall_writes_sub_of_map rfl) hr

/-- The buffers that this stretch writes. -/
def w_opsW : List (Ref sig .tc) := [main_v94, main_v95, main_v96, main_v97, main_v98, main_v99, main_v100, main_cst_24, main_v101, main_cst_25, main_v102, main_v103, main_cst_26, main_v104, main_v105, main_cst_27, main_call8_v0, main_call8_v1, main_v106, main_v107, main_v108, main_cst_28, main_v109, main_v110, main_v111, main_v112, main_v113, main_v114, main_v115, main_c_29, main_c_30, main_call9_v0, main_call9_v1, main_call9_v2, main_call9_v3, main_call9_v4, main_v116, main_v117, main_v118]

/-- It leaves every other buffer alone. -/
theorem keep_opsW {r : Ref sig .tc} (hr : r ∉ w_opsW) :
    after opsW V (Proc.devRef .tc r) = V (Proc.devRef .tc r) :=
  after_of_writes_sub _ V (forall_writes_sub_of_map rfl) hr

set_option maxHeartbeats 4000000 in
/-- What this stretch leaves in `main_v1`. -/
theorem opsGrad_v1 : after opsGrad V (Proc.devRef .tc main_v1) = grad (V (Proc.devRef .tc main_arg0)) (V (Proc.devRef .tc main_arg1)) := by
  unfold opsGrad; after_results; rfl

set_option maxHeartbeats 4000000 in
/-- What this stretch leaves in `main_v27`. -/
theorem opsProj_v27 : after opsProj V (Proc.devRef .tc main_v27) = proj (V (Proc.devRef .tc main_arg2)) (V (Proc.devRef .tc main_arg3)) := by
  unfold opsProj; after_results; rfl

set_option maxHeartbeats 4000000 in
/-- What this stretch leaves in `main_v28`. -/
theorem opsLow_v28 : after opsLow V (Proc.devRef .tc main_v28) = low (V (Proc.devRef .tc main_v1)) (V (Proc.devRef .tc main_v27)) := by
  unfold opsLow; after_results; rfl

set_option maxHeartbeats 4000000 in
/-- What this stretch leaves in `main_v43`. -/
theorem opsMom_v43 : after opsMom V (Proc.devRef .tc main_v43) = mom1 (stored (V (Proc.devRef .tc main_arg4)) (V (Proc.devRef .tc main_arg5))) (V (Proc.devRef .tc main_v28)) := by
  unfold opsMom; after_results; rfl

set_option maxHeartbeats 4000000 in
/-- What this stretch leaves in `main_v49`. -/
theorem opsMom_v49 : after opsMom V (Proc.devRef .tc main_v49) = mom2 (stored (V (Proc.devRef .tc main_arg6)) (V (Proc.devRef .tc main_arg7))) (V (Proc.devRef .tc main_v28)) := by
  unfold opsMom; after_results; rfl

set_option maxHeartbeats 4000000 in
/-- What this stretch leaves in `main_v57`. -/
theorem opsMom_v57 : after opsMom V (Proc.devRef .tc main_v57) = step (mom1 (stored (V (Proc.devRef .tc main_arg4)) (V (Proc.devRef .tc main_arg5))) (V (Proc.devRef .tc main_v28))) (mom2 (stored (V (Proc.devRef .tc main_arg6)) (V (Proc.devRef .tc main_arg7))) (V (Proc.devRef .tc main_v28))) := by
  unfold opsMom; after_results; rfl

set_option maxHeartbeats 4000000 in
/-- What this stretch leaves in `main_v65`. -/
theorem opsQm_v65 : after opsQm V (Proc.devRef .tc main_v65) = groupScale (V (Proc.devRef .tc main_v43)) := by
  unfold opsQm; after_results; rfl

set_option maxHeartbeats 4000000 in
/-- What this stretch leaves in `main_v73`. -/
theorem opsQm_v73 : after opsQm V (Proc.devRef .tc main_v73) = groupCodes (V (Proc.devRef .tc main_v43)) := by
  unfold opsQm; after_results; rfl

set_option maxHeartbeats 4000000 in
/-- What this stretch leaves in `main_v81`. -/
theorem opsQv_v81 : after opsQv V (Proc.devRef .tc main_v81) = groupScale (V (Proc.devRef .tc main_v49)) := by
  unfold opsQv; after_results; rfl

set_option maxHeartbeats 4000000 in
/-- What this stretch leaves in `main_v89`. -/
theorem opsQv_v89 : after opsQv V (Proc.devRef .tc main_v89) = groupCodes (V (Proc.devRef .tc main_v49)) := by
  unfold opsQv; after_results; rfl

set_option maxHeartbeats 4000000 in
/-- What this stretch leaves in `main_v93`. -/
theorem opsDel_v93 : after opsDel V (Proc.devRef .tc main_v93) = delta (V (Proc.devRef .tc main_v57)) (V (Proc.devRef .tc main_v27)) := by
  unfold opsDel; after_results; rfl

set_option maxHeartbeats 4000000 in
/-- What this stretch leaves in `main_v106`. -/
theorem opsW_v106 : after opsW V (Proc.devRef .tc main_v106) = rowScale (weights (V (Proc.devRef .tc main_arg8)) (V (Proc.devRef .tc main_arg9)) (V (Proc.devRef .tc main_v93))) := by
  unfold opsW; after_results; rfl

set_option maxHeartbeats 4000000 in
/-- What this stretch leaves in `main_v118`. -/
theorem opsW_v118 : after opsW V (Proc.devRef .tc main_v118) = rowCodes (weights (V (Proc.devRef .tc main_arg8)) (V (Proc.devRef .tc main_arg9)) (V (Proc.devRef .tc main_v93))) (V (Proc.devRef .tc main_arg10)) := by
  unfold opsW; after_results; rfl

end Cert.ReferenceIdeal.Hand
-- ==== Proof.RefFrame.lean ====
/- The frame of the reference: it runs to its end and leaves its arguments as they were. -/
module

public import proofs.«01_k».proof.Proof.RefFacts
public import proofs.«01_k».proof.Proof.RefVal
public import proofs.«01_k».proof.Defs
public import Idealize.ShloMosaic.Lib.Pipeline.Frame

@[expose] public section

set_option maxRecDepth 16384

noncomputable section

namespace Cert.ReferenceIdeal.Hand

open Idealize.ShloMosaic Idealize.ShloMosaic.TcCoe Idealize.SL.Sem Cert.ReferenceIdeal
open Idealize.ShloMosaic.StableHlo (after after_append)

variable {F : FTy → Type} [FloatOps F]

/-- All the buffers that the reference writes. -/
def w_ops : List (Ref sig .tc) :=
  w_opsGrad ++ w_opsProj ++ w_opsLow ++ w_opsMom ++ w_opsQm ++ w_opsQv ++ w_opsDel ++ w_opsW

/-- The reference leaves every buffer alone that none of its operations writes. -/
theorem keep_ops (V : Valuation τ sig (Elt F)) {r : Ref sig .tc} (hr : r ∉ w_ops) :
    after ops V (Proc.devRef .tc r) = V (Proc.devRef .tc r) := by
  simp only [w_ops, List.mem_append, not_or] at hr
  obtain ⟨⟨⟨⟨⟨⟨⟨h1, h2⟩, h3⟩, h4⟩, h5⟩, h6⟩, h7⟩, h8⟩ := hr
  simp only [ops, after_append]
  rw [keep_opsW _ h8, keep_opsDel _ h7, keep_opsQv _ h6, keep_opsQm _ h5, keep_opsMom _ h4, keep_opsLow _ h3,
    keep_opsProj _ h2, keep_opsGrad _ h1]

/-- An argument that no operation writes ends as it began. -/
theorem fin_keep (m : (ℓ : Loc nD τ sig) → Buf (Elt F) ℓ) (c : Dev nD) {r : Ref sig .tc} (hr : r ∉ w_ops) :
    fin m c (Proc.devRef .tc r) = m ((c.tc : Thread nD τ).loc r) := keep_ops _ hr

/-- The reference runs, its arguments are unchanged and its counters are at zero. -/
theorem frame : Cert.quiescent_ReferenceIdeal := by
  intro m g _
  refine (θ_run defs _ _).mono (fun r h => ⟨fun c => ?_, h.2⟩) (run (F := Ideal) m g)
  refine ⟨(h.1 c main_arg0).trans (fin_keep m c (by decide)),
    (h.1 c main_arg1).trans (fin_keep m c (by decide)),
    (h.1 c main_arg2).trans (fin_keep m c (by decide)),
    (h.1 c main_arg3).trans (fin_keep m c (by decide)),
    (h.1 c main_arg4).trans (fin_keep m c (by decide)),
    (h.1 c main_arg5).trans (fin_keep m c (by decide)),
    (h.1 c main_arg6).trans (fin_keep m c (by decide)),
    (h.1 c main_arg7).trans (fin_keep m c (by decide)),
    (h.1 c main_arg8).trans (fin_keep m c (by decide)),
    (h.1 c main_arg9).trans (fin_keep m c (by decide)),
    (h.1 c main_arg10).trans (fin_keep m c (by decide))⟩

end Cert.ReferenceIdeal.Hand

end
-- ==== Proof.Row.lean ====
/- One output row of the optimizer step, as plain functions of the entries that it depends on. -/
module

public import proofs.«01_k».proof.Proof.IdealCases
public import Idealize.ShloMosaic.Lib.Pipeline.ValueKit

@[expose] public section

set_option maxRecDepth 16384

noncomputable section

namespace Cert.Row

open Idealize.ShloMosaic Idealize.ShloMosaic.TcCoe

/-- The float of a bit pattern. -/
abbrev lit (b : BitVec 32) : EReal := Ideal.ofBits .f32 b

/-- A signed byte as a number. -/
def num (q : BitVec 8) : EReal := FloatOps.sitofp (F := Ideal) .f32 q

/-- A bound of the codes as a number. -/
def bound (b : BitVec 32) : EReal := ((b.toInt : ℝ) : EReal)

/-- The scale of a group whose largest absolute value is `a`. -/
def scaleOf (a : EReal) : EReal := if a = 0 then 1 else Ideal.div a (lit 1123942400#32)

/-- A rounded entry clipped to the range of the codes, as a byte. -/
def byteOf (x : EReal) : BitVec 8 :=
  FloatOps.fptosi (F := Ideal) (φ := .f32) 8 (min (bound 127#32) (max (bound 4294967169#32) x))

/-- An entry over its scale, to the nearest code. -/
def codeOf (x s : EReal) : BitVec 8 := byteOf (Ideal.liftRound Ideal.roundHalfEven (Ideal.div x s))

/-- An entry over its scale plus a random fraction, to the code below. -/
def floorOf (x s : EReal) (b : BitVec 8) : BitVec 8 :=
  byteOf (Ideal.liftRound Int.floor (Ideal.div x s + FloatOps.sitofp (F := Ideal) .f32 (BitVec.setWidth 32 b) * lit 998244352#32))

/-- The largest absolute value of finitely many entries. -/
def absMax {n : Nat} (f : Fin n → EReal) : EReal :=
  Finset.fold max (lit 4286578688#32) (fun x => FloatOps.absf (F := Ideal) (φ := .f32) (f x)) Finset.univ

/-- What one output row depends on: its row of the gradient at the low rank, the projector, its codes, its scales and its random bytes. -/
structure In where
  low : Fin 512 → EReal
  p : Fin 512 → Fin 3584 → EReal
  mc : Fin 512 → BitVec 8
  ms : Fin 4 → EReal
  vc : Fin 512 → BitVec 8
  vs : Fin 4 → EReal
  wc : Fin 3584 → BitVec 8
  ws : EReal
  sr : Fin 3584 → BitVec 8

namespace In

variable (R : In)

/-- The group of a column. -/
def grp (j : Fin 512) : Fin 4 := ⟨j.val / 128, by omega⟩

/-- A column of a group. -/
def col (q : Fin 4) (x : Fin 128) : Fin 512 := ⟨q.val * 128 + x.val, by omega⟩

/-- The group of a column of a group. -/
theorem grp_col (q : Fin 4) (x : Fin 128) : grp (col q x) = q :=
  Fin.ext (by show (q.val * 128 + x.val) / 128 = q.val; omega)

/-- A column of this group, by its number. -/
theorem col_zero (x : Fin 128) : col 0 x = ⟨x.val, by omega⟩ := Fin.ext (by show 0 * 128 + x.val = x.val; omega)
/-- A column of this group, by its number. -/
theorem col_one (x : Fin 128) : col 1 x = ⟨128 + x.val, by omega⟩ := rfl
/-- A column of this group, by its number. -/
theorem col_two (x : Fin 128) : col 2 x = ⟨256 + x.val, by omega⟩ := rfl
/-- A column of this group, by its number. -/
theorem col_three (x : Fin 128) : col 3 x = ⟨384 + x.val, by omega⟩ := rfl

/-- The new first moment. -/
def m (j : Fin 512) : EReal := lit 1063675494#32 * (num (R.mc j) * R.ms (grp j)) + lit 1036831949#32 * R.low j

/-- The new second moment. -/
def v (j : Fin 512) : EReal := lit 1065336439#32 * (num (R.vc j) * R.vs (grp j)) + lit 981668463#32 * R.low j * R.low j

/-- The first moment at a column of a given group. -/
theorem m_col (q : Fin 4) (x : Fin 128) :
    R.m (col q x) = lit 1063675494#32 * (num (R.mc (col q x)) * R.ms q) + lit 1036831949#32 * R.low (col q x) := by
  unfold m; rw [grp_col]

/-- The second moment at a column of a given group. -/
theorem v_col (q : Fin 4) (x : Fin 128) :
    R.v (col q x) = lit 1065336439#32 * (num (R.vc (col q x)) * R.vs q) + lit 981668463#32 * R.low (col q x) * R.low (col q x) := by
  unfold v; rw [grp_col]

/-- The normalised step. -/
def n (j : Fin 512) : EReal :=
  Ideal.div (Ideal.div (R.m j) (lit 1059503362#32)) (Ideal.sqrt (Ideal.div (R.v j) (lit 1008933580#32)) + lit 841731191#32)

/-- The first moment's scale of a group. -/
def mScale (q : Fin 4) : EReal := scaleOf (absMax fun x => R.m (col q x))

/-- The second moment's scale of a group. -/
def vScale (q : Fin 4) : EReal := scaleOf (absMax fun x => R.v (col q x))

/-- The first moment's codes. -/
def mCode (j : Fin 512) : BitVec 8 := codeOf (R.m j) (R.mScale (grp j))

/-- The second moment's codes. -/
def vCode (j : Fin 512) : BitVec 8 := codeOf (R.v j) (R.vScale (grp j))

/-- The update of the weights. -/
def d (j : Fin 3584) : EReal := lit 981668463#32 * ∑ r, R.n r * R.p r j

/-- The new weights. -/
def w (j : Fin 3584) : EReal := num (R.wc j) * R.ws - R.d j

/-- The weights' scale. -/
def wScale : EReal := scaleOf (absMax R.w)

/-- The weights' codes. -/
def wCode (j : Fin 3584) : BitVec 8 := floorOf (R.w j) R.wScale (R.sr j)

end In

open Cert.KernelIdeal in
/-- The rows of one tile of 128 rows, out of the tile's buffers. -/
def tile (lo : Vec Ideal S128x512 .f32) (x6 : Vec Ideal S128x512 .i8) (x7 : Vec Ideal S4x128 .f32) (x8 : Vec Ideal S128x512 .i8)
    (x9 : Vec Ideal S4x128 .f32) (x10 : Vec Ideal S128x3584 .i8) (x11 : Vec Ideal S1x1x128 .f32) (x12 : Vec Ideal S128x3584 .i8)
    (x23 : Vec Ideal S512x3584 .bf16) (a : Fin 128) : In where
  low j := lo (ix2 a j)
  p r j := x23 (ix2 r j)
  mc j := x6 (ix2 a j)
  ms q := x7 (ix2 q a)
  vc j := x8 (ix2 a j)
  vs q := x9 (ix2 q a)
  wc j := x10 (ix2 a j)
  ws := x11 (ix3 0 0 a)
  sr j := x12 (ix2 a j)

end Cert.Row
-- ==== Proof.Lanes.lean ====
/- Two facts of plain arithmetic: the largest value of 3584 entries taken lane by lane, and a clipped number as a byte. -/
module

public import proofs.«01_k».proof.Proof.Row

@[expose] public section

set_option maxRecDepth 16384

noncomputable section

namespace Cert.Row

open Idealize.ShloMosaic Idealize.ShloMosaic.TcCoe

/-- The maximum after the first four groups of 128 entries. -/
def quad0 (f : ℕ → EReal) (x : ℕ) (m : EReal) : EReal := max (max (max (max m (f x)) (f (128 + x))) (f (256 + x))) (f (384 + x))

/-- The maximum after four more groups of 128 entries, from entry `o`. -/
def quad (f : ℕ → EReal) (o x : ℕ) (m : EReal) : EReal :=
  max (max (max (max m (f (o + x))) (f (o + (128 + x)))) (f (o + (256 + x)))) (f (o + (384 + x)))

/-- The maximum of zero and a lane's 28 entries, in the order in which the body takes it. -/
def lanes (f : ℕ → EReal) (x : ℕ) : EReal :=
  quad f 3072 x (quad f 2560 x (quad f 2048 x (quad f 1536 x (quad f 1024 x (quad f 512 x (quad0 f x 0))))))

/-- The fold of four lanes is at most a number exactly when its start and all four entries are. -/
theorem quad_le (f : ℕ → EReal) (o x : ℕ) (m c : EReal) :
    quad f o x m ≤ c ↔ m ≤ c ∧ ∀ q < 4, f (o + (128 * q + x)) ≤ c := by
  unfold quad
  simp only [max_le_iff]
  constructor
  · rintro ⟨⟨⟨⟨h, h0⟩, h1⟩, h2⟩, h3⟩
    refine ⟨h, fun q hq => ?_⟩
    obtain rfl | rfl | rfl | rfl : q = 0 ∨ q = 1 ∨ q = 2 ∨ q = 3 := by omega
    · simpa using h0
    · exact h1
    · exact h2
    · exact h3
  · rintro ⟨h, hq⟩
    exact ⟨⟨⟨⟨h, by simpa using hq 0 (by omega)⟩, hq 1 (by omega)⟩, hq 2 (by omega)⟩, hq 3 (by omega)⟩

/-- The fold of the first four lanes is the fold with offset zero. -/
theorem quad0_eq (f : ℕ → EReal) (x : ℕ) (m : EReal) : quad0 f x m = quad f 0 x m := by
  unfold quad0 quad; simp only [Nat.zero_add]

/-- The maximum over a lane is below a number when all its entries are. -/
theorem lanes_le (f : ℕ → EReal) (x : ℕ) (c : EReal) :
    lanes f x ≤ c ↔ 0 ≤ c ∧ ∀ q < 28, f (128 * q + x) ≤ c := by
  unfold lanes
  simp only [quad0_eq, quad_le]
  constructor
  · rintro ⟨⟨⟨⟨⟨⟨⟨h, h0⟩, h1⟩, h2⟩, h3⟩, h4⟩, h5⟩, h6⟩
    refine ⟨h, fun q hq => ?_⟩
    have hd := Nat.div_add_mod q 4
    have hm := Nat.mod_lt q (show 4 > 0 by omega)
    obtain e | e | e | e | e | e | e : q / 4 = 0 ∨ q / 4 = 1 ∨ q / 4 = 2 ∨ q / 4 = 3 ∨ q / 4 = 4 ∨ q / 4 = 5 ∨ q / 4 = 6 := by omega
    · rw [show 128 * q + x = 0 + (128 * (q % 4) + x) by omega]; exact h0 _ hm
    · rw [show 128 * q + x = 512 + (128 * (q % 4) + x) by omega]; exact h1 _ hm
    · rw [show 128 * q + x = 1024 + (128 * (q % 4) + x) by omega]; exact h2 _ hm
    · rw [show 128 * q + x = 1536 + (128 * (q % 4) + x) by omega]; exact h3 _ hm
    · rw [show 128 * q + x = 2048 + (128 * (q % 4) + x) by omega]; exact h4 _ hm
    · rw [show 128 * q + x = 2560 + (128 * (q % 4) + x) by omega]; exact h5 _ hm
    · rw [show 128 * q + x = 3072 + (128 * (q % 4) + x) by omega]; exact h6 _ hm
  · rintro ⟨h, hq⟩
    have key : ∀ k < 7, ∀ q < 4, f (512 * k + (128 * q + x)) ≤ c := fun k hk q hq' => by
      rw [show 512 * k + (128 * q + x) = 128 * (4 * k + q) + x by omega]; exact hq _ (by omega)
    exact ⟨⟨⟨⟨⟨⟨⟨h, by simpa using key 0 (by omega)⟩, key 1 (by omega)⟩, key 2 (by omega)⟩, key 3 (by omega)⟩, key 4 (by omega)⟩, key 5 (by omega)⟩,
      key 6 (by omega)⟩

/-- An absolute value is not negative. -/
theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

/-- The maximum over the lanes of the maxima within them is the maximum of all 3584 entries. -/
theorem fold_lanes (b : EReal) (f : ℕ → EReal) (h0 : ∀ k, 0 ≤ f k) :
    Finset.fold max b (fun x : Fin 128 => lanes f x.val) Finset.univ = Finset.fold max b (fun j : Fin 3584 => f j.val) Finset.univ := by
  refine le_antisymm ?_ ?_
  · rw [Finset.fold_max_le]
    refine ⟨(Finset.le_fold_max _).mpr (.inl le_rfl), fun x _ => (lanes_le f x.val _).mpr ⟨?_, fun q hq => ?_⟩⟩
    · exact (h0 0).trans ((Finset.le_fold_max _).mpr (.inr ⟨⟨0, by omega⟩, Finset.mem_univ _, le_rfl⟩))
    · exact (Finset.le_fold_max _).mpr (.inr ⟨⟨128 * q + x.val, by omega⟩, Finset.mem_univ _, le_rfl⟩)
  · rw [Finset.fold_max_le]
    refine ⟨(Finset.le_fold_max _).mpr (.inl le_rfl), fun j _ => ?_⟩
    refine (Finset.le_fold_max _).mpr (.inr ⟨⟨j.val % 128, Nat.mod_lt _ (by omega)⟩, Finset.mem_univ _, ?_⟩)
    have h := ((lanes_le f (j.val % 128) _).mp le_rfl).2 (j.val / 128) (by omega)
    rwa [Nat.div_add_mod] at h

/-- A number clipped to the range of the codes becomes the same byte by way of 32 bits. -/
theorem byteOf_wide (x : EReal) :
    BitVec.setWidth 8 (FloatOps.fptosi (F := Ideal) (φ := .f32) 32 (min (bound 127#32) (max (bound 4294967169#32) x))) = byteOf x := by
  unfold byteOf
  have e1 : bound 127#32 = ((127 : ℝ) : EReal) := by
    show (((127#32 : BitVec 32).toInt : ℝ) : EReal) = _
    rw [show (127#32 : BitVec 32).toInt = 127 by decide]; norm_num
  have e2 : bound 4294967169#32 = ((-127 : ℝ) : EReal) := by
    show (((4294967169#32 : BitVec 32).toInt : ℝ) : EReal) = _
    rw [show (4294967169#32 : BitVec 32).toInt = -127 by decide]; norm_num
  rw [e1, e2]
  obtain ⟨r, hr⟩ : ∃ r : ℝ, min ((127 : ℝ) : EReal) (max ((-127 : ℝ) : EReal) x) = ((min 127 (max (-127) r) : ℝ) : EReal) := by
    induction x with
    | bot => exact ⟨-127, by rw [max_eq_left bot_le, max_self]; exact (EReal.coe_strictMono.monotone.map_min).symm⟩
    | top => exact ⟨127, by rw [max_eq_right le_top, min_eq_left le_top]; norm_num⟩
    | coe r => exact ⟨r, by norm_cast⟩
  rw [hr]
  have hb1 : min 127 (max (-127) r) ≤ (127 : ℝ) := min_le_left _ _
  have hb2 : (-127 : ℝ) ≤ min 127 (max (-127) r) := le_min (by norm_num) (le_max_left _ _)
  generalize min 127 (max (-127) r) = s at *
  show BitVec.setWidth 8 (BitVec.ofInt 32 (Ideal.toIntClamped _ _ (s : EReal))) = BitVec.ofInt 8 (Ideal.toIntClamped _ _ (s : EReal))
  have hc : ∀ lo hi : Int, lo ≤ -127 → 127 ≤ hi → Ideal.toIntClamped lo hi (s : EReal) = (if 0 ≤ s then ⌊s⌋ else ⌈s⌉) := fun lo hi hl hh => by
    show max lo (min hi _) = _
    have a1 : (if 0 ≤ s then ⌊s⌋ else ⌈s⌉) ≤ 127 := by
      split
      · exact_mod_cast (Int.floor_le s).trans hb1
      · exact Int.ceil_le.mpr (by exact_mod_cast hb1)
    have a2 : -127 ≤ (if 0 ≤ s then ⌊s⌋ else ⌈s⌉) := by
      split
      · exact Int.le_floor.mpr (by exact_mod_cast hb2)
      · exact_mod_cast hb2.trans (Int.le_ceil s)
    omega
  rw [hc _ _ (by norm_num) (by norm_num), hc _ _ (by norm_num) (by norm_num)]
  generalize (if 0 ≤ s then ⌊s⌋ else ⌈s⌉) = n
  apply BitVec.eq_of_toNat_eq
  simp only [BitVec.toNat_setWidth, BitVec.toNat_ofInt]
  omega

end Cert.Row
-- ==== Proof.Split.lean ====
/- Splitting the indices of a tile, and the tile's eight results as arrays. -/
module

public import proofs.«01_k».proof.Proof.Lanes

@[expose] public section

set_option maxRecDepth 16384

noncomputable section

namespace Cert.Row

open Cert.KernelIdeal
open Idealize.ShloMosaic Idealize.ShloMosaic.TcCoe

/-- An entry of a slice, as a column of the whole. -/
theorem idx_of (y : S128x512.Idx) (a b : Fin 128) (q : Fin 4) (h1 : (y 1).val = q.val * 128 + ((ix2 a b : S128x128.Idx) 1).val) :
    y 1 = In.col q b := Fin.ext h1

/-- An entry of a slice, as a column of the whole. -/
theorem idx_of0 (y : S128x512.Idx) (a b : Fin 128) (h1 : (y 1).val = ((ix2 a b : S128x128.Idx) 1).val) : y 1 = In.col 0 b :=
  Fin.ext (by rw [h1]; show b.val = 0 * 128 + b.val; omega)

/-- An entry of a slice is in the same row of the whole. -/
theorem row_of (y : S128x512.Idx) (a b : Fin 128) (h1 : (y 0).val = ((ix2 a b : S128x128.Idx) 0).val) : (y 0 : Fin 128) = a := Fin.ext h1

/-- An entry of a slice, as a column of the whole. -/
theorem idxw (y : S128x3584.Idx) (a : Fin 128) (b : Fin 512) (o : ℕ) (h : (y 1).val = o + ((ix2 a b : S128x512.Idx) 1).val) :
    (y 1 : Fin 3584) = ⟨o + b.val, h ▸ (y 1).isLt⟩ := Fin.ext h

/-- An entry of a slice, as a column of the whole. -/
theorem idxw0 (y : S128x3584.Idx) (a : Fin 128) (b : Fin 512) (h : (y 1).val = ((ix2 a b : S128x512.Idx) 1).val) :
    (y 1 : Fin 3584) = ⟨b.val, h ▸ (y 1).isLt⟩ := Fin.ext h

/-- An entry of a slice is in the same row of the whole. -/
theorem roww (y : S128x3584.Idx) (a : Fin 128) (b : Fin 512) (h : (y 0).val = ((ix2 a b : S128x512.Idx) 0).val) :
    (y 0 : Fin 128) = a := Fin.ext h

/-- An index of a two-dimensional shape is its two coordinates. -/
theorem split_of (x : S128x128.Idx) : ∃ a b : Fin 128, x = ix2 a b := ⟨x 0, x 1, by funext k; fin_cases k <;> rfl⟩

/-- Every index of this shape is given by its coordinates. -/
theorem split4_of (x : S4x128.Idx) : ∃ (a : Fin 4) (b : Fin 128), x = ix2 a b := ⟨x 0, x 1, by funext k; fin_cases k <;> rfl⟩

/-- Every index of this shape is given by its coordinates. -/
theorem splitw_of (x : S128x512.Idx) : ∃ (a : Fin 128) (b : Fin 512), x = ix2 a b := ⟨x 0, x 1, by funext k; fin_cases k <;> rfl⟩

/-- Every index of this shape is given by its coordinates. -/
theorem split1_of (x : S1x1x128.Idx) : ∃ a : Fin 128, x = ix3 0 0 a :=
  ⟨x 2, by funext k; fin_cases k; exacts [Fin.ext (by have h : (x 0).val < 1 := (x 0).isLt; show (x 0).val = 0; omega), Fin.ext (by have h : (x 1).val < 1 := (x 1).isLt; show (x 1).val = 0; omega), rfl]⟩

/-- A column is a column of a group. -/
theorem split_col (j : Fin 512) : ∃ (q : Fin 4) (b : Fin 128), j = In.col q b :=
  ⟨⟨j.val / 128, by omega⟩, ⟨j.val % 128, by omega⟩, Fin.ext (by show j.val = j.val / 128 * 128 + j.val % 128; omega)⟩

/-- The tile's 128 rows of the gradient at the low rank: the rows of the gradient block from row `128 * e`, times the projector. -/
def lowOf (e : Fin 4) (x22 : Vec Ideal S512x3584 .bf16) (x24 : Vec Ideal S3584x512 .bf16) : Vec Ideal S128x512 .f32 :=
  fun y => ((∑ x : Fin 3584, x22 (ix2 ⟨128 * e.val + (y 0).val, by have h : (y 0).val < 128 := (y 0).isLt; omega⟩ x) * x24 (ix2 x (y 1)) : EReal))

variable (lo : Vec Ideal S128x512 .f32) (x6 : Vec Ideal S128x512 .i8) (x7 : Vec Ideal S4x128 .f32) (x8 : Vec Ideal S128x512 .i8)
  (x9 : Vec Ideal S4x128 .f32) (x10 : Vec Ideal S128x3584 .i8) (x11 : Vec Ideal S1x1x128 .f32) (x12 : Vec Ideal S128x3584 .i8)
  (x23 : Vec Ideal S512x3584 .bf16)

/-- The weights' codes of a tile. -/
def outW : Vec Ideal S128x3584 .i8 := fun y => (tile lo x6 x7 x8 x9 x10 x11 x12 x23 (y 0)).wCode (y 1)
/-- The weights' scales of a tile. -/
def outWs : Vec Ideal S1x1x128 .f32 := fun y => (tile lo x6 x7 x8 x9 x10 x11 x12 x23 (y 2)).wScale
/-- The update of a tile. -/
def outD : Vec Ideal S128x3584 .f32 := fun y => (tile lo x6 x7 x8 x9 x10 x11 x12 x23 (y 0)).d (y 1)
/-- The normalised step of a tile. -/
def outN : Vec Ideal S128x512 .f32 := fun y => (tile lo x6 x7 x8 x9 x10 x11 x12 x23 (y 0)).n (y 1)
/-- The first moment's codes of a tile. -/
def outM : Vec Ideal S128x512 .i8 := fun y => (tile lo x6 x7 x8 x9 x10 x11 x12 x23 (y 0)).mCode (y 1)
/-- The first moment's scales of a tile. -/
def outMs : Vec Ideal S4x128 .f32 := fun y => (tile lo x6 x7 x8 x9 x10 x11 x12 x23 (y 1)).mScale (y 0)
/-- The second moment's codes of a tile. -/
def outV : Vec Ideal S128x512 .i8 := fun y => (tile lo x6 x7 x8 x9 x10 x11 x12 x23 (y 0)).vCode (y 1)
/-- The second moment's scales of a tile. -/
def outVs : Vec Ideal S4x128 .f32 := fun y => (tile lo x6 x7 x8 x9 x10 x11 x12 x23 (y 1)).vScale (y 0)

end Cert.Row
-- ==== Proof.State.lean ====
/- The buffers of the body at one point of the grid, each with its contents. -/
module

public import proofs.«01_k».proof.Proof.IdealCases
public import proofs.«01_k».proof.Proof.IdealFrame
public import proofs.«01_k».proof.Proof.Split

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body's buffers with the given contents; the last scratch buffer, whose contents nothing reads later, with any. -/
def state (c : Dev nD) (arg2 : Memref sig .tc .vmem S1536x512 .bf16) (arg3 : Memref sig .tc .vmem S1536x3584 .bf16) (arg4 : Memref sig .tc .vmem S512x1792 .i8) (arg5 : Memref sig .tc .vmem S14x512 .f32) (arg6 : Memref sig .tc .vmem S128x512 .i8) (arg7 : Memref sig .tc .vmem S4x128 .f32) (arg8 : Memref sig .tc .vmem S128x512 .i8) (arg9 : Memref sig .tc .vmem S4x128 .f32) (arg10 : Memref sig .tc .vmem S128x3584 .i8) (arg11 : Memref sig .tc .vmem S1x1x128 .f32) (arg12 : Memref sig .tc .vmem S128x3584 .i8) (arg13 : Memref sig .tc .vmem S128x3584 .i8) (arg14 : Memref sig .tc .vmem S1x1x128 .f32) (arg15 : Memref sig .tc .vmem S128x3584 .f32) (arg16 : Memref sig .tc .vmem S128x512 .f32) (arg17 : Memref sig .tc .vmem S128x512 .i8) (arg18 : Memref sig .tc .vmem S4x128 .f32) (arg19 : Memref sig .tc .vmem S128x512 .i8) (arg20 : Memref sig .tc .vmem S4x128 .f32) (arg21 : Memref sig .tc .vmem S512x3584 .f32) (arg22 : Memref sig .tc .vmem S512x3584 .bf16) (arg23 : Memref sig .tc .vmem S512x3584 .bf16) (arg24 : Memref sig .tc .vmem S3584x512 .bf16) (arg25 : Memref sig .tc .vmem S512x1536 .bf16)
    (x2 : Vec Ideal S1536x512 .bf16) (x3 : Vec Ideal S1536x3584 .bf16) (x4 : Vec Ideal S512x1792 .i8) (x5 : Vec Ideal S14x512 .f32) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x13 : Vec Ideal S128x3584 .i8) (x14 : Vec Ideal S1x1x128 .f32) (x15 : Vec Ideal S128x3584 .f32) (x16 : Vec Ideal S128x512 .f32) (x17 : Vec Ideal S128x512 .i8) (x18 : Vec Ideal S4x128 .f32) (x19 : Vec Ideal S128x512 .i8) (x20 : Vec Ideal S4x128 .f32) (x21 : Vec Ideal S512x3584 .f32) (x22 : Vec Ideal S512x3584 .bf16) (x23 : Vec Ideal S512x3584 .bf16) (x24 : Vec Ideal S3584x512 .bf16) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ (∃ d, owns (c : Thread nD τ) arg25 fullShare d))

/-- A buffer that stores cover holds what the stores say. -/
theorem owns_of_writes {s : Shape} {e : EltTy} (c : Dev nD) (arg : Memref sig .tc .vmem s e) (L : List (View.Piece (Elt Ideal) s e)) (g : Fin s.rank → ℕ)
    (Y : Vec Ideal s e) (hg : View.Piece.tiledBy L g = true) (h : View.canon (Val := Elt Ideal) L = Y) :
    iprop(∃ f, arg.view.loc (c : Thread nD τ) ↦[arg.view.set]{fullShare} arg.view.writes (Elt Ideal) f L) ⊢ (owns (c : Thread nD τ) arg fullShare Y : sProp 𝕄) := by
  iintro ⟨%f, H⟩
  unfold owns
  iexists _
  isplitr
  swap
  · iexact H
  · ipureintro
    exact (View.read_writes_eq_canon _ _ _ (View.cover_of_tiledBy L g hg)).trans h

end Cert.KernelIdeal.Value
-- ==== Proof.ExactMain.lean ====
/- The body's exact run: at a point that only adds a product to the accumulator; at the last point of a gradient block: the block is put away. -/
module

public import proofs.«01_k».proof.Proof.IdealCases

@[expose] public section

set_option maxRecDepth 16384

noncomputable section

namespace Cert.KernelIdeal.Value

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores at a point that only adds a product to the accumulator: for each buffer the pieces, last first. -/
structure PiecesAcc (F : FTy → Type) where
  L21 : List (View.Piece (Elt F) S512x3584 .f32)

set_option maxHeartbeats 8000000 in
/-- The body's run at a point that only adds a product to the accumulator. The buffers that it reads come back as they were, and those that it stores into hold the pieces named here,
    which the run finds. -/
def runB (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : ¬cond1 i) (hc2 : cond2 i) (hc3 : ¬cond3 i) (hc4 : ¬cond4 i)
    (x2 : Vec F S1536x512 .bf16) (x3 : Vec F S1536x3584 .bf16) (x21 : Vec F S512x3584 .f32) :
    { L : PiecesAcc F // ∀ (E : Set ℕ) (K : PUnit → sProp 𝕄),
      iprop(owns (c : Thread nD τ) arg2 fullShare x2 ∗ owns (c : Thread nD τ) arg3 fullShare x3 ∗ owns (c : Thread nD τ) arg21 fullShare x21 ∗ (∃ d, owns (c : Thread nD τ) arg25 fullShare d)
          ∗ (iprop(owns (c : Thread nD τ) arg2 fullShare x2 ∗ owns (c : Thread nD τ) arg3 fullShare x3 ∗ (∃ f, arg21.view.loc (c : Thread nD τ) ↦[arg21.view.set]{fullShare} arg21.view.writes (Elt F) f L.L21) ∗ (∃ d, owns (c : Thread nD τ) arg25 fullShare d)) -∗ K ⟨⟩))
        ⊢ wp frame (wpE (defs₀ (F := F)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_⟩, fun E K => ?run⟩
  case run =>
    simp only [cc0_qgalore_eq_skeleton]; unfold cc0_qgalore_skel
    simp only [k0_part47_eq_skeleton]
    unfold owns
    iintro ⟨⟨%f2, %hf2, H2⟩, ⟨%f3, %hf3, H3⟩, ⟨%f21, %hf21, H21⟩, ⟨%d25, %f25, -, H25⟩, Hk⟩
    obtain rfl := harg2.eq_unread hf2; obtain rfl := harg3.eq_unread hf3; obtain rfl := harg21.eq_unread hf21
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H21]
    · iexists _; iexact H21
    iexists _, _; isplitr; swap; · iexact H25
    ipureintro; rfl

/-- What the body stores at the last point of a gradient block: the block is put away: for each buffer the pieces, last first. -/
structure PiecesG (F : FTy → Type) where
  L22 : List (View.Piece (Elt F) S512x3584 .bf16)

set_option maxHeartbeats 8000000 in
/-- The body's run at the last point of a gradient block: the block is put away. The buffers that it reads come back as they were, and those that it stores into hold the pieces named here,
    which the run finds. -/
def runC (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : ¬cond1 i) (hc2 : ¬cond2 i) (hc3 : cond3 i) (hc4 : ¬cond4 i)
    (x2 : Vec F S1536x512 .bf16) (x3 : Vec F S1536x3584 .bf16) (x21 : Vec F S512x3584 .f32) :
    { L : PiecesG F // ∀ (E : Set ℕ) (K : PUnit → sProp 𝕄),
      iprop(owns (c : Thread nD τ) arg2 fullShare x2 ∗ owns (c : Thread nD τ) arg3 fullShare x3 ∗ owns (c : Thread nD τ) arg21 fullShare x21 ∗ (∃ d, owns (c : Thread nD τ) arg22 fullShare d) ∗ (∃ d, owns (c : Thread nD τ) arg25 fullShare d)
          ∗ (iprop(owns (c : Thread nD τ) arg2 fullShare x2 ∗ owns (c : Thread nD τ) arg3 fullShare x3 ∗ owns (c : Thread nD τ) arg21 fullShare x21 ∗ (∃ f, arg22.view.loc (c : Thread nD τ) ↦[arg22.view.set]{fullShare} arg22.view.writes (Elt F) f L.L22) ∗ (∃ d, owns (c : Thread nD τ) arg25 fullShare d)) -∗ K ⟨⟩))
        ⊢ wp frame (wpE (defs₀ (F := F)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_⟩, fun E K => ?run⟩
  case run =>
    simp only [cc0_qgalore_eq_skeleton]; unfold cc0_qgalore_skel
    simp only [k0_part47_eq_skeleton]
    unfold owns
    iintro ⟨⟨%f2, %hf2, H2⟩, ⟨%f3, %hf3, H3⟩, ⟨%f21, %hf21, H21⟩, ⟨%d22, %f22, -, H22⟩, ⟨%d25, %f25, -, H25⟩, Hk⟩
    obtain rfl := harg2.eq_unread hf2; obtain rfl := harg3.eq_unread hf3; obtain rfl := harg21.eq_unread hf21
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H21]
    · iexists _; isplitr; · ipureintro; exact harg21.read_unread _
      iexact H21
    isplitl [H22]
    · iexists _; iexact H22
    iexists _, _; isplitr; swap; · iexact H25
    ipureintro; rfl

end Cert.KernelIdeal.Value
-- ==== Proof.ExactDecode.lean ====
/- The body's exact run: at the first point: the projector is decoded and the first product starts the accumulator. -/
module

public import proofs.«01_k».proof.Proof.IdealCases

@[expose] public section

set_option maxRecDepth 16384

noncomputable section

namespace Cert.KernelIdeal.Value

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores at the first point: the projector is decoded and the first product starts the accumulator: for each buffer the pieces, last first. -/
structure Pieces0 (F : FTy → Type) where
  L21 : List (View.Piece (Elt F) S512x3584 .f32)
  L23 : List (View.Piece (Elt F) S512x3584 .bf16)
  L24 : List (View.Piece (Elt F) S3584x512 .bf16)

set_option maxHeartbeats 8000000 in
/-- The body's run at the first point: the projector is decoded and the first product starts the accumulator. The buffers that it reads come back as they were, and those that it stores into hold the pieces named here,
    which the run finds. -/
def runA (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : cond0 i) (hc1 : ¬cond1 i) (hc2 : cond2 i) (hc3 : ¬cond3 i) (hc4 : ¬cond4 i)
    (x2 : Vec F S1536x512 .bf16) (x3 : Vec F S1536x3584 .bf16) (x4 : Vec F S512x1792 .i8) (x5 : Vec F S14x512 .f32) (x21 : Vec F S512x3584 .f32) :
    { L : Pieces0 F // ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg21 fullShare x21 ∗ (∃ d, owns (c : Thread nD τ) arg23 fullShare d) ∗ (∃ d, owns (c : Thread nD τ) arg24 fullShare d) ∗ (∃ d, owns (c : Thread nD τ) arg25 fullShare d)
          ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg21.view.loc (c : Thread nD τ) ↦[arg21.view.set]{fullShare} arg21.view.writes (Elt F) f L.L21) ∗ (∃ f, arg23.view.loc (c : Thread nD τ) ↦[arg23.view.set]{fullShare} arg23.view.writes (Elt F) f L.L23) ∗ (∃ f, arg24.view.loc (c : Thread nD τ) ↦[arg24.view.set]{fullShare} arg24.view.writes (Elt F) f L.L24) ∗ (∃ d, owns (c : Thread nD τ) arg25 fullShare d)) -∗ K ⟨⟩))
        ⊢ wp frame (wpE (defs₀ (F := F)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_⟩, fun E K => ?run⟩
  case run =>
    simp only [cc0_qgalore_eq_skeleton]; unfold cc0_qgalore_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f2, %hf2, H2⟩, ⟨%f3, %hf3, H3⟩, ⟨%f4, %hf4, H4⟩, ⟨%f5, %hf5, H5⟩, ⟨%f21, %hf21, H21⟩, ⟨%d23, %f23, -, H23⟩, ⟨%d24, %f24, -, H24⟩, ⟨%d25, %f25, -, H25⟩, Hk⟩
    obtain rfl := harg2.eq_unread hf2; obtain rfl := harg3.eq_unread hf3; obtain rfl := harg4.eq_unread hf4; obtain rfl := harg5.eq_unread hf5; obtain rfl := harg21.eq_unread hf21
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H21]
    · iexists _; iexact H21
    isplitl [H23]
    · iexists _; iexact H23
    isplitl [H24]
    · iexists _; iexact H24
    iexists _, _; isplitr; swap; · iexact H25
    ipureintro; rfl

end Cert.KernelIdeal.Value
-- ==== Proof.ExactBoth.lean ====
/- The body's exact run: at a point that adds a product and makes one part of an optimizer step. -/
module

public import proofs.«01_k».proof.Proof.IdealCases

@[expose] public section

set_option maxRecDepth 16384

noncomputable section

namespace Cert.KernelIdeal.Value

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores at a point that adds a product and makes one part of an optimizer step: for each buffer the pieces, last first. -/
structure PiecesD (F : FTy → Type) where
  L13 : List (View.Piece (Elt F) S128x3584 .i8)
  L14 : List (View.Piece (Elt F) S1x1x128 .f32)
  L15 : List (View.Piece (Elt F) S128x3584 .f32)
  L16 : List (View.Piece (Elt F) S128x512 .f32)
  L17 : List (View.Piece (Elt F) S128x512 .i8)
  L18 : List (View.Piece (Elt F) S4x128 .f32)
  L19 : List (View.Piece (Elt F) S128x512 .i8)
  L20 : List (View.Piece (Elt F) S4x128 .f32)
  L21 : List (View.Piece (Elt F) S512x3584 .f32)

set_option maxHeartbeats 8000000 in
/-- The body's run at a point that adds a product and makes one part of an optimizer step. The buffers that it reads come back as they were, and those that it stores into hold the pieces named here,
    which the run finds. -/
def runD (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : cond1 i) (hc2 : ¬cond2 i) (hc3 : ¬cond3 i) (hc4 : ¬cond4 i)
    (x2 : Vec F S1536x512 .bf16) (x3 : Vec F S1536x3584 .bf16) (x6 : Vec F S128x512 .i8) (x7 : Vec F S4x128 .f32) (x8 : Vec F S128x512 .i8) (x9 : Vec F S4x128 .f32) (x10 : Vec F S128x3584 .i8) (x11 : Vec F S1x1x128 .f32) (x12 : Vec F S128x3584 .i8) (x21 : Vec F S512x3584 .f32) (x22 : Vec F S512x3584 .bf16) (x23 : Vec F S512x3584 .bf16) (x24 : Vec F S3584x512 .bf16) :
    { L : PiecesD F // ∀ (E : Set ℕ) (K : PUnit → sProp 𝕄),
      iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ owns (c : Thread nD τ) arg23 fullShare x23 ∗ owns (c : Thread nD τ) arg24 fullShare x24 ∗ (∃ d, owns (c : Thread nD τ) arg25 fullShare d)
          ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L.L13) ∗ (∃ f, arg14.view.loc (c : Thread nD τ) ↦[arg14.view.set]{fullShare} arg14.view.writes (Elt F) f L.L14) ∗ (∃ f, arg15.view.loc (c : Thread nD τ) ↦[arg15.view.set]{fullShare} arg15.view.writes (Elt F) f L.L15) ∗ (∃ f, arg16.view.loc (c : Thread nD τ) ↦[arg16.view.set]{fullShare} arg16.view.writes (Elt F) f L.L16) ∗ (∃ f, arg17.view.loc (c : Thread nD τ) ↦[arg17.view.set]{fullShare} arg17.view.writes (Elt F) f L.L17) ∗ (∃ f, arg18.view.loc (c : Thread nD τ) ↦[arg18.view.set]{fullShare} arg18.view.writes (Elt F) f L.L18) ∗ (∃ f, arg19.view.loc (c : Thread nD τ) ↦[arg19.view.set]{fullShare} arg19.view.writes (Elt F) f L.L19) ∗ (∃ f, arg20.view.loc (c : Thread nD τ) ↦[arg20.view.set]{fullShare} arg20.view.writes (Elt F) f L.L20) ∗ (∃ f, arg21.view.loc (c : Thread nD τ) ↦[arg21.view.set]{fullShare} arg21.view.writes (Elt F) f L.L21) ∗ owns (c : Thread nD τ) arg22 fullShare x22 ∗ owns (c : Thread nD τ) arg23 fullShare x23 ∗ owns (c : Thread nD τ) arg24 fullShare x24 ∗ (∃ d, owns (c : Thread nD τ) arg25 fullShare d)) -∗ K ⟨⟩))
        ⊢ wp frame (wpE (defs₀ (F := F)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_⟩, fun E K => ?run⟩
  case run =>
    simp only [cc0_qgalore_eq_skeleton]; unfold cc0_qgalore_skel
    simp only [k0_part47_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%f24, %hf24, H24⟩, ⟨%d25, %f25, -, H25⟩, Hk⟩
    obtain rfl := harg2.eq_unread hf2; obtain rfl := harg3.eq_unread hf3; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg21.eq_unread hf21; obtain rfl := harg22.eq_unread hf22; obtain rfl := harg23.eq_unread hf23; obtain rfl := harg24.eq_unread hf24
    sl_exec (disch := first | sl_exact hc0 | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    iexists _, _; isplitr; swap; · iexact H25
    ipureintro; rfl

end Cert.KernelIdeal.Value
-- ==== Proof.Accum.lean ====
/- What the body stores of the gradient: one more product on the accumulator, or the finished block. -/
module

public import proofs.«01_k».proof.Proof.ExactMain
public import proofs.«01_k».proof.Proof.ExactDecode
public import proofs.«01_k».proof.Proof.ExactBoth
public import proofs.«01_k».proof.Proof.Split

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic

/-- A product of one block of tokens: the columns of the first against the columns of the second. -/
def prodOf (x2 : Vec Ideal S1536x512 .bf16) (x3 : Vec Ideal S1536x3584 .bf16) : Vec Ideal S512x3584 .f32 :=
  fun y => ((∑ t : Fin 1536, x2 (ix2 t (y 0)) * x3 (ix2 t (y 1)) : EReal))

/-- One more product on the accumulator, which starts at zero when `k` is zero. -/
def addOf (k : ℕ) (x2 : Vec Ideal S1536x512 .bf16) (x3 : Vec Ideal S1536x3584 .bf16) (x21 : Vec Ideal S512x3584 .f32) : Vec Ideal S512x3584 .f32 :=
  fun y => (((if k = 0 then (0 : EReal) else x21 y) + prodOf x2 x3 y : EReal))

/-- The choice at the first step of a block, by the step's number. -/
theorem sel_zero (i : grid0.Coords) (k : ℕ) (hk : (i 1).val = k) (a b : EReal) :
    Scalar.select (Scalar.cmpi CmpIPredicate.eq (BitVec.ofNat 32 (i 1).val) 0#32) a b = if k = 0 then a else b := by
  subst hk
  have h : (i 1).val < 10 := (i 1).isLt
  generalize (i 1).val = n at h
  interval_cases n <;> rfl

/-- Every index of this shape is given by its coordinates. -/
theorem split_acc (x : S512x3584.Idx) : ∃ (a : Fin 512) (b : Fin 3584), x = ix2 a b := ⟨x 0, x 1, by funext k; fin_cases k <;> rfl⟩

/-- The accumulator after the point. -/
theorem pieceAccB (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : ¬cond1 i) (hc2 : cond2 i) (hc3 : ¬cond3 i) (hc4 : ¬cond4 i)
    (x2 : Vec Ideal S1536x512 .bf16) (x3 : Vec Ideal S1536x3584 .bf16) (x21 : Vec Ideal S512x3584 .f32)
    (k : ℕ) (hk : (i 1).val = k) :
    View.canon (Val := Elt Ideal) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21).1.L21 = addOf k x2 x3 x21 := by
  funext y
  unfold runB
  dsimp only
  canon_tiles x h
  obtain ⟨a, b, rfl⟩ := split_acc x
  have e0 : y 0 = a := Fin.ext h0
  have e1 : y 1 = b := Fin.ext h1
  have e : y = ix2 a b := by funext k; fin_cases k; exacts [e0, e1]
  subst e
  simp only [runB.sl.v46, runB.sl.H25_1, View.readCov_eq_canon', View.readAt_eq_ld, Memref.IsWhole.read_unread]
  rw [View.canon_cons_unit_zero (S := S512x1536) (off := ![0, 0]) (by funext k; fin_cases k <;> rfl)]
  unfold addOf
  unfold prodOf
  pointwise [k0_pay287, k0_pay288]
  rw [sel_zero i k hk]

/-- The accumulator after the point. -/
theorem pieceAccD (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : cond1 i) (hc2 : ¬cond2 i) (hc3 : ¬cond3 i) (hc4 : ¬cond4 i)
    (x2 : Vec Ideal S1536x512 .bf16) (x3 : Vec Ideal S1536x3584 .bf16) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x21 : Vec Ideal S512x3584 .f32) (x22 : Vec Ideal S512x3584 .bf16) (x23 : Vec Ideal S512x3584 .bf16) (x24 : Vec Ideal S3584x512 .bf16)
    (k : ℕ) (hk : (i 1).val = k) :
    View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L21 = addOf k x2 x3 x21 := by
  funext y
  unfold runD
  dsimp only
  canon_tiles x h
  obtain ⟨a, b, rfl⟩ := split_acc x
  have e0 : y 0 = a := Fin.ext h0
  have e1 : y 1 = b := Fin.ext h1
  have e : y = ix2 a b := by funext k; fin_cases k; exacts [e0, e1]
  subst e
  simp only [runD.sl.v46, runD.sl.H25_1, View.readCov_eq_canon', View.readAt_eq_ld, Memref.IsWhole.read_unread]
  rw [View.canon_cons_unit_zero (S := S512x1536) (off := ![0, 0]) (by funext k; fin_cases k <;> rfl)]
  unfold addOf
  unfold prodOf
  pointwise [k0_pay118, k0_pay119]
  rw [sel_zero i k hk]

/-- The accumulator after the point. -/
theorem pieceAccA (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : cond0 i) (hc1 : ¬cond1 i) (hc2 : cond2 i) (hc3 : ¬cond3 i) (hc4 : ¬cond4 i)
    (x2 : Vec Ideal S1536x512 .bf16) (x3 : Vec Ideal S1536x3584 .bf16) (x4 : Vec Ideal S512x1792 .i8) (x5 : Vec Ideal S14x512 .f32) (x21 : Vec Ideal S512x3584 .f32)
    (k : ℕ) (hk : (i 1).val = k) :
    View.canon (Val := Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21).1.L21 = addOf k x2 x3 x21 := by
  funext y
  unfold runA
  dsimp only
  canon_tiles x h
  obtain ⟨a, b, rfl⟩ := split_acc x
  have e0 : y 0 = a := Fin.ext h0
  have e1 : y 1 = b := Fin.ext h1
  have e : y = ix2 a b := by funext k; fin_cases k; exacts [e0, e1]
  subst e
  simp only [runA.sl.v46, runA.sl.H25_1, View.readCov_eq_canon', View.readAt_eq_ld, Memref.IsWhole.read_unread]
  rw [View.canon_cons_unit_zero (S := S512x1536) (off := ![0, 0]) (by funext k; fin_cases k <;> rfl)]
  unfold addOf
  unfold prodOf
  pointwise [k0_pay287, k0_pay288, k0_pay1, k0_pay2]
  rw [sel_zero i k hk]

/-- The accumulator after the point. -/
theorem pieceGC (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : ¬cond1 i) (hc2 : ¬cond2 i) (hc3 : cond3 i) (hc4 : ¬cond4 i)
    (x2 : Vec Ideal S1536x512 .bf16) (x3 : Vec Ideal S1536x3584 .bf16) (x21 : Vec Ideal S512x3584 .f32)
     :
    View.canon (Val := Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21).1.L22 = fun y => (x21 y + prodOf x2 x3 y : EReal) := by
  funext y
  unfold runC
  dsimp only
  canon_tiles x h
  obtain ⟨a, b, rfl⟩ := split_acc x
  have e0 : y 0 = a := Fin.ext h0
  have e1 : y 1 = b := Fin.ext h1
  have e : y = ix2 a b := by funext k; fin_cases k; exacts [e0, e1]
  subst e
  simp only [runC.sl.v46, runC.sl.H25_1, View.readCov_eq_canon', View.readAt_eq_ld, Memref.IsWhole.read_unread]
  rw [View.canon_cons_unit_zero (S := S512x1536) (off := ![0, 0]) (by funext k; fin_cases k <;> rfl)]

  unfold prodOf
  pointwise [k0_pay287, k0_pay288, k0_pay1, k0_pay2]

end Cert.KernelIdeal.Value
-- ==== Proof.Decode.lean ====
/- What the body stores of the projector: its packed four-bit codes, read as signed numbers, times their scales. -/
module

public import proofs.«01_k».proof.Proof.ExactDecode
public import proofs.«01_k».proof.Proof.Split

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic

/-- The low and the high four bits of a byte, as a signed number. -/
def nibble (q : BitVec 8) (hi : Bool) : BitVec 32 :=
  IntOp.shrsi ArithUnit.vector (IntOp.shli ArithUnit.vector (BitVec.setWidth 32 q) (if hi then 24#32 else 28#32)) 28#32

/-- An entry of the projector, from the packed codes and their scales. -/
def projAt (x4 : Vec Ideal S512x1792 .i8) (x5 : Vec Ideal S14x512 .f32) (r : Fin 512) (j : Fin 3584) : EReal :=
  FloatOps.sitofp (F := Ideal) .f32 (nibble (x4 (ix2 r ⟨j.val / 2, by omega⟩)) (decide (j.val % 2 = 1))) * x5 (ix2 ⟨j.val / 256, by omega⟩ r)

/-- The same with the choice of the half and the indices spelled out. -/
theorem projAt_of (x4 : Vec Ideal S512x1792 .i8) (x5 : Vec Ideal S14x512 .f32) (z : ℕ) (r r' : Fin 512) (hr : r'.val = r.val) (j : Fin 3584)
    (k : Fin 1792) (hk : k.val = j.val / 2) (g : Fin 14) (hg : g.val = j.val / 256) (hz : z % 2 = j.val % 2) :
    (if z % 2 = 0 then
      FloatOps.sitofp (F := Ideal) FTy.f32 (IntOp.shrsi ArithUnit.vector (IntOp.shli ArithUnit.vector (BitVec.setWidth 32 (x4 (ix2 r' k))) 28#32) 28#32) * x5 (ix2 g r')
    else
      FloatOps.sitofp (F := Ideal) FTy.f32 (IntOp.shrsi ArithUnit.vector (IntOp.shli ArithUnit.vector (BitVec.setWidth 32 (x4 (ix2 r' k))) 24#32) 28#32) * x5 (ix2 g r'))
      = projAt x4 x5 r j := by
  obtain rfl := Fin.ext hr
  unfold projAt nibble
  have ek : k = ⟨j.val / 2, by omega⟩ := Fin.ext hk
  have eg : g = ⟨j.val / 256, by omega⟩ := Fin.ext hg
  rw [ek, eg]
  by_cases h : j.val % 2 = 1
  · rw [if_neg (by omega), decide_eq_true h]; rfl
  · rw [if_pos (by omega), decide_eq_false h]; rfl

/-- Every index of this shape is given by its coordinates. -/
theorem split_p (x : S512x256.Idx) : ∃ (a : Fin 512) (b : Fin 256), x = ix2 a b := ⟨x 0, x 1, by funext k; fin_cases k <;> rfl⟩
/-- Every index of this shape is given by its coordinates. -/
theorem split_pt (x : S256x512.Idx) : ∃ (a : Fin 256) (b : Fin 512), x = ix2 a b := ⟨x 0, x 1, by funext k; fin_cases k <;> rfl⟩

/-- The decoded projector, as stored. -/
theorem pieceL23A (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : cond0 i) (hc1 : ¬cond1 i) (hc2 : cond2 i) (hc3 : ¬cond3 i) (hc4 : ¬cond4 i)
    (x2 : Vec Ideal S1536x512 .bf16) (x3 : Vec Ideal S1536x3584 .bf16) (x4 : Vec Ideal S512x1792 .i8) (x5 : Vec Ideal S14x512 .f32) (x21 : Vec Ideal S512x3584 .f32) :
    View.canon (Val := Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21).1.L23 = (fun y => (projAt x4 x5 (y 0) (y 1)) : Vec Ideal S512x3584 .bf16) := by
  funext y
  unfold runA
  dsimp only
  canon_tiles x h
  all_goals
    obtain ⟨a, b, rfl⟩ := split_p x
    have hl0 : (ix2 a b : S512x256.Idx) 0 = a := rfl
    have hl1 : (ix2 a b : S512x256.Idx) 1 = b := rfl
    have hb : b.val < 256 := b.isLt
    rw [hl0] at h0
    rw [hl1] at h1
    simp only [View.readAt_eq_ld, Memref.IsWhole.read_unread, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay285]
    exact projAt_of x4 x5 _ _ _ (by first | exact h0.symm | exact h1.symm) _ _ (by first | omega | (simp; omega)) _ (by first | omega | (simp; omega)) (by first | omega | (simp; omega))

/-- The decoded projector, as stored. -/
theorem pieceL24A (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : cond0 i) (hc1 : ¬cond1 i) (hc2 : cond2 i) (hc3 : ¬cond3 i) (hc4 : ¬cond4 i)
    (x2 : Vec Ideal S1536x512 .bf16) (x3 : Vec Ideal S1536x3584 .bf16) (x4 : Vec Ideal S512x1792 .i8) (x5 : Vec Ideal S14x512 .f32) (x21 : Vec Ideal S512x3584 .f32) :
    View.canon (Val := Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21).1.L24 = (fun y => (projAt x4 x5 (y 1) (y 0)) : Vec Ideal S3584x512 .bf16) := by
  funext y
  unfold runA
  dsimp only
  canon_tiles x h
  all_goals
    obtain ⟨a, b, rfl⟩ := split_pt x
    have hl0 : (ix2 a b : S256x512.Idx) 0 = a := rfl
    have hl1 : (ix2 a b : S256x512.Idx) 1 = b := rfl
    have hb : a.val < 256 := a.isLt
    rw [hl0] at h0
    rw [hl1] at h1
    simp only [View.readAt_eq_ld, Memref.IsWhole.read_unread, runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay285]
    exact projAt_of x4 x5 _ _ _ (by first | exact h0.symm | exact h1.symm) _ _ (by first | omega | (simp; omega)) _ (by first | omega | (simp; omega)) (by first | omega | (simp; omega))

end Cert.KernelIdeal.Value
-- ==== Proof.StepMain.lean ====
/- The body at the points that make no part of an optimizer step: what every buffer holds afterwards. -/
module

public import proofs.«01_k».proof.Proof.State
public import proofs.«01_k».proof.Proof.Accum
public import proofs.«01_k».proof.Proof.Decode
public import proofs.«01_k».proof.Proof.IdealRun

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (arg2 : Memref sig .tc .vmem S1536x512 .bf16) (harg2 : arg2.IsWhole)
  (arg3 : Memref sig .tc .vmem S1536x3584 .bf16) (harg3 : arg3.IsWhole)
  (arg4 : Memref sig .tc .vmem S512x1792 .i8) (harg4 : arg4.IsWhole)
  (arg5 : Memref sig .tc .vmem S14x512 .f32) (harg5 : arg5.IsWhole)
  (arg6 : Memref sig .tc .vmem S128x512 .i8) (harg6 : arg6.IsWhole)
  (arg7 : Memref sig .tc .vmem S4x128 .f32) (harg7 : arg7.IsWhole)
  (arg8 : Memref sig .tc .vmem S128x512 .i8) (harg8 : arg8.IsWhole)
  (arg9 : Memref sig .tc .vmem S4x128 .f32) (harg9 : arg9.IsWhole)
  (arg10 : Memref sig .tc .vmem S128x3584 .i8) (harg10 : arg10.IsWhole)
  (arg11 : Memref sig .tc .vmem S1x1x128 .f32) (harg11 : arg11.IsWhole)
  (arg12 : Memref sig .tc .vmem S128x3584 .i8) (harg12 : arg12.IsWhole)
  (arg13 : Memref sig .tc .vmem S128x3584 .i8) (harg13 : arg13.IsWhole)
  (arg14 : Memref sig .tc .vmem S1x1x128 .f32) (harg14 : arg14.IsWhole)
  (arg15 : Memref sig .tc .vmem S128x3584 .f32) (harg15 : arg15.IsWhole)
  (arg16 : Memref sig .tc .vmem S128x512 .f32) (harg16 : arg16.IsWhole)
  (arg17 : Memref sig .tc .vmem S128x512 .i8) (harg17 : arg17.IsWhole)
  (arg18 : Memref sig .tc .vmem S4x128 .f32) (harg18 : arg18.IsWhole)
  (arg19 : Memref sig .tc .vmem S128x512 .i8) (harg19 : arg19.IsWhole)
  (arg20 : Memref sig .tc .vmem S4x128 .f32) (harg20 : arg20.IsWhole)
  (arg21 : Memref sig .tc .vmem S512x3584 .f32) (harg21 : arg21.IsWhole)
  (arg22 : Memref sig .tc .vmem S512x3584 .bf16) (harg22 : arg22.IsWhole)
  (arg23 : Memref sig .tc .vmem S512x3584 .bf16) (harg23 : arg23.IsWhole)
  (arg24 : Memref sig .tc .vmem S3584x512 .bf16) (harg24 : arg24.IsWhole)
  (arg25 : Memref sig .tc .vmem S512x1536 .bf16) (harg25 : arg25.IsWhole)

set_option maxHeartbeats 4000000 in
/-- At the first point: the projector is decoded and the first product made. -/
theorem atA (c : Dev nD) (i : grid0.Coords) (hc0 : cond0 i) (hc1 : ¬cond1 i) (hc2 : cond2 i) (hc3 : ¬cond3 i) (hc4 : ¬cond4 i) (k : ℕ) (hk : (i 1).val = k)
    (x2 : Vec Ideal S1536x512 .bf16) (x3 : Vec Ideal S1536x3584 .bf16) (x4 : Vec Ideal S512x1792 .i8) (x5 : Vec Ideal S14x512 .f32) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x13 : Vec Ideal S128x3584 .i8) (x14 : Vec Ideal S1x1x128 .f32) (x15 : Vec Ideal S128x3584 .f32) (x16 : Vec Ideal S128x512 .f32) (x17 : Vec Ideal S128x512 .i8) (x18 : Vec Ideal S4x128 .f32) (x19 : Vec Ideal S128x512 .i8) (x20 : Vec Ideal S4x128 .f32) (x21 : Vec Ideal S512x3584 .f32) (x22 : Vec Ideal S512x3584 .bf16) (x23 : Vec Ideal S512x3584 .bf16) (x24 : Vec Ideal S3584x512 .bf16) (E : Set ℕ) (K : PUnit → sProp 𝕄) :
    iprop(state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 x22 x23 x24 ∗ (state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 (addOf k x2 x3 x21) x22 (fun y => projAt x4 x5 (y 0) (y 1)) (fun y => projAt x4 x5 (y 1) (y 0)) -∗ K ⟨⟩))
      ⊢ wp frame (wpE (defs₀ (F := Ideal)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold state
  iintro ⟨⟨H2, H3, H4, H5, H6, H7, H8, H9, H10, H11, H12, H13, H14, H15, H16, H17, H18, H19, H20, H21, H22, H23, H24, H25⟩, Hk⟩
  iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21).2 E K)
  isplitl [H2]
  · iexact H2
  isplitl [H3]
  · iexact H3
  isplitl [H4]
  · iexact H4
  isplitl [H5]
  · iexact H5
  isplitl [H21]
  · iexact H21
  isplitl [H23]
  · iexists _; iexact H23
  isplitl [H24]
  · iexists _; iexact H24
  isplitl [H25]
  · iexact H25
  iintro ⟨H2, H3, H4, H5, H21, H23, H24, H25⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iapply (owns_of_writes c arg21 (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21).1.L21 ![512, 512] _ (by sl_kernel_rfl) (pieceAccA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21 k hk))
    iexact H21
  isplitl [H22]
  · iexact H22
  isplitl [H23]
  · iapply (owns_of_writes c arg23 (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21).1.L23 ![512, 256] _ (by sl_kernel_rfl) (pieceL23A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21))
    iexact H23
  isplitl [H24]
  · iapply (owns_of_writes c arg24 (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21).1.L24 ![256, 512] _ (by sl_kernel_rfl) (pieceL24A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x4 x5 x21))
    iexact H24
  iexact H25

set_option maxHeartbeats 4000000 in
/-- At a point that adds a product. -/
theorem atB (c : Dev nD) (i : grid0.Coords) (hc0 : ¬cond0 i) (hc1 : ¬cond1 i) (hc2 : cond2 i) (hc3 : ¬cond3 i) (hc4 : ¬cond4 i) (k : ℕ) (hk : (i 1).val = k)
    (x2 : Vec Ideal S1536x512 .bf16) (x3 : Vec Ideal S1536x3584 .bf16) (x4 : Vec Ideal S512x1792 .i8) (x5 : Vec Ideal S14x512 .f32) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x13 : Vec Ideal S128x3584 .i8) (x14 : Vec Ideal S1x1x128 .f32) (x15 : Vec Ideal S128x3584 .f32) (x16 : Vec Ideal S128x512 .f32) (x17 : Vec Ideal S128x512 .i8) (x18 : Vec Ideal S4x128 .f32) (x19 : Vec Ideal S128x512 .i8) (x20 : Vec Ideal S4x128 .f32) (x21 : Vec Ideal S512x3584 .f32) (x22 : Vec Ideal S512x3584 .bf16) (x23 : Vec Ideal S512x3584 .bf16) (x24 : Vec Ideal S3584x512 .bf16) (E : Set ℕ) (K : PUnit → sProp 𝕄) :
    iprop(state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 x22 x23 x24 ∗ (state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 (addOf k x2 x3 x21) x22 x23 x24 -∗ K ⟨⟩))
      ⊢ wp frame (wpE (defs₀ (F := Ideal)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold state
  iintro ⟨⟨H2, H3, H4, H5, H6, H7, H8, H9, H10, H11, H12, H13, H14, H15, H16, H17, H18, H19, H20, H21, H22, H23, H24, H25⟩, Hk⟩
  iapply ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21).2 E K)
  isplitl [H2]
  · iexact H2
  isplitl [H3]
  · iexact H3
  isplitl [H21]
  · iexact H21
  isplitl [H25]
  · iexact H25
  iintro ⟨H2, H3, H21, H25⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iapply (owns_of_writes c arg21 (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21).1.L21 ![512, 512] _ (by sl_kernel_rfl) (pieceAccB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21 k hk))
    iexact H21
  isplitl [H22]
  · iexact H22
  isplitl [H23]
  · iexact H23
  isplitl [H24]
  · iexact H24
  iexact H25

set_option maxHeartbeats 4000000 in
/-- At the last product of a block, which is put away. -/
theorem atC (c : Dev nD) (i : grid0.Coords) (hc0 : ¬cond0 i) (hc1 : ¬cond1 i) (hc2 : ¬cond2 i) (hc3 : cond3 i) (hc4 : ¬cond4 i)
    (x2 : Vec Ideal S1536x512 .bf16) (x3 : Vec Ideal S1536x3584 .bf16) (x4 : Vec Ideal S512x1792 .i8) (x5 : Vec Ideal S14x512 .f32) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x13 : Vec Ideal S128x3584 .i8) (x14 : Vec Ideal S1x1x128 .f32) (x15 : Vec Ideal S128x3584 .f32) (x16 : Vec Ideal S128x512 .f32) (x17 : Vec Ideal S128x512 .i8) (x18 : Vec Ideal S4x128 .f32) (x19 : Vec Ideal S128x512 .i8) (x20 : Vec Ideal S4x128 .f32) (x21 : Vec Ideal S512x3584 .f32) (x22 : Vec Ideal S512x3584 .bf16) (x23 : Vec Ideal S512x3584 .bf16) (x24 : Vec Ideal S3584x512 .bf16) (E : Set ℕ) (K : PUnit → sProp 𝕄) :
    iprop(state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 x22 x23 x24 ∗ (state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 (addOf 9 x2 x3 x21) x23 x24 -∗ K ⟨⟩))
      ⊢ wp frame (wpE (defs₀ (F := Ideal)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold state
  iintro ⟨⟨H2, H3, H4, H5, H6, H7, H8, H9, H10, H11, H12, H13, H14, H15, H16, H17, H18, H19, H20, H21, H22, H23, H24, H25⟩, Hk⟩
  iapply ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21).2 E K)
  isplitl [H2]
  · iexact H2
  isplitl [H3]
  · iexact H3
  isplitl [H21]
  · iexact H21
  isplitl [H22]
  · iexists _; iexact H22
  isplitl [H25]
  · iexact H25
  iintro ⟨H2, H3, H21, H22, H25⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iapply (owns_of_writes c arg22 (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21).1.L22 ![512, 512] _ (by sl_kernel_rfl) ((pieceGC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x21).trans rfl))
    iexact H22
  isplitl [H23]
  · iexact H23
  isplitl [H24]
  · iexact H24
  iexact H25

set_option maxHeartbeats 4000000 in
/-- At a point at which nothing is done. -/
theorem atN (c : Dev nD) (i : grid0.Coords) (hc0 : ¬cond0 i) (hc1 : ¬cond1 i) (hc2 : ¬cond2 i) (hc3 : ¬cond3 i) (hc4 : ¬cond4 i)
    (x2 : Vec Ideal S1536x512 .bf16) (x3 : Vec Ideal S1536x3584 .bf16) (x4 : Vec Ideal S512x1792 .i8) (x5 : Vec Ideal S14x512 .f32) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x13 : Vec Ideal S128x3584 .i8) (x14 : Vec Ideal S1x1x128 .f32) (x15 : Vec Ideal S128x3584 .f32) (x16 : Vec Ideal S128x512 .f32) (x17 : Vec Ideal S128x512 .i8) (x18 : Vec Ideal S4x128 .f32) (x19 : Vec Ideal S128x512 .i8) (x20 : Vec Ideal S4x128 .f32) (x21 : Vec Ideal S512x3584 .f32) (x22 : Vec Ideal S512x3584 .bf16) (x23 : Vec Ideal S512x3584 .bf16) (x24 : Vec Ideal S3584x512 .bf16) (E : Set ℕ) (K : PUnit → sProp 𝕄) :
    iprop(state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 x22 x23 x24 ∗ (state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 x22 x23 x24 -∗ K ⟨⟩))
      ⊢ wp frame (wpE (defs₀ (F := Ideal)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_qgalore_eq_skeleton]; unfold cc0_qgalore_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  iintro ⟨H, Hk⟩
  sl_exec (disch := first | sl_exact hc0 | sl_exact hc1 | sl_exact hc2 | sl_exact hc3 | sl_exact hc4)
  sl_step
  iapply Hk
  iexact H

end Cert.KernelIdeal.Value
-- ==== Proof.TileBoth.lean ====
/- What the body stores of the optimizer step at a point of the kind of `runD`, entry by entry. -/
module

public import proofs.«01_k».proof.Proof.ExactBoth
public import proofs.«01_k».proof.Proof.Split

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic

variable (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : cond1 i) (hc2 : ¬cond2 i) (hc3 : ¬cond3 i) (hc4 : ¬cond4 i)
    (x2 : Vec Ideal S1536x512 .bf16) (x3 : Vec Ideal S1536x3584 .bf16) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x21 : Vec Ideal S512x3584 .f32) (x22 : Vec Ideal S512x3584 .bf16) (x23 : Vec Ideal S512x3584 .bf16) (x24 : Vec Ideal S3584x512 .bf16)

/-- The tile's rows of the gradient at the low rank. -/
theorem lowD (e : Fin 4) (he : k0_off1 i = ![128 * e.val, 0]) : (runD.sl.r c i arg22 harg22 arg24 harg24 hc1 x22 x24) = lowOf e x22 x24 := by
  funext y
  unfold runD.sl.r lowOf
  simp only [View.readAt_eq_ld, Memref.IsWhole.read_unread]
  have h0 : k0_off1 i 0 = 128 * e.val := by rw [he]; rfl
  have h1 : k0_off1 i 1 = 0 := by rw [he]; rfl
  pointwise [k0_pay120]
  simp only [h0, h1, Nat.zero_add]

/-- The normalised step, as stored. -/
theorem pieceND : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L16 = outN (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 0)).n (y 1)
  unfold runD
  dsimp only
  canon_tiles x h
  all_goals
    obtain ⟨a, b, rfl⟩ := split_of x
    simp only [View.readAt_eq_ld, Memref.IsWhole.read_unread, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.r_28, runD.sl.r_29, runD.sl.r_30, runD.sl.r_31, runD.sl.r_32, runD.sl.r_33, runD.sl.r_34, runD.sl.r_35, runD.sl.cst_150, runD.sl.cst_194, runD.sl.cst_53, runD.sl.cst_68]
    simp only [runD.sl.r, View.readAt_eq_ld, Memref.IsWhole.read_unread]
    first | rw [row_of y a b h0, idx_of y a b 3 h1] | rw [row_of y a b h0, idx_of y a b 2 h1] | rw [row_of y a b h0, idx_of y a b 1 h1] | rw [row_of y a b h0, idx_of0 y a b h1]
    simp only [In.n, In.mCode, In.mScale, In.vCode, In.vScale, In.grp_col, In.m_col, In.v_col]
    simp only [In.col_zero, In.col_one, In.col_two, In.col_three]
    pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, tile, num, lit, scaleOf, codeOf, byteOf, absMax, bound]
    try rfl

/-- The first moment's codes, as stored. -/
theorem pieceMD : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L17 = outM (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 0)).mCode (y 1)
  unfold runD
  dsimp only
  canon_tiles x h
  all_goals
    obtain ⟨a, b, rfl⟩ := split_of x
    simp only [View.readAt_eq_ld, Memref.IsWhole.read_unread, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.r_28, runD.sl.r_29, runD.sl.r_30, runD.sl.r_31, runD.sl.r_32, runD.sl.r_33, runD.sl.r_34, runD.sl.r_35, runD.sl.cst_150, runD.sl.cst_194, runD.sl.cst_53, runD.sl.cst_68]
    simp only [runD.sl.r, View.readAt_eq_ld, Memref.IsWhole.read_unread]
    first | rw [row_of y a b h0, idx_of y a b 3 h1] | rw [row_of y a b h0, idx_of y a b 2 h1] | rw [row_of y a b h0, idx_of y a b 1 h1] | rw [row_of y a b h0, idx_of0 y a b h1]
    simp only [In.n, In.mCode, In.mScale, In.vCode, In.vScale, In.grp_col, In.m_col, In.v_col]
    simp only [In.col_zero, In.col_one, In.col_two, In.col_three]
    pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, tile, num, lit, scaleOf, codeOf, byteOf, absMax, bound]
    try rfl

/-- The second moment's codes, as stored. -/
theorem pieceVD : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L19 = outV (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 0)).vCode (y 1)
  unfold runD
  dsimp only
  canon_tiles x h
  all_goals
    obtain ⟨a, b, rfl⟩ := split_of x
    simp only [View.readAt_eq_ld, Memref.IsWhole.read_unread, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.r_28, runD.sl.r_29, runD.sl.r_30, runD.sl.r_31, runD.sl.r_32, runD.sl.r_33, runD.sl.r_34, runD.sl.r_35, runD.sl.cst_150, runD.sl.cst_194, runD.sl.cst_53, runD.sl.cst_68]
    simp only [runD.sl.r, View.readAt_eq_ld, Memref.IsWhole.read_unread]
    first | rw [row_of y a b h0, idx_of y a b 3 h1] | rw [row_of y a b h0, idx_of y a b 2 h1] | rw [row_of y a b h0, idx_of y a b 1 h1] | rw [row_of y a b h0, idx_of0 y a b h1]
    simp only [In.n, In.mCode, In.mScale, In.vCode, In.vScale, In.grp_col, In.m_col, In.v_col]
    simp only [In.col_zero, In.col_one, In.col_two, In.col_three]
    pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, tile, num, lit, scaleOf, codeOf, byteOf, absMax, bound]
    try rfl

/-- The first moment's scales, as stored. -/
theorem pieceMsD : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L18 = outMs (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 1)).mScale (y 0)
  unfold runD
  dsimp only
  canon_tiles x h
  all_goals
    simp only [View.readAt_eq_ld, Memref.IsWhole.read_unread, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.r_28, runD.sl.r_29, runD.sl.r_30, runD.sl.r_31, runD.sl.r_32, runD.sl.r_33, runD.sl.r_34, runD.sl.r_35, runD.sl.cst_150, runD.sl.cst_194, runD.sl.cst_53, runD.sl.cst_68]
    simp only [runD.sl.r, View.readAt_eq_ld, Memref.IsWhole.read_unread]
    obtain ⟨q, a, rfl⟩ := split4_of x
    have e0 : y 0 = q := Fin.ext h0
    have e1 : y 1 = a := Fin.ext h1
    rw [e0, e1]
    clear h0 h1 e0 e1
    obtain rfl | rfl | rfl | rfl : q = 0 ∨ q = 1 ∨ q = 2 ∨ q = 3 := by omega
    all_goals
      simp only [In.mScale, In.vScale, In.m_col, In.v_col]
      simp only [In.col_zero, In.col_one, In.col_two, In.col_three]
      pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, runD.sl.v402, tile, num, lit, scaleOf, absMax]
      try rfl

/-- The second moment's scales, as stored. -/
theorem pieceVsD : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L20 = outVs (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 1)).vScale (y 0)
  unfold runD
  dsimp only
  canon_tiles x h
  all_goals
    simp only [View.readAt_eq_ld, Memref.IsWhole.read_unread, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.r_28, runD.sl.r_29, runD.sl.r_30, runD.sl.r_31, runD.sl.r_32, runD.sl.r_33, runD.sl.r_34, runD.sl.r_35, runD.sl.cst_150, runD.sl.cst_194, runD.sl.cst_53, runD.sl.cst_68]
    simp only [runD.sl.r, View.readAt_eq_ld, Memref.IsWhole.read_unread]
    obtain ⟨q, a, rfl⟩ := split4_of x
    have e0 : y 0 = q := Fin.ext h0
    have e1 : y 1 = a := Fin.ext h1
    rw [e0, e1]
    clear h0 h1 e0 e1
    obtain rfl | rfl | rfl | rfl : q = 0 ∨ q = 1 ∨ q = 2 ∨ q = 3 := by omega
    all_goals
      simp only [In.mScale, In.vScale, In.m_col, In.v_col]
      simp only [In.col_zero, In.col_one, In.col_two, In.col_three]
      pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, runD.sl.v402, tile, num, lit, scaleOf, absMax]
      try rfl

/-- The normalised step, as the update reads it. -/
theorem stepD (a : Fin 128) (j : Fin 512) : (runD.sl.r_36 c i arg6 harg6 arg7 harg7 arg8 harg8 arg9 harg9 arg22 harg22 arg24 harg24 hc1 x6 x7 x8 x9 x22 x24) (ix2 a j) = (tile (runD.sl.r c i arg22 harg22 arg24 harg24 hc1 x22 x24) x6 x7 x8 x9 x10 x11 x12 x23 a).n j := by
  obtain ⟨q, b, rfl⟩ := split_col j
  obtain rfl | rfl | rfl | rfl : q = 0 ∨ q = 1 ∨ q = 2 ∨ q = 3 := by omega
  all_goals
    simp only [View.readAt_eq_ld, Memref.IsWhole.read_unread, runD.sl.r_1, runD.sl.r_2, runD.sl.r_3, runD.sl.r_4, runD.sl.r_5, runD.sl.r_6, runD.sl.r_7, runD.sl.r_8, runD.sl.r_9, runD.sl.r_10, runD.sl.r_11, runD.sl.r_12, runD.sl.r_13, runD.sl.r_14, runD.sl.r_15, runD.sl.r_16, runD.sl.r_17, runD.sl.r_18, runD.sl.r_19, runD.sl.r_20, runD.sl.r_21, runD.sl.r_22, runD.sl.r_23, runD.sl.r_24, runD.sl.r_25, runD.sl.r_26, runD.sl.r_27, runD.sl.r_28, runD.sl.r_29, runD.sl.r_30, runD.sl.r_31, runD.sl.r_32, runD.sl.r_33, runD.sl.r_34, runD.sl.r_35, runD.sl.r_36, runD.sl.cst_150, runD.sl.cst_194, runD.sl.cst_53, runD.sl.cst_68]
    simp only [runD.sl.r, View.readAt_eq_ld, Memref.IsWhole.read_unread]
    simp only [In.n, In.m_col, In.v_col]
    simp only [In.col_zero, In.col_one, In.col_two, In.col_three]
    pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, tile, num, lit]
    try (split_ifs <;> first | omega | (simp only [Nat.sub_sub, Nat.reduceAdd, Nat.add_sub_cancel_left]; done) | rfl)

/-- The update, as stored. -/
theorem pieceDD : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L15 = outD (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 0)).d (y 1)
  unfold runD
  dsimp only
  unfold runD.sl.H15_7
  canon_tiles x h
  all_goals
    obtain ⟨a, b, rfl⟩ := splitw_of x
    first | rw [roww y a b h0, idxw y a b _ h1] | rw [roww y a b h0, idxw0 y a b h1]
    have hn := stepD c i arg6 harg6 arg7 harg7 arg8 harg8 arg9 harg9 arg22 harg22 arg24 harg24 hc1 x6 x7 x8 x9 x10 x11 x12 x22 x23 x24 a
    simp only [View.readAt_eq_ld, Memref.IsWhole.read_unread, runD.sl.r_37, runD.sl.r_38, runD.sl.r_39, runD.sl.r_40, runD.sl.r_41, runD.sl.r_42, runD.sl.r_43, runD.sl.r_44, runD.sl.r_45, runD.sl.r_46, runD.sl.cst_150, runD.sl.cst_194, runD.sl.cst_53, runD.sl.cst_68]
    skip
    obtain ⟨nb, hnb⟩ : ∃ nb, (runD.sl.r_36 c i arg6 harg6 arg7 harg7 arg8 harg8 arg9 harg9 arg22 harg22 arg24 harg24 hc1 x6 x7 x8 x9 x22 x24) = nb := ⟨_, rfl⟩
    rw [hnb] at hn
    unfold runD.sl.r_36 at hnb
    try simp only [runD.sl.r_36]
    unfold In.d
    simp only [← hn]
    pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, tile, lit]
    try simp only [hnb]
    try rfl

/-- The weights' scales, as the codes read them. -/
theorem scaleD (a : Fin 128) : (runD.sl.r_43 c i arg6 harg6 arg7 harg7 arg8 harg8 arg9 harg9 arg10 harg10 arg11 harg11 arg22 harg22 arg23 harg23 arg24 harg24 hc1 x6 x7 x8 x9 x10 x11 x22 x23 x24) (ix2 a 0) = (tile (runD.sl.r c i arg22 harg22 arg24 harg24 hc1 x22 x24) x6 x7 x8 x9 x10 x11 x12 x23 a).wScale := by
  have hn := stepD c i arg6 harg6 arg7 harg7 arg8 harg8 arg9 harg9 arg22 harg22 arg24 harg24 hc1 x6 x7 x8 x9 x10 x11 x12 x22 x23 x24 a
  simp only [View.readAt_eq_ld, Memref.IsWhole.read_unread, runD.sl.r_37, runD.sl.r_38, runD.sl.r_39, runD.sl.r_40, runD.sl.r_41, runD.sl.r_42, runD.sl.r_43, runD.sl.r_44, runD.sl.r_45, runD.sl.r_46, runD.sl.cst_150, runD.sl.cst_194, runD.sl.cst_53, runD.sl.cst_68]
  skip
  obtain ⟨nb, hnb⟩ : ∃ nb, (runD.sl.r_36 c i arg6 harg6 arg7 harg7 arg8 harg8 arg9 harg9 arg22 harg22 arg24 harg24 hc1 x6 x7 x8 x9 x22 x24) = nb := ⟨_, rfl⟩
  rw [hnb] at hn
  unfold runD.sl.r_36 at hnb
  try simp only [runD.sl.r_36]
  unfold In.wScale absMax In.w In.d
  simp only [← hn]
  clear hn
  pointwise [k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay286, tile, num, lit, scaleOf]
  simp only [hnb]
  have key := fold_lanes (Ideal.ofBits FTy.f32 4286578688#32) (fun k => if h : k < 3584 then FloatOps.absf (F := Ideal) (φ := .f32)
      (FloatOps.sitofp (F := Ideal) FTy.f32 (x10 (ix2 a ⟨k, h⟩)) * x11 (ix3 0 0 a) - Ideal.ofBits FTy.f32 981668463#32 * ∑ y, nb (ix2 a y) * x23 (ix2 y ⟨k, h⟩)) else 0)
    (fun k => by split; exacts [absf_nonneg _, le_rfl])
  simp only [lanes, quad, quad0] at key
  simp (disch := omega) only [dif_pos] at key
  rw [key]

/-- The weights' scales, as stored. -/
theorem pieceWsD : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L14 = outWs (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 2)).wScale
  have hs := scaleD c i arg6 harg6 arg7 harg7 arg8 harg8 arg9 harg9 arg10 harg10 arg11 harg11 arg22 harg22 arg23 harg23 arg24 harg24 hc1 x6 x7 x8 x9 x10 x11 x12 x22 x23 x24 (y 2)
  unfold runD
  dsimp only
  canon_tiles x h
  obtain ⟨a, rfl⟩ := split1_of x
  have e : (y 2 : Fin 128) = a := Fin.ext (by assumption)
  rw [e] at hs ⊢
  rw [← hs]
  skip
  pointwise [k0_pay188]

/-- The weights' codes, as stored. -/
theorem pieceWD : View.canon (Val := Elt Ideal) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L13 = outW (runD.sl.r c i arg22 harg22 arg24 harg24 hc1 x22 x24) x6 x7 x8 x9 x10 x11 x12 x23 := by
  funext y
  show _ = (tile (runD.sl.r c i arg22 harg22 arg24 harg24 hc1 x22 x24) x6 x7 x8 x9 x10 x11 x12 x23 (y 0)).wCode (y 1)
  have hd := pieceDD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24
  unfold runD at hd ⊢
  dsimp only at hd ⊢
  canon_tiles x h
  all_goals
    obtain ⟨a, b, rfl⟩ := splitw_of x
    first | rw [roww y a b h0, idxw y a b _ h1] | rw [roww y a b h0, idxw0 y a b h1]
    have hs := scaleD c i arg6 harg6 arg7 harg7 arg8 harg8 arg9 harg9 arg10 harg10 arg11 harg11 arg22 harg22 arg23 harg23 arg24 harg24 hc1 x6 x7 x8 x9 x10 x11 x12 x22 x23 x24 a
    simp only [runD.sl.r_44, runD.sl.r_45, runD.sl.r_46, runD.sl.v584, runD.sl.v608, runD.sl.v632, runD.sl.v656, runD.sl.v680, runD.sl.v704, runD.sl.v728, View.readCov_eq_canon', hd, runD.sl.cst_150, runD.sl.cst_194, runD.sl.cst_53, runD.sl.cst_68]
    simp only [View.readAt_eq_ld, Memref.IsWhole.read_unread]
    have hw : runD.sl.r_37 c arg11 harg11 x11 (ix2 a 0) = x11 (ix3 0 0 a) := by
      simp only [runD.sl.r_37, View.readAt_eq_ld, Memref.IsWhole.read_unread]
      pointwise [k0_pay176]
    skip
    unfold In.wCode In.w floorOf byteOf
    rw [← hs]
    pointwise [k0_pay189, k0_pay190, k0_pay191, k0_pay192, k0_pay193, k0_pay194, k0_pay195, k0_pay196, k0_pay197, k0_pay286, outD, num, lit, bound]
    simp only [hw]
    rfl

end Cert.KernelIdeal.Value
-- ==== Proof.StepBoth.lean ====
/- The body at a point that adds a product and makes one part of an optimizer step: what every buffer holds afterwards. -/
module

public import proofs.«01_k».proof.Proof.State
public import proofs.«01_k».proof.Proof.Accum
public import proofs.«01_k».proof.Proof.TileBoth

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (arg2 : Memref sig .tc .vmem S1536x512 .bf16) (harg2 : arg2.IsWhole)
  (arg3 : Memref sig .tc .vmem S1536x3584 .bf16) (harg3 : arg3.IsWhole)
  (arg4 : Memref sig .tc .vmem S512x1792 .i8) (harg4 : arg4.IsWhole)
  (arg5 : Memref sig .tc .vmem S14x512 .f32) (harg5 : arg5.IsWhole)
  (arg6 : Memref sig .tc .vmem S128x512 .i8) (harg6 : arg6.IsWhole)
  (arg7 : Memref sig .tc .vmem S4x128 .f32) (harg7 : arg7.IsWhole)
  (arg8 : Memref sig .tc .vmem S128x512 .i8) (harg8 : arg8.IsWhole)
  (arg9 : Memref sig .tc .vmem S4x128 .f32) (harg9 : arg9.IsWhole)
  (arg10 : Memref sig .tc .vmem S128x3584 .i8) (harg10 : arg10.IsWhole)
  (arg11 : Memref sig .tc .vmem S1x1x128 .f32) (harg11 : arg11.IsWhole)
  (arg12 : Memref sig .tc .vmem S128x3584 .i8) (harg12 : arg12.IsWhole)
  (arg13 : Memref sig .tc .vmem S128x3584 .i8) (harg13 : arg13.IsWhole)
  (arg14 : Memref sig .tc .vmem S1x1x128 .f32) (harg14 : arg14.IsWhole)
  (arg15 : Memref sig .tc .vmem S128x3584 .f32) (harg15 : arg15.IsWhole)
  (arg16 : Memref sig .tc .vmem S128x512 .f32) (harg16 : arg16.IsWhole)
  (arg17 : Memref sig .tc .vmem S128x512 .i8) (harg17 : arg17.IsWhole)
  (arg18 : Memref sig .tc .vmem S4x128 .f32) (harg18 : arg18.IsWhole)
  (arg19 : Memref sig .tc .vmem S128x512 .i8) (harg19 : arg19.IsWhole)
  (arg20 : Memref sig .tc .vmem S4x128 .f32) (harg20 : arg20.IsWhole)
  (arg21 : Memref sig .tc .vmem S512x3584 .f32) (harg21 : arg21.IsWhole)
  (arg22 : Memref sig .tc .vmem S512x3584 .bf16) (harg22 : arg22.IsWhole)
  (arg23 : Memref sig .tc .vmem S512x3584 .bf16) (harg23 : arg23.IsWhole)
  (arg24 : Memref sig .tc .vmem S3584x512 .bf16) (harg24 : arg24.IsWhole)
  (arg25 : Memref sig .tc .vmem S512x1536 .bf16) (harg25 : arg25.IsWhole)

set_option maxHeartbeats 4000000 in
/-- At a point that adds a product and makes one part of an optimizer step. -/
theorem atD (c : Dev nD) (i : grid0.Coords) (hc0 : ¬cond0 i) (hc1 : cond1 i) (hc2 : ¬cond2 i) (hc3 : ¬cond3 i) (hc4 : ¬cond4 i) (k : ℕ) (hk : (i 1).val = k) (e : Fin 4) (he : k0_off1 i = ![128 * e.val, 0])
    (x2 : Vec Ideal S1536x512 .bf16) (x3 : Vec Ideal S1536x3584 .bf16) (x4 : Vec Ideal S512x1792 .i8) (x5 : Vec Ideal S14x512 .f32) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x13 : Vec Ideal S128x3584 .i8) (x14 : Vec Ideal S1x1x128 .f32) (x15 : Vec Ideal S128x3584 .f32) (x16 : Vec Ideal S128x512 .f32) (x17 : Vec Ideal S128x512 .i8) (x18 : Vec Ideal S4x128 .f32) (x19 : Vec Ideal S128x512 .i8) (x20 : Vec Ideal S4x128 .f32) (x21 : Vec Ideal S512x3584 .f32) (x22 : Vec Ideal S512x3584 .bf16) (x23 : Vec Ideal S512x3584 .bf16) (x24 : Vec Ideal S3584x512 .bf16) (E : Set ℕ) (K : PUnit → sProp 𝕄) :
    iprop(state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 x22 x23 x24 ∗ (state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 (outW (lowOf e x22 x24) x6 x7 x8 x9 x10 x11 x12 x23) (outWs (lowOf e x22 x24) x6 x7 x8 x9 x10 x11 x12 x23) (outD (lowOf e x22 x24) x6 x7 x8 x9 x10 x11 x12 x23) (outN (lowOf e x22 x24) x6 x7 x8 x9 x10 x11 x12 x23) (outM (lowOf e x22 x24) x6 x7 x8 x9 x10 x11 x12 x23) (outMs (lowOf e x22 x24) x6 x7 x8 x9 x10 x11 x12 x23) (outV (lowOf e x22 x24) x6 x7 x8 x9 x10 x11 x12 x23) (outVs (lowOf e x22 x24) x6 x7 x8 x9 x10 x11 x12 x23) (addOf k x2 x3 x21) x22 x23 x24 -∗ K ⟨⟩))
      ⊢ wp frame (wpE (defs₀ (F := Ideal)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold state
  iintro ⟨⟨H2, H3, H4, H5, H6, H7, H8, H9, H10, H11, H12, H13, H14, H15, H16, H17, H18, H19, H20, H21, H22, H23, H24, H25⟩, Hk⟩
  iapply ((runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).2 E K)
  isplitl [H2]
  · iexact H2
  isplitl [H3]
  · iexact H3
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  isplitl [H21]
  · iexact H21
  isplitl [H22]
  · iexact H22
  isplitl [H23]
  · iexact H23
  isplitl [H24]
  · iexact H24
  isplitl [H25]
  · iexact H25
  iintro ⟨H2, H3, H6, H7, H8, H9, H10, H11, H12, H13, H14, H15, H16, H17, H18, H19, H20, H21, H22, H23, H24, H25⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iapply (owns_of_writes c arg13 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L13 ![128, 128] _ (by sl_kernel_rfl) ((pieceWD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H13
  isplitl [H14]
  · iapply (owns_of_writes c arg14 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L14 ![1, 1, 128] _ (by sl_kernel_rfl) ((pieceWsD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H14
  isplitl [H15]
  · iapply (owns_of_writes c arg15 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L15 ![128, 128] _ (by sl_kernel_rfl) ((pieceDD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H15
  isplitl [H16]
  · iapply (owns_of_writes c arg16 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L16 ![128, 128] _ (by sl_kernel_rfl) ((pieceND c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H16
  isplitl [H17]
  · iapply (owns_of_writes c arg17 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L17 ![128, 128] _ (by sl_kernel_rfl) ((pieceMD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H17
  isplitl [H18]
  · iapply (owns_of_writes c arg18 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L18 ![1, 128] _ (by sl_kernel_rfl) ((pieceMsD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H18
  isplitl [H19]
  · iapply (owns_of_writes c arg19 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L19 ![128, 128] _ (by sl_kernel_rfl) ((pieceVD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H19
  isplitl [H20]
  · iapply (owns_of_writes c arg20 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L20 ![1, 128] _ (by sl_kernel_rfl) ((pieceVsD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).trans (by rw [lowD c i arg22 harg22 arg24 harg24 hc1 x22 x24 e he])))
    iexact H20
  isplitl [H21]
  · iapply (owns_of_writes c arg21 (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24).1.L21 ![512, 512] _ (by sl_kernel_rfl) (pieceAccD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x2 x3 x6 x7 x8 x9 x10 x11 x12 x21 x22 x23 x24 k hk))
    iexact H21
  isplitl [H22]
  · iexact H22
  isplitl [H23]
  · iexact H23
  isplitl [H24]
  · iexact H24
  iexact H25

end Cert.KernelIdeal.Value
-- ==== Proof.ExactStep.lean ====
/- The body's exact run: at a point that only makes one part of an optimizer step. -/
module

public import proofs.«01_k».proof.Proof.IdealCases

@[expose] public section

set_option maxRecDepth 16384

noncomputable section

namespace Cert.KernelIdeal.Value

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body stores at a point that only makes one part of an optimizer step: for each buffer the pieces, last first. -/
structure PiecesE (F : FTy → Type) where
  L13 : List (View.Piece (Elt F) S128x3584 .i8)
  L14 : List (View.Piece (Elt F) S1x1x128 .f32)
  L15 : List (View.Piece (Elt F) S128x3584 .f32)
  L16 : List (View.Piece (Elt F) S128x512 .f32)
  L17 : List (View.Piece (Elt F) S128x512 .i8)
  L18 : List (View.Piece (Elt F) S4x128 .f32)
  L19 : List (View.Piece (Elt F) S128x512 .i8)
  L20 : List (View.Piece (Elt F) S4x128 .f32)

set_option maxHeartbeats 8000000 in
/-- The body's run at a point that only makes one part of an optimizer step. The buffers that it reads come back as they were, and those that it stores into hold the pieces named here,
    which the run finds. -/
def runE (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : ¬cond1 i) (hc2 : ¬cond2 i) (hc3 : ¬cond3 i) (hc4 : cond4 i)
    (x6 : Vec F S128x512 .i8) (x7 : Vec F S4x128 .f32) (x8 : Vec F S128x512 .i8) (x9 : Vec F S4x128 .f32) (x10 : Vec F S128x3584 .i8) (x11 : Vec F S1x1x128 .f32) (x12 : Vec F S128x3584 .i8) (x22 : Vec F S512x3584 .bf16) (x23 : Vec F S512x3584 .bf16) (x24 : Vec F S3584x512 .bf16) :
    { L : PiecesE F // ∀ (E : Set ℕ) (K : PUnit → sProp 𝕄),
      iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg22 fullShare x22 ∗ owns (c : Thread nD τ) arg23 fullShare x23 ∗ owns (c : Thread nD τ) arg24 fullShare x24
          ∗ (iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L.L13) ∗ (∃ f, arg14.view.loc (c : Thread nD τ) ↦[arg14.view.set]{fullShare} arg14.view.writes (Elt F) f L.L14) ∗ (∃ f, arg15.view.loc (c : Thread nD τ) ↦[arg15.view.set]{fullShare} arg15.view.writes (Elt F) f L.L15) ∗ (∃ f, arg16.view.loc (c : Thread nD τ) ↦[arg16.view.set]{fullShare} arg16.view.writes (Elt F) f L.L16) ∗ (∃ f, arg17.view.loc (c : Thread nD τ) ↦[arg17.view.set]{fullShare} arg17.view.writes (Elt F) f L.L17) ∗ (∃ f, arg18.view.loc (c : Thread nD τ) ↦[arg18.view.set]{fullShare} arg18.view.writes (Elt F) f L.L18) ∗ (∃ f, arg19.view.loc (c : Thread nD τ) ↦[arg19.view.set]{fullShare} arg19.view.writes (Elt F) f L.L19) ∗ (∃ f, arg20.view.loc (c : Thread nD τ) ↦[arg20.view.set]{fullShare} arg20.view.writes (Elt F) f L.L20) ∗ owns (c : Thread nD τ) arg22 fullShare x22 ∗ owns (c : Thread nD τ) arg23 fullShare x23 ∗ owns (c : Thread nD τ) arg24 fullShare x24) -∗ K ⟨⟩))
        ⊢ wp frame (wpE (defs₀ (F := F)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_⟩, fun E K => ?run⟩
  case run =>
    simp only [cc0_qgalore_eq_skeleton]; unfold cc0_qgalore_skel
    simp only [k0_part47_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f22, %hf22, H22⟩, ⟨%f23, %hf23, H23⟩, ⟨%f24, %hf24, H24⟩, Hk⟩
    obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg22.eq_unread hf22; obtain rfl := harg23.eq_unread hf23; obtain rfl := harg24.eq_unread hf24
    sl_exec (disch := first | sl_exact hc0 | sl_exact hc1 | sl_exact hc2 | sl_exact hc3 | sl_exact hc4)
    sl_step
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H22]
    · iexists _; isplitr; · ipureintro; exact harg22.read_unread _
      iexact H22
    isplitl [H23]
    · iexists _; isplitr; · ipureintro; exact harg23.read_unread _
      iexact H23
    iexists _; isplitr; · ipureintro; exact harg24.read_unread _
    iexact H24

end Cert.KernelIdeal.Value
-- ==== Proof.TileStep.lean ====
/- What the body stores of the optimizer step at a point of the kind of `runE`, entry by entry. -/
module

public import proofs.«01_k».proof.Proof.ExactStep
public import proofs.«01_k».proof.Proof.Split

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic

variable (c : Dev nD) (i : grid0.Coords) (arg2 : Memref sig .tc .vmem S1536x512 .bf16) (harg2 : arg2.IsWhole) (arg3 : Memref sig .tc .vmem S1536x3584 .bf16) (harg3 : arg3.IsWhole) (arg4 : Memref sig .tc .vmem S512x1792 .i8) (harg4 : arg4.IsWhole) (arg5 : Memref sig .tc .vmem S14x512 .f32) (harg5 : arg5.IsWhole) (arg6 : Memref sig .tc .vmem S128x512 .i8) (harg6 : arg6.IsWhole) (arg7 : Memref sig .tc .vmem S4x128 .f32) (harg7 : arg7.IsWhole) (arg8 : Memref sig .tc .vmem S128x512 .i8) (harg8 : arg8.IsWhole) (arg9 : Memref sig .tc .vmem S4x128 .f32) (harg9 : arg9.IsWhole) (arg10 : Memref sig .tc .vmem S128x3584 .i8) (harg10 : arg10.IsWhole) (arg11 : Memref sig .tc .vmem S1x1x128 .f32) (harg11 : arg11.IsWhole) (arg12 : Memref sig .tc .vmem S128x3584 .i8) (harg12 : arg12.IsWhole) (arg13 : Memref sig .tc .vmem S128x3584 .i8) (harg13 : arg13.IsWhole) (arg14 : Memref sig .tc .vmem S1x1x128 .f32) (harg14 : arg14.IsWhole) (arg15 : Memref sig .tc .vmem S128x3584 .f32) (harg15 : arg15.IsWhole) (arg16 : Memref sig .tc .vmem S128x512 .f32) (harg16 : arg16.IsWhole) (arg17 : Memref sig .tc .vmem S128x512 .i8) (harg17 : arg17.IsWhole) (arg18 : Memref sig .tc .vmem S4x128 .f32) (harg18 : arg18.IsWhole) (arg19 : Memref sig .tc .vmem S128x512 .i8) (harg19 : arg19.IsWhole) (arg20 : Memref sig .tc .vmem S4x128 .f32) (harg20 : arg20.IsWhole) (arg21 : Memref sig .tc .vmem S512x3584 .f32) (harg21 : arg21.IsWhole) (arg22 : Memref sig .tc .vmem S512x3584 .bf16) (harg22 : arg22.IsWhole) (arg23 : Memref sig .tc .vmem S512x3584 .bf16) (harg23 : arg23.IsWhole) (arg24 : Memref sig .tc .vmem S3584x512 .bf16) (harg24 : arg24.IsWhole) (arg25 : Memref sig .tc .vmem S512x1536 .bf16) (harg25 : arg25.IsWhole) (hc0 : ¬cond0 i) (hc1 : ¬cond1 i) (hc2 : ¬cond2 i) (hc3 : ¬cond3 i) (hc4 : cond4 i)
    (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x22 : Vec Ideal S512x3584 .bf16) (x23 : Vec Ideal S512x3584 .bf16) (x24 : Vec Ideal S3584x512 .bf16)

/-- The tile's rows of the gradient at the low rank. -/
theorem lowE (e : Fin 4) (he : k0_off2 i = ![128 * e.val, 0]) : (runE.sl.r c i arg22 harg22 arg24 harg24 hc4 x22 x24) = lowOf e x22 x24 := by
  funext y
  unfold runE.sl.r lowOf
  simp only [View.readAt_eq_ld, Memref.IsWhole.read_unread]
  have h0 : k0_off2 i 0 = 128 * e.val := by rw [he]; rfl
  have h1 : k0_off2 i 1 = 0 := by rw [he]; rfl
  pointwise [k0_pay198]
  simp only [h0, h1, Nat.zero_add]

/-- The normalised step, as stored. -/
theorem pieceNE : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L16 = outN (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 0)).n (y 1)
  unfold runE
  dsimp only
  canon_tiles x h
  all_goals
    obtain ⟨a, b, rfl⟩ := split_of x
    simp only [View.readAt_eq_ld, Memref.IsWhole.read_unread, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.r_14, runE.sl.r_15, runE.sl.r_16, runE.sl.r_17, runE.sl.r_18, runE.sl.r_19, runE.sl.r_20, runE.sl.r_21, runE.sl.r_22, runE.sl.r_23, runE.sl.r_24, runE.sl.r_25, runE.sl.r_26, runE.sl.r_27, runE.sl.r_28, runE.sl.r_29, runE.sl.r_30, runE.sl.r_31, runE.sl.r_32, runE.sl.r_33, runE.sl.r_34, runE.sl.r_35, runE.sl.r_36, runE.sl.r_37, runE.sl.r_38]
    generalize (runE.sl.r c i arg22 harg22 arg24 harg24 hc4 x22 x24) = r
    first | rw [row_of y a b h0, idx_of y a b 3 h1] | rw [row_of y a b h0, idx_of y a b 2 h1] | rw [row_of y a b h0, idx_of y a b 1 h1] | rw [row_of y a b h0, idx_of0 y a b h1]
    simp only [In.n, In.mCode, In.mScale, In.vCode, In.vScale, In.grp_col, In.m_col, In.v_col]
    simp only [In.col_zero, In.col_one, In.col_two, In.col_three]
    pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, tile, num, lit, scaleOf, codeOf, byteOf, absMax, bound]
    try rfl

/-- The first moment's codes, as stored. -/
theorem pieceME : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L17 = outM (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 0)).mCode (y 1)
  unfold runE
  dsimp only
  canon_tiles x h
  all_goals
    obtain ⟨a, b, rfl⟩ := split_of x
    simp only [View.readAt_eq_ld, Memref.IsWhole.read_unread, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.r_14, runE.sl.r_15, runE.sl.r_16, runE.sl.r_17, runE.sl.r_18, runE.sl.r_19, runE.sl.r_20, runE.sl.r_21, runE.sl.r_22, runE.sl.r_23, runE.sl.r_24, runE.sl.r_25, runE.sl.r_26, runE.sl.r_27, runE.sl.r_28, runE.sl.r_29, runE.sl.r_30, runE.sl.r_31, runE.sl.r_32, runE.sl.r_33, runE.sl.r_34, runE.sl.r_35, runE.sl.r_36, runE.sl.r_37, runE.sl.r_38]
    generalize (runE.sl.r c i arg22 harg22 arg24 harg24 hc4 x22 x24) = r
    first | rw [row_of y a b h0, idx_of y a b 3 h1] | rw [row_of y a b h0, idx_of y a b 2 h1] | rw [row_of y a b h0, idx_of y a b 1 h1] | rw [row_of y a b h0, idx_of0 y a b h1]
    simp only [In.n, In.mCode, In.mScale, In.vCode, In.vScale, In.grp_col, In.m_col, In.v_col]
    simp only [In.col_zero, In.col_one, In.col_two, In.col_three]
    pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, tile, num, lit, scaleOf, codeOf, byteOf, absMax, bound]
    try rfl

/-- The second moment's codes, as stored. -/
theorem pieceVE : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L19 = outV (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 0)).vCode (y 1)
  unfold runE
  dsimp only
  canon_tiles x h
  all_goals
    obtain ⟨a, b, rfl⟩ := split_of x
    simp only [View.readAt_eq_ld, Memref.IsWhole.read_unread, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.r_14, runE.sl.r_15, runE.sl.r_16, runE.sl.r_17, runE.sl.r_18, runE.sl.r_19, runE.sl.r_20, runE.sl.r_21, runE.sl.r_22, runE.sl.r_23, runE.sl.r_24, runE.sl.r_25, runE.sl.r_26, runE.sl.r_27, runE.sl.r_28, runE.sl.r_29, runE.sl.r_30, runE.sl.r_31, runE.sl.r_32, runE.sl.r_33, runE.sl.r_34, runE.sl.r_35, runE.sl.r_36, runE.sl.r_37, runE.sl.r_38]
    generalize (runE.sl.r c i arg22 harg22 arg24 harg24 hc4 x22 x24) = r
    first | rw [row_of y a b h0, idx_of y a b 3 h1] | rw [row_of y a b h0, idx_of y a b 2 h1] | rw [row_of y a b h0, idx_of y a b 1 h1] | rw [row_of y a b h0, idx_of0 y a b h1]
    simp only [In.n, In.mCode, In.mScale, In.vCode, In.vScale, In.grp_col, In.m_col, In.v_col]
    simp only [In.col_zero, In.col_one, In.col_two, In.col_three]
    pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, tile, num, lit, scaleOf, codeOf, byteOf, absMax, bound]
    try rfl

/-- The first moment's scales, as stored. -/
theorem pieceMsE : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L18 = outMs (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 1)).mScale (y 0)
  unfold runE
  dsimp only
  canon_tiles x h
  all_goals
    simp only [View.readAt_eq_ld, Memref.IsWhole.read_unread, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.r_14, runE.sl.r_15, runE.sl.r_16, runE.sl.r_17, runE.sl.r_18, runE.sl.r_19, runE.sl.r_20, runE.sl.r_21, runE.sl.r_22, runE.sl.r_23, runE.sl.r_24, runE.sl.r_25, runE.sl.r_26, runE.sl.r_27, runE.sl.r_28, runE.sl.r_29, runE.sl.r_30, runE.sl.r_31, runE.sl.r_32, runE.sl.r_33, runE.sl.r_34, runE.sl.r_35, runE.sl.r_36, runE.sl.r_37, runE.sl.r_38]
    generalize (runE.sl.r c i arg22 harg22 arg24 harg24 hc4 x22 x24) = r
    obtain ⟨q, a, rfl⟩ := split4_of x
    have e0 : y 0 = q := Fin.ext h0
    have e1 : y 1 = a := Fin.ext h1
    rw [e0, e1]
    clear h0 h1 e0 e1
    obtain rfl | rfl | rfl | rfl : q = 0 ∨ q = 1 ∨ q = 2 ∨ q = 3 := by omega
    all_goals
      simp only [In.mScale, In.vScale, In.m_col, In.v_col]
      simp only [In.col_zero, In.col_one, In.col_two, In.col_three]
      pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, runE.sl.v363, tile, num, lit, scaleOf, absMax]
      try rfl

/-- The second moment's scales, as stored. -/
theorem pieceVsE : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L20 = outVs (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 1)).vScale (y 0)
  unfold runE
  dsimp only
  canon_tiles x h
  all_goals
    simp only [View.readAt_eq_ld, Memref.IsWhole.read_unread, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.r_14, runE.sl.r_15, runE.sl.r_16, runE.sl.r_17, runE.sl.r_18, runE.sl.r_19, runE.sl.r_20, runE.sl.r_21, runE.sl.r_22, runE.sl.r_23, runE.sl.r_24, runE.sl.r_25, runE.sl.r_26, runE.sl.r_27, runE.sl.r_28, runE.sl.r_29, runE.sl.r_30, runE.sl.r_31, runE.sl.r_32, runE.sl.r_33, runE.sl.r_34, runE.sl.r_35, runE.sl.r_36, runE.sl.r_37, runE.sl.r_38]
    generalize (runE.sl.r c i arg22 harg22 arg24 harg24 hc4 x22 x24) = r
    obtain ⟨q, a, rfl⟩ := split4_of x
    have e0 : y 0 = q := Fin.ext h0
    have e1 : y 1 = a := Fin.ext h1
    rw [e0, e1]
    clear h0 h1 e0 e1
    obtain rfl | rfl | rfl | rfl : q = 0 ∨ q = 1 ∨ q = 2 ∨ q = 3 := by omega
    all_goals
      simp only [In.mScale, In.vScale, In.m_col, In.v_col]
      simp only [In.col_zero, In.col_one, In.col_two, In.col_three]
      pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, runE.sl.v363, tile, num, lit, scaleOf, absMax]
      try rfl

/-- The normalised step, as the update reads it. -/
theorem stepE (a : Fin 128) (j : Fin 512) : (runE.sl.r_39 c i arg6 harg6 arg7 harg7 arg8 harg8 arg9 harg9 arg22 harg22 arg24 harg24 hc4 x6 x7 x8 x9 x22 x24) (ix2 a j) = (tile (runE.sl.r c i arg22 harg22 arg24 harg24 hc4 x22 x24) x6 x7 x8 x9 x10 x11 x12 x23 a).n j := by
  obtain ⟨q, b, rfl⟩ := split_col j
  obtain rfl | rfl | rfl | rfl : q = 0 ∨ q = 1 ∨ q = 2 ∨ q = 3 := by omega
  all_goals
    simp only [View.readAt_eq_ld, Memref.IsWhole.read_unread, runE.sl.r_1, runE.sl.r_2, runE.sl.r_3, runE.sl.r_4, runE.sl.r_5, runE.sl.r_6, runE.sl.r_7, runE.sl.r_8, runE.sl.r_9, runE.sl.r_10, runE.sl.r_11, runE.sl.r_12, runE.sl.r_13, runE.sl.r_14, runE.sl.r_15, runE.sl.r_16, runE.sl.r_17, runE.sl.r_18, runE.sl.r_19, runE.sl.r_20, runE.sl.r_21, runE.sl.r_22, runE.sl.r_23, runE.sl.r_24, runE.sl.r_25, runE.sl.r_26, runE.sl.r_27, runE.sl.r_28, runE.sl.r_29, runE.sl.r_30, runE.sl.r_31, runE.sl.r_32, runE.sl.r_33, runE.sl.r_34, runE.sl.r_35, runE.sl.r_36, runE.sl.r_37, runE.sl.r_38, runE.sl.r_39]
    generalize (runE.sl.r c i arg22 harg22 arg24 harg24 hc4 x22 x24) = r
    simp only [In.n, In.m_col, In.v_col]
    simp only [In.col_zero, In.col_one, In.col_two, In.col_three]
    pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, tile, num, lit]
    try (split_ifs <;> first | omega | (simp only [Nat.sub_sub, Nat.reduceAdd, Nat.add_sub_cancel_left]; done) | rfl)

/-- The update, as stored. -/
theorem pieceDE : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L15 = outD (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 0)).d (y 1)
  unfold runE
  dsimp only
  unfold runE.sl.H15_7
  canon_tiles x h
  all_goals
    obtain ⟨a, b, rfl⟩ := splitw_of x
    first | rw [roww y a b h0, idxw y a b _ h1] | rw [roww y a b h0, idxw0 y a b h1]
    have hn := stepE c i arg6 harg6 arg7 harg7 arg8 harg8 arg9 harg9 arg22 harg22 arg24 harg24 hc4 x6 x7 x8 x9 x10 x11 x12 x22 x23 x24 a
    simp only [View.readAt_eq_ld, Memref.IsWhole.read_unread, runE.sl.r_40, runE.sl.r_41, runE.sl.r_42, runE.sl.r_43, runE.sl.r_44, runE.sl.r_45, runE.sl.r_46, runE.sl.r_47, runE.sl.r_48, runE.sl.r_49, runE.sl.r_50, runE.sl.r_51, runE.sl.r_52, runE.sl.r_53]
    generalize (runE.sl.r c i arg22 harg22 arg24 harg24 hc4 x22 x24) = r at *
    generalize (runE.sl.r_39 c i arg6 harg6 arg7 harg7 arg8 harg8 arg9 harg9 arg22 harg22 arg24 harg24 hc4 x6 x7 x8 x9 x22 x24) = nb at *
    unfold In.d
    simp only [← hn]
    pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, tile, lit]
    skip
    try rfl

/-- The weights' scales, as the codes read them. -/
theorem scaleE (a : Fin 128) : (runE.sl.r_49 c i arg6 harg6 arg7 harg7 arg8 harg8 arg9 harg9 arg10 harg10 arg11 harg11 arg22 harg22 arg23 harg23 arg24 harg24 hc4 x6 x7 x8 x9 x10 x11 x22 x23 x24) (ix2 a 0) = (tile (runE.sl.r c i arg22 harg22 arg24 harg24 hc4 x22 x24) x6 x7 x8 x9 x10 x11 x12 x23 a).wScale := by
  have hn := stepE c i arg6 harg6 arg7 harg7 arg8 harg8 arg9 harg9 arg22 harg22 arg24 harg24 hc4 x6 x7 x8 x9 x10 x11 x12 x22 x23 x24 a
  simp only [View.readAt_eq_ld, Memref.IsWhole.read_unread, runE.sl.r_40, runE.sl.r_41, runE.sl.r_42, runE.sl.r_43, runE.sl.r_44, runE.sl.r_45, runE.sl.r_46, runE.sl.r_47, runE.sl.r_48, runE.sl.r_49, runE.sl.r_50, runE.sl.r_51, runE.sl.r_52, runE.sl.r_53]
  generalize (runE.sl.r c i arg22 harg22 arg24 harg24 hc4 x22 x24) = r at *
  generalize (runE.sl.r_39 c i arg6 harg6 arg7 harg7 arg8 harg8 arg9 harg9 arg22 harg22 arg24 harg24 hc4 x6 x7 x8 x9 x22 x24) = nb at *
  unfold In.wScale absMax In.w In.d
  simp only [← hn]
  clear hn
  pointwise [k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, tile, num, lit, scaleOf]
  skip
  have key := fold_lanes (Ideal.ofBits FTy.f32 4286578688#32) (fun k => if h : k < 3584 then FloatOps.absf (F := Ideal) (φ := .f32)
      (FloatOps.sitofp (F := Ideal) FTy.f32 (x10 (ix2 a ⟨k, h⟩)) * x11 (ix3 0 0 a) - Ideal.ofBits FTy.f32 981668463#32 * ∑ y, nb (ix2 a y) * x23 (ix2 y ⟨k, h⟩)) else 0)
    (fun k => by split; exacts [absf_nonneg _, le_rfl])
  simp only [lanes, quad, quad0] at key
  simp (disch := omega) only [dif_pos] at key
  rw [key]

/-- The weights' scales, as stored. -/
theorem pieceWsE : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L14 = outWs (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 2)).wScale
  have hs := scaleE c i arg6 harg6 arg7 harg7 arg8 harg8 arg9 harg9 arg10 harg10 arg11 harg11 arg22 harg22 arg23 harg23 arg24 harg24 hc4 x6 x7 x8 x9 x10 x11 x12 x22 x23 x24 (y 2)
  unfold runE
  dsimp only
  canon_tiles x h
  obtain ⟨a, rfl⟩ := split1_of x
  have e : (y 2 : Fin 128) = a := Fin.ext (by assumption)
  rw [e] at hs ⊢
  rw [← hs]
  unfold runE.sl.r_49
  pointwise [k0_pay274]

/-- The weights' codes, as stored. -/
theorem pieceWE : View.canon (Val := Elt Ideal) (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L13 = outW (runE.sl.r c i arg22 harg22 arg24 harg24 hc4 x22 x24) x6 x7 x8 x9 x10 x11 x12 x23 := by
  funext y
  show _ = (tile (runE.sl.r c i arg22 harg22 arg24 harg24 hc4 x22 x24) x6 x7 x8 x9 x10 x11 x12 x23 (y 0)).wCode (y 1)
  have hd := pieceDE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24
  unfold runE at hd ⊢
  dsimp only at hd ⊢
  canon_tiles x h
  all_goals
    obtain ⟨a, b, rfl⟩ := splitw_of x
    first | rw [roww y a b h0, idxw y a b _ h1] | rw [roww y a b h0, idxw0 y a b h1]
    have hs := scaleE c i arg6 harg6 arg7 harg7 arg8 harg8 arg9 harg9 arg10 harg10 arg11 harg11 arg22 harg22 arg23 harg23 arg24 harg24 hc4 x6 x7 x8 x9 x10 x11 x12 x22 x23 x24 a
    simp only [runE.sl.r_50, runE.sl.r_51, runE.sl.r_52, runE.sl.r_53, runE.sl.v566, runE.sl.v590, runE.sl.v614, runE.sl.v638, runE.sl.v662, runE.sl.v686, runE.sl.v710, View.readCov_eq_canon', hd]
    simp only [View.readAt_eq_ld, Memref.IsWhole.read_unread]
    have hw : runE.sl.r_40 c arg11 harg11 x11 (ix2 a 0) = x11 (ix3 0 0 a) := by
      simp only [runE.sl.r_40, View.readAt_eq_ld, Memref.IsWhole.read_unread]
      pointwise [k0_pay259]
    simp only [runE.sl.r_49] at hs ⊢
    unfold In.wCode In.w floorOf byteOf
    rw [← hs]
    pointwise [k0_pay275, k0_pay276, k0_pay277, k0_pay278, k0_pay279, k0_pay280, k0_pay281, k0_pay282, k0_pay283, k0_pay284, outD, num, lit, bound]
    simp only [hw]
    rfl

end Cert.KernelIdeal.Value
-- ==== Proof.StepTile.lean ====
/- The body at a point that makes one part of an optimizer step: what every buffer holds afterwards. -/
module

public import proofs.«01_k».proof.Proof.State
public import proofs.«01_k».proof.Proof.TileStep

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (arg2 : Memref sig .tc .vmem S1536x512 .bf16) (harg2 : arg2.IsWhole)
  (arg3 : Memref sig .tc .vmem S1536x3584 .bf16) (harg3 : arg3.IsWhole)
  (arg4 : Memref sig .tc .vmem S512x1792 .i8) (harg4 : arg4.IsWhole)
  (arg5 : Memref sig .tc .vmem S14x512 .f32) (harg5 : arg5.IsWhole)
  (arg6 : Memref sig .tc .vmem S128x512 .i8) (harg6 : arg6.IsWhole)
  (arg7 : Memref sig .tc .vmem S4x128 .f32) (harg7 : arg7.IsWhole)
  (arg8 : Memref sig .tc .vmem S128x512 .i8) (harg8 : arg8.IsWhole)
  (arg9 : Memref sig .tc .vmem S4x128 .f32) (harg9 : arg9.IsWhole)
  (arg10 : Memref sig .tc .vmem S128x3584 .i8) (harg10 : arg10.IsWhole)
  (arg11 : Memref sig .tc .vmem S1x1x128 .f32) (harg11 : arg11.IsWhole)
  (arg12 : Memref sig .tc .vmem S128x3584 .i8) (harg12 : arg12.IsWhole)
  (arg13 : Memref sig .tc .vmem S128x3584 .i8) (harg13 : arg13.IsWhole)
  (arg14 : Memref sig .tc .vmem S1x1x128 .f32) (harg14 : arg14.IsWhole)
  (arg15 : Memref sig .tc .vmem S128x3584 .f32) (harg15 : arg15.IsWhole)
  (arg16 : Memref sig .tc .vmem S128x512 .f32) (harg16 : arg16.IsWhole)
  (arg17 : Memref sig .tc .vmem S128x512 .i8) (harg17 : arg17.IsWhole)
  (arg18 : Memref sig .tc .vmem S4x128 .f32) (harg18 : arg18.IsWhole)
  (arg19 : Memref sig .tc .vmem S128x512 .i8) (harg19 : arg19.IsWhole)
  (arg20 : Memref sig .tc .vmem S4x128 .f32) (harg20 : arg20.IsWhole)
  (arg21 : Memref sig .tc .vmem S512x3584 .f32) (harg21 : arg21.IsWhole)
  (arg22 : Memref sig .tc .vmem S512x3584 .bf16) (harg22 : arg22.IsWhole)
  (arg23 : Memref sig .tc .vmem S512x3584 .bf16) (harg23 : arg23.IsWhole)
  (arg24 : Memref sig .tc .vmem S3584x512 .bf16) (harg24 : arg24.IsWhole)
  (arg25 : Memref sig .tc .vmem S512x1536 .bf16) (harg25 : arg25.IsWhole)

set_option maxHeartbeats 4000000 in
/-- At a point that makes one part of an optimizer step. -/
theorem atE (c : Dev nD) (i : grid0.Coords) (hc0 : ¬cond0 i) (hc1 : ¬cond1 i) (hc2 : ¬cond2 i) (hc3 : ¬cond3 i) (hc4 : cond4 i) (e : Fin 4) (he : k0_off2 i = ![128 * e.val, 0])
    (x2 : Vec Ideal S1536x512 .bf16) (x3 : Vec Ideal S1536x3584 .bf16) (x4 : Vec Ideal S512x1792 .i8) (x5 : Vec Ideal S14x512 .f32) (x6 : Vec Ideal S128x512 .i8) (x7 : Vec Ideal S4x128 .f32) (x8 : Vec Ideal S128x512 .i8) (x9 : Vec Ideal S4x128 .f32) (x10 : Vec Ideal S128x3584 .i8) (x11 : Vec Ideal S1x1x128 .f32) (x12 : Vec Ideal S128x3584 .i8) (x13 : Vec Ideal S128x3584 .i8) (x14 : Vec Ideal S1x1x128 .f32) (x15 : Vec Ideal S128x3584 .f32) (x16 : Vec Ideal S128x512 .f32) (x17 : Vec Ideal S128x512 .i8) (x18 : Vec Ideal S4x128 .f32) (x19 : Vec Ideal S128x512 .i8) (x20 : Vec Ideal S4x128 .f32) (x21 : Vec Ideal S512x3584 .f32) (x22 : Vec Ideal S512x3584 .bf16) (x23 : Vec Ideal S512x3584 .bf16) (x24 : Vec Ideal S3584x512 .bf16) (E : Set ℕ) (K : PUnit → sProp 𝕄) :
    iprop(state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 x13 x14 x15 x16 x17 x18 x19 x20 x21 x22 x23 x24 ∗ (state c arg2 arg3 arg4 arg5 arg6 arg7 arg8 arg9 arg10 arg11 arg12 arg13 arg14 arg15 arg16 arg17 arg18 arg19 arg20 arg21 arg22 arg23 arg24 arg25 x2 x3 x4 x5 x6 x7 x8 x9 x10 x11 x12 (outW (lowOf e x22 x24) x6 x7 x8 x9 x10 x11 x12 x23) (outWs (lowOf e x22 x24) x6 x7 x8 x9 x10 x11 x12 x23) (outD (lowOf e x22 x24) x6 x7 x8 x9 x10 x11 x12 x23) (outN (lowOf e x22 x24) x6 x7 x8 x9 x10 x11 x12 x23) (outM (lowOf e x22 x24) x6 x7 x8 x9 x10 x11 x12 x23) (outMs (lowOf e x22 x24) x6 x7 x8 x9 x10 x11 x12 x23) (outV (lowOf e x22 x24) x6 x7 x8 x9 x10 x11 x12 x23) (outVs (lowOf e x22 x24) x6 x7 x8 x9 x10 x11 x12 x23) x21 x22 x23 x24 -∗ K ⟨⟩))
      ⊢ wp frame (wpE (defs₀ (F := Ideal)) Variants.none c none) E (cc0_qgalore i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  unfold state
  iintro ⟨⟨H2, H3, H4, H5, H6, H7, H8, H9, H10, H11, H12, H13, H14, H15, H16, H17, H18, H19, H20, H21, H22, H23, H24, H25⟩, Hk⟩
  iapply ((runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).2 E K)
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  isplitl [H22]
  · iexact H22
  isplitl [H23]
  · iexact H23
  isplitl [H24]
  · iexact H24
  iintro ⟨H6, H7, H8, H9, H10, H11, H12, H13, H14, H15, H16, H17, H18, H19, H20, H22, H23, H24⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iapply (owns_of_writes c arg13 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L13 ![128, 128] _ (by sl_kernel_rfl) ((pieceWE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H13
  isplitl [H14]
  · iapply (owns_of_writes c arg14 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L14 ![1, 1, 128] _ (by sl_kernel_rfl) ((pieceWsE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H14
  isplitl [H15]
  · iapply (owns_of_writes c arg15 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L15 ![128, 128] _ (by sl_kernel_rfl) ((pieceDE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H15
  isplitl [H16]
  · iapply (owns_of_writes c arg16 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L16 ![128, 128] _ (by sl_kernel_rfl) ((pieceNE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H16
  isplitl [H17]
  · iapply (owns_of_writes c arg17 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L17 ![128, 128] _ (by sl_kernel_rfl) ((pieceME c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H17
  isplitl [H18]
  · iapply (owns_of_writes c arg18 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L18 ![1, 128] _ (by sl_kernel_rfl) ((pieceMsE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H18
  isplitl [H19]
  · iapply (owns_of_writes c arg19 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L19 ![128, 128] _ (by sl_kernel_rfl) ((pieceVE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H19
  isplitl [H20]
  · iapply (owns_of_writes c arg20 (runE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).1.L20 ![1, 128] _ (by sl_kernel_rfl) ((pieceVsE c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 hc3 hc4 x6 x7 x8 x9 x10 x11 x12 x22 x23 x24).trans (by rw [lowE c i arg22 harg22 arg24 harg24 hc4 x22 x24 e he])))
    iexact H20
  isplitl [H21]
  · iexact H21
  isplitl [H22]
  · iexact H22
  isplitl [H23]
  · iexact H23
  isplitl [H24]
  · iexact H24
  iexact H25

end Cert.KernelIdeal.Value
-- ==== Proof.Point.lean ====
/- What the buffers hold at each point of the grid, and the body's step from one point to the next. -/
module

public import proofs.«01_k».proof.Proof.StepMain
public import proofs.«01_k».proof.Proof.StepBoth
public import proofs.«01_k».proof.Proof.StepTile

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The accumulator before point `n`. -/
def accAt (c : Dev nD) : ℕ → Vec Ideal S512x3584 .f32
  | 0 => fun _ => (0 : EReal)
  | n + 1 => if h : n < cfg0.N then addOf (n % 10) (iblk m c 0 ⟨n, h⟩) (iblk m c 1 ⟨n, h⟩) (accAt c n) else accAt c n

/-- The gradient block that the points of `n`'s row of the grid use: the accumulator at the end of the row before. -/
def gAt (c : Dev nD) (n : ℕ) : Vec Ideal S512x3584 .bf16 := accAt m c (10 * (n / 10))

/-- The decoded projector, -/
def pAt (c : Dev nD) : Vec Ideal S512x3584 .bf16 := fun y => projAt (iblk m c 2 ⟨0, by decide⟩) (iblk m c 3 ⟨0, by decide⟩) (y 0) (y 1)
/-- and its transpose. -/
def ptAt (c : Dev nD) : Vec Ideal S3584x512 .bf16 := fun y => projAt (iblk m c 2 ⟨0, by decide⟩) (iblk m c 3 ⟨0, by decide⟩) (y 1) (y 0)

/-- Which quarter of the gradient block a point works on. -/
abbrev quarter (n : ℕ) : Fin 4 := ⟨n % 10 / 2 % 4, Nat.mod_lt _ (by decide)⟩

/-- The projected gradient at point `n`. -/
abbrev lowAt (c : Dev nD) (n : ℕ) : Vec Ideal S128x512 .f32 := lowOf (quarter n) (gAt m c n) (ptAt m c)

/-- A result block of the optimizer step, at what the body finds at point `n`. -/
abbrev blocks {α : Type} (c : Dev nD) (f : Vec Ideal S128x512 .f32 → Vec Ideal S128x512 .i8 → Vec Ideal S4x128 .f32 → Vec Ideal S128x512 .i8 → Vec Ideal S4x128 .f32 → Vec Ideal S128x3584 .i8 → Vec Ideal S1x1x128 .f32 → Vec Ideal S128x3584 .i8 → Vec Ideal S512x3584 .bf16 → α)
    (n : Fin cfg0.N) : α :=
  f (lowAt m c n.val) (iblk m c 4 n) (iblk m c 5 n) (iblk m c 6 n) (iblk m c 7 n) (iblk m c 8 n) (iblk m c 9 n) (iblk m c 10 n) (pAt m c)

/-- The points that make a part of an optimizer step. -/
abbrev Live (n : ℕ) : Prop := 10 ≤ n ∧ n % 2 = 0 ∧ n % 10 < 8

/-- The point whose step fills the result blocks that are staged at point `n`. -/
def epi (n : Fin cfg0.N) : Fin cfg0.N :=
  ⟨if n.val < 10 then 10 else if n.val % 10 < 8 then n.val - n.val % 2 else n.val - n.val % 10 + 6, by
    have h : n.val < 380 := n.isLt
    show _ < 380
    split
    · omega
    · split <;> omega⟩

/-- At a step that finishes a row tile, the result blocks staged are those it fills. -/
theorem epi_live (n : Fin cfg0.N) (h : Live n.val) : epi n = n := by
  apply Fin.ext
  unfold epi
  show (if n.val < 10 then 10 else if n.val % 10 < 8 then n.val - n.val % 2 else n.val - n.val % 10 + 6) = n.val
  rw [if_neg (by omega), if_pos h.2.2]
  omega

/-- What the scratch buffers hold before point `n`: the projector and its transpose after the first point, the accumulator inside a row of
    the grid, the finished gradient block after the first row. -/
def Inv (c : Dev nD) (n : ℕ) (acc : Vec Ideal S512x3584 .f32) (g p : Vec Ideal S512x3584 .bf16) (pt : Vec Ideal S3584x512 .bf16) : Prop :=
  (0 < n → p = pAt m c ∧ pt = ptAt m c) ∧ (n % 10 ≠ 0 → n < 370 → acc = accAt m c n) ∧ (10 ≤ n → n < 380 → g = gAt m c n)

/-- The inner grid coordinate of a step. -/
theorem coord1 : ∀ t : Fin grid0.N, ((grid0.coords t) 1).val = t.val % 10 := by decide +kernel
/-- The rows of the tile that a step works on. -/
theorem off1 : ∀ t : Fin grid0.N, t.val % 10 < 8 → k0_off1 (grid0.coords t) = ![128 * (quarter t.val).val, 0] := by decide +kernel
/-- The rows of the tile that a step works on. -/
theorem off2 : ∀ t : Fin grid0.N, t.val % 10 < 8 → k0_off2 (grid0.coords t) = ![128 * (quarter t.val).val, 0] := by decide +kernel

/-- At the first step of a row the old accumulator does not matter. -/
theorem addOf_zero (x2 : Vec Ideal S1536x512 .bf16) (x3 : Vec Ideal S1536x3584 .bf16) (a b : Vec Ideal S512x3584 .f32) : addOf 0 x2 x3 a = addOf 0 x2 x3 b := rfl

/-- A step of the gradient leads from the accumulator before a point to the one after. -/
theorem acc_step (c : Dev nD) (t : Fin cfg0.N) (ht : t.val < 370) (acc : Vec Ideal S512x3584 .f32) (h : t.val % 10 ≠ 0 → t.val < 370 → acc = accAt m c t.val) :
    addOf (t.val % 10) (iblk m c 0 t) (iblk m c 1 t) acc = accAt m c (t.val + 1) := by
  rw [accAt, dif_pos t.isLt]
  by_cases h0 : t.val % 10 = 0
  · rw [h0]; exact addOf_zero _ _ _ _
  · rw [h h0 ht]

set_option maxHeartbeats 4000000 in
/-- The body at any point keeps what `Inv` says, and fills the result blocks at the points that make a part of an optimizer step. -/
theorem point (c : Dev nD) (t : Fin cfg0.N) (d11 : Vec Ideal S128x3584 .i8) (d12 : Vec Ideal S1x1x128 .f32) (d13 : Vec Ideal S128x3584 .f32) (d14 : Vec Ideal S128x512 .f32) (d15 : Vec Ideal S128x512 .i8) (d16 : Vec Ideal S4x128 .f32) (d17 : Vec Ideal S128x512 .i8) (d18 : Vec Ideal S4x128 .f32)
    (acc : Vec Ideal S512x3584 .f32) (g p : Vec Ideal S512x3584 .bf16) (pt : Vec Ideal S3584x512 .bf16) (hI : Inv m c t.val acc g p pt) (E : Set ℕ) (K : PUnit → sProp 𝕄) :
    iprop(state c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) scM0_0 scM0_1 scM0_2 scM0_3 scM0_4 (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d12 d13 d14 d15 d16 d17 d18 acc g p pt
        ∗ (iprop(∃ acc', ∃ g', ∃ p', ∃ pt', ⌜Inv m c (t.val + 1) acc' g' p' pt'⌝ ∗ state c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) scM0_0 scM0_1 scM0_2 scM0_3 scM0_4 (iblk m c 0 t) (iblk m c 1 t) (iblk m c 2 t) (iblk m c 3 t) (iblk m c 4 t) (iblk m c 5 t) (iblk m c 6 t) (iblk m c 7 t) (iblk m c 8 t) (iblk m c 9 t) (iblk m c 10 t) (if Live t.val then blocks m c outW t else d11) (if Live t.val then blocks m c outWs t else d12) (if Live t.val then blocks m c outD t else d13) (if Live t.val then blocks m c outN t else d14) (if Live t.val then blocks m c outM t else d15) (if Live t.val then blocks m c outMs t else d16) (if Live t.val then blocks m c outV t else d17) (if Live t.val then blocks m c outVs t else d18) acc' g' p' pt') -∗ K ⟨⟩))
      ⊢ wp frame (wpE (defs₀ (F := Ideal)) Variants.none c none) E (bodyAt0 t) K := by
  have hN : t.val < 380 := t.isLt
  obtain ⟨hp, ha, hg⟩ := hI
  unfold bodyAt0
  iintro ⟨H, Hk⟩
  rcases kinds t with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  · have e0 := (cond0_iff t).mp hc0; have e1 := mt (cond1_iff t).mpr hc1; have e2 := (cond2_iff t).mp hc2; have e3 := mt (cond3_iff t).mpr hc3; have e4 := mt (cond4_iff t).mpr hc4
    have h : ¬Live t.val := by unfold Live; omega
    have ez : t = ⟨0, by decide⟩ := Fin.ext e0
    iapply (atA (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) c (grid0.coords t) hc0 hc1 hc2 hc3 hc4 (t.val % 10) (coord1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d12 d13 d14 d15 d16 d17 d18 acc g p pt E K)
    isplitl [H]
    · iexact H
    iintro H
    iapply Hk
    simp only [if_neg h]
    iexists _, _, _, _
    isplitr
    swap
    · iexact H
    · ipureintro
      refine ⟨fun _ => ⟨?_, ?_⟩, fun _ _ => acc_step m c t (by omega) acc ha, fun hx => by omega⟩
      · rw [ez]; rfl
      · rw [ez]; rfl
  · have e0 := mt (cond0_iff t).mpr hc0; have e1 := mt (cond1_iff t).mpr hc1; have e2 := (cond2_iff t).mp hc2; have e3 := mt (cond3_iff t).mpr hc3; have e4 := mt (cond4_iff t).mpr hc4
    have h : ¬Live t.val := by unfold Live; omega
    iapply (atB (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) c (grid0.coords t) hc0 hc1 hc2 hc3 hc4 (t.val % 10) (coord1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d12 d13 d14 d15 d16 d17 d18 acc g p pt E K)
    isplitl [H]
    · iexact H
    iintro H
    iapply Hk
    simp only [if_neg h]
    iexists _, _, _, _
    isplitr
    swap
    · iexact H
    · ipureintro
      refine ⟨fun _ => hp (by omega), fun _ _ => acc_step m c t (by omega) acc ha, fun hx hy => ?_⟩
      rw [hg (by omega) (by omega)]
      unfold gAt
      rw [show 10 * ((t.val + 1) / 10) = 10 * (t.val / 10) by omega]
  · have e0 := mt (cond0_iff t).mpr hc0; have e1 := mt (cond1_iff t).mpr hc1; have e2 := mt (cond2_iff t).mpr hc2; have e3 := (cond3_iff t).mp hc3; have e4 := mt (cond4_iff t).mpr hc4
    have h : ¬Live t.val := by unfold Live; omega
    iapply (atC (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) c (grid0.coords t) hc0 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d12 d13 d14 d15 d16 d17 d18 acc g p pt E K)
    isplitl [H]
    · iexact H
    iintro H
    iapply Hk
    simp only [if_neg h]
    iexists _, _, _, _
    isplitr
    swap
    · iexact H
    · ipureintro
      refine ⟨fun _ => hp (by omega), fun hx => absurd hx (by omega), fun hx hy => ?_⟩
      have e9 : t.val % 10 = 9 := by omega
      have es := acc_step m c t (by omega) acc ha
      rw [e9] at es
      unfold gAt
      rw [show 10 * ((t.val + 1) / 10) = t.val + 1 by omega]
      exact es
  · have e0 := mt (cond0_iff t).mpr hc0; have e1 := (cond1_iff t).mp hc1; have e2 := mt (cond2_iff t).mpr hc2; have e3 := mt (cond3_iff t).mpr hc3; have e4 := mt (cond4_iff t).mpr hc4
    have h : Live t.val := by unfold Live; omega
    obtain ⟨rfl, rfl⟩ := hp (by omega)
    obtain rfl := hg h.1 hN
    iapply (atD (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) c (grid0.coords t) hc0 hc1 hc2 hc3 hc4 (t.val % 10) (coord1 t) (quarter t.val) (off1 t h.2.2) (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d12 d13 d14 d15 d16 d17 d18 acc (gAt m c t.val) (pAt m c) (ptAt m c) E K)
    isplitl [H]
    · iexact H
    iintro H
    iapply Hk
    simp only [if_pos h]
    iexists _, _, _, _
    isplitr
    swap
    · iexact H
    · ipureintro
      refine ⟨fun _ => ⟨rfl, rfl⟩, fun _ _ => acc_step m c t (by omega) acc ha, fun hx hy => ?_⟩
      unfold gAt
      rw [show 10 * ((t.val + 1) / 10) = 10 * (t.val / 10) by omega]
  · have e0 := mt (cond0_iff t).mpr hc0; have e1 := mt (cond1_iff t).mpr hc1; have e2 := mt (cond2_iff t).mpr hc2; have e3 := mt (cond3_iff t).mpr hc3; have e4 := (cond4_iff t).mp hc4
    have h : Live t.val := by unfold Live; omega
    obtain ⟨rfl, rfl⟩ := hp (by omega)
    obtain rfl := hg h.1 hN
    iapply (atE (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) c (grid0.coords t) hc0 hc1 hc2 hc3 hc4 (quarter t.val) (off2 t h.2.2) (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d12 d13 d14 d15 d16 d17 d18 acc (gAt m c t.val) (pAt m c) (ptAt m c) E K)
    isplitl [H]
    · iexact H
    iintro H
    iapply Hk
    simp only [if_pos h]
    iexists _, _, _, _
    isplitr
    swap
    · iexact H
    · ipureintro
      refine ⟨fun _ => ⟨rfl, rfl⟩, fun hx hy => by omega, fun hx hy => ?_⟩
      unfold gAt
      rw [show 10 * ((t.val + 1) / 10) = 10 * (t.val / 10) by omega]
  · have e0 := mt (cond0_iff t).mpr hc0; have e1 := mt (cond1_iff t).mpr hc1; have e2 := mt (cond2_iff t).mpr hc2; have e3 := mt (cond3_iff t).mpr hc3; have e4 := mt (cond4_iff t).mpr hc4
    have h : ¬Live t.val := by unfold Live; omega
    iapply (atN (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) c (grid0.coords t) hc0 hc1 hc2 hc3 hc4 (iblk m c 0 t) (iblk m c 1 t) (iblk m c 2 t) (iblk m c 3 t) (iblk m c 4 t) (iblk m c 5 t) (iblk m c 6 t) (iblk m c 7 t) (iblk m c 8 t) (iblk m c 9 t) (iblk m c 10 t) d11 d12 d13 d14 d15 d16 d17 d18 acc g p pt E K)
    isplitl [H]
    · iexact H
    iintro H
    iapply Hk
    simp only [if_neg h]
    iexists _, _, _, _
    isplitr
    swap
    · iexact H
    · ipureintro
      refine ⟨fun _ => hp (by omega), fun hx hy => by omega, fun hx hy => ?_⟩
      rw [hg (by omega) (by omega)]
      unfold gAt
      rw [show 10 * ((t.val + 1) / 10) = 10 * (t.val / 10) by omega]

end Cert.KernelIdeal.Value
-- ==== Proof.Index.lean ====
/- Where the blocks of the windows lie in their arrays. -/
module

public import proofs.«01_k».proof.Proof.Point
public import Idealize.ShloMosaic.Lib.Pipeline.ValueKit

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL.Sem

/-- Which tile of 128 rows a point works on. -/
abbrev chunk (n : ℕ) : ℕ := (n / 10 - 1) * 4 + n % 10 / 2

/-- The block of this input that a step reads. -/
theorem idx0 : ∀ t : Fin cfg0.N, t.val < 370 → win0_0.index t = ![t.val % 10, t.val / 10] := (by decide +kernel : ∀ t : Fin grid0.N, _)
/-- The block of this input that a step reads. -/
theorem idx1 : ∀ t : Fin cfg0.N, t.val < 370 → win0_1.index t = ![t.val % 10, 0] := (by decide +kernel : ∀ t : Fin grid0.N, _)
/-- The block of this input that a step reads. -/
theorem idx2 : ∀ t : Fin cfg0.N, win0_2.index t = ![0, 0] := (by decide +kernel : ∀ t : Fin grid0.N, _)
/-- The block of this input that a step reads. -/
theorem idx3 : ∀ t : Fin cfg0.N, win0_3.index t = ![0, 0] := (by decide +kernel : ∀ t : Fin grid0.N, _)
/-- The block of this input that a step reads. -/
theorem idx4 : ∀ t : Fin cfg0.N, Live t.val → win0_4.index t = ![chunk t.val, 0] := (by decide +kernel : ∀ t : Fin grid0.N, _)
/-- The block of this input that a step reads. -/
theorem idx5 : ∀ t : Fin cfg0.N, Live t.val → win0_5.index t = ![0, chunk t.val] := (by decide +kernel : ∀ t : Fin grid0.N, _)
/-- The block of this input that a step reads. -/
theorem idx6 : ∀ t : Fin cfg0.N, Live t.val → win0_6.index t = ![chunk t.val, 0] := (by decide +kernel : ∀ t : Fin grid0.N, _)
/-- The block of this input that a step reads. -/
theorem idx7 : ∀ t : Fin cfg0.N, Live t.val → win0_7.index t = ![0, chunk t.val] := (by decide +kernel : ∀ t : Fin grid0.N, _)
/-- The block of this input that a step reads. -/
theorem idx8 : ∀ t : Fin cfg0.N, Live t.val → win0_8.index t = ![chunk t.val, 0] := (by decide +kernel : ∀ t : Fin grid0.N, _)
/-- The block of this input that a step reads. -/
theorem idx9 : ∀ t : Fin cfg0.N, Live t.val → win0_9.index t = ![chunk t.val, 0, 0] := (by decide +kernel : ∀ t : Fin grid0.N, _)
/-- The block of this input that a step reads. -/
theorem idx10 : ∀ t : Fin cfg0.N, Live t.val → win0_10.index t = ![chunk t.val, 0] := (by decide +kernel : ∀ t : Fin grid0.N, _)
/-- The block of this result that a step holds. -/
theorem idx11 : ∀ t : Fin cfg0.N, 10 ≤ t.val → win0_11.index t = ![chunk (epi t).val, 0] := (by decide +kernel : ∀ t : Fin grid0.N, _)
/-- The block of this result that a step holds. -/
theorem idx12 : ∀ t : Fin cfg0.N, 10 ≤ t.val → win0_12.index t = ![chunk (epi t).val, 0, 0] := (by decide +kernel : ∀ t : Fin grid0.N, _)
/-- The block of this result that a step holds. -/
theorem idx13 : ∀ t : Fin cfg0.N, 10 ≤ t.val → win0_13.index t = ![chunk (epi t).val, 0] := (by decide +kernel : ∀ t : Fin grid0.N, _)
/-- The block of this result that a step holds. -/
theorem idx14 : ∀ t : Fin cfg0.N, 10 ≤ t.val → win0_14.index t = ![chunk (epi t).val, 0] := (by decide +kernel : ∀ t : Fin grid0.N, _)
/-- The block of this result that a step holds. -/
theorem idx15 : ∀ t : Fin cfg0.N, 10 ≤ t.val → win0_15.index t = ![chunk (epi t).val, 0] := (by decide +kernel : ∀ t : Fin grid0.N, _)
/-- The block of this result that a step holds. -/
theorem idx16 : ∀ t : Fin cfg0.N, 10 ≤ t.val → win0_16.index t = ![0, chunk (epi t).val] := (by decide +kernel : ∀ t : Fin grid0.N, _)
/-- The block of this result that a step holds. -/
theorem idx17 : ∀ t : Fin cfg0.N, 10 ≤ t.val → win0_17.index t = ![chunk (epi t).val, 0] := (by decide +kernel : ∀ t : Fin grid0.N, _)
/-- The block of this result that a step holds. -/
theorem idx18 : ∀ t : Fin cfg0.N, 10 ≤ t.val → win0_18.index t = ![0, chunk (epi t).val] := (by decide +kernel : ∀ t : Fin grid0.N, _)

/-- The points that the result blocks come from make a part of an optimizer step. -/
theorem live_epi : ∀ t : Fin cfg0.N, Live (epi t).val := (by decide +kernel : ∀ t : Fin grid0.N, _)

variable (m : (ℓ : Loc nD τ sig) → Buf (Elt Ideal) ℓ)

/-! What the arrays that the host makes hold before the kernel starts. -/

/-- What the lines before the kernel make of the argument. -/
theorem V_v0 (c : Dev nD) : V m c main_v0 = shapeCast S15360x3584 (m ((c : Thread nD τ).loc main_arg0)) shapeCasts_S5x3072x3584_S15360x3584 := by
  show StableHlo.after [hostOps0].flatten _ _ = _
  simp only [List.flatten_cons, List.flatten_nil, List.append_nil]
  unfold hostOps0
  after_results
  try rfl

/-- What the lines before the kernel make of the argument. -/
theorem V_v1 (c : Dev nD) : V m c main_v1 = shapeCast S15360x18944 (m ((c : Thread nD τ).loc main_arg1)) shapeCasts_S5x3072x18944_S15360x18944 := by
  show StableHlo.after [hostOps0].flatten _ _ = _
  simp only [List.flatten_cons, List.flatten_nil, List.append_nil]
  unfold hostOps0
  after_results
  try rfl

/-- What the lines before the kernel make of the argument. -/
theorem V_v2 (c : Dev nD) : V m c main_v2 = transpose S14x512 [1, 0] (m ((c : Thread nD τ).loc main_arg3)) transposes_S512x14_S14x512_1_0 := by
  show StableHlo.after [hostOps0].flatten _ _ = _
  simp only [List.flatten_cons, List.flatten_nil, List.append_nil]
  unfold hostOps0
  after_results
  try rfl

/-- What the lines before the kernel make of the argument. -/
theorem V_v3 (c : Dev nD) : V m c main_v3 = transpose S4x18944 [1, 0] (m ((c : Thread nD τ).loc main_arg5)) transposes_S18944x4_S4x18944_1_0 := by
  show StableHlo.after [hostOps0].flatten _ _ = _
  simp only [List.flatten_cons, List.flatten_nil, List.append_nil]
  unfold hostOps0
  after_results
  try rfl

/-- What the lines before the kernel make of the argument. -/
theorem V_v4 (c : Dev nD) : V m c main_v4 = transpose S4x18944 [1, 0] (m ((c : Thread nD τ).loc main_arg7)) transposes_S18944x4_S4x18944_1_0 := by
  show StableHlo.after [hostOps0].flatten _ _ = _
  simp only [List.flatten_cons, List.flatten_nil, List.append_nil]
  unfold hostOps0
  after_results
  try rfl

/-- What the lines before the kernel make of the argument. -/
theorem V_v5 (c : Dev nD) : V m c main_v5 = shapeCast S148x1x128 (m ((c : Thread nD τ).loc main_arg9)) shapeCasts_S18944_S148x1x128 := by
  show StableHlo.after [hostOps0].flatten _ _ = _
  simp only [List.flatten_cons, List.flatten_nil, List.append_nil]
  unfold hostOps0
  after_results
  try rfl

/-! Those arrays at an index. -/

/-- The reshaped or transposed argument, read at an entry. -/
theorem v0_at (x : Vec Ideal S5x3072x3584 .bf16) (i : S15360x3584.Idx) (l : Fin 15360) (j : Fin 3584) (h0 : (i 0).val = l.val) (h1 : (i 1).val = j.val) :
    shapeCast S15360x3584 x shapeCasts_S5x3072x3584_S15360x3584 i = x (ix3 ⟨l.val / 3072, by omega⟩ ⟨l.val % 3072, by omega⟩ j) := by
  obtain rfl : i = ix2 l j := by funext k; fin_cases k; exacts [Fin.ext h0, Fin.ext h1]
  pointwise []

/-- The reshaped or transposed argument, read at an entry. -/
theorem v1_at (x : Vec Ideal S5x3072x18944 .bf16) (i : S15360x18944.Idx) (l : Fin 15360) (o : Fin 18944) (h0 : (i 0).val = l.val) (h1 : (i 1).val = o.val) :
    shapeCast S15360x18944 x shapeCasts_S5x3072x18944_S15360x18944 i = x (ix3 ⟨l.val / 3072, by omega⟩ ⟨l.val % 3072, by omega⟩ o) := by
  obtain rfl : i = ix2 l o := by funext k; fin_cases k; exacts [Fin.ext h0, Fin.ext h1]
  pointwise []

/-- The reshaped or transposed argument, read at an entry. -/
theorem v2_at (x : Vec Ideal S512x14 .f32) (i : S14x512.Idx) (q : Fin 14) (r : Fin 512) (h0 : (i 0).val = q.val) (h1 : (i 1).val = r.val) :
    transpose S14x512 [1, 0] x transposes_S512x14_S14x512_1_0 i = x (ix2 r q) := by
  obtain rfl : i = ix2 q r := by funext k; fin_cases k; exacts [Fin.ext h0, Fin.ext h1]
  pointwise []

/-- The reshaped or transposed argument, read at an entry. -/
theorem v3_at (x : Vec Ideal S18944x4 .f32) (i : S4x18944.Idx) (q : Fin 4) (o : Fin 18944) (h0 : (i 0).val = q.val) (h1 : (i 1).val = o.val) :
    transpose S4x18944 [1, 0] x transposes_S18944x4_S4x18944_1_0 i = x (ix2 o q) := by
  obtain rfl : i = ix2 q o := by funext k; fin_cases k; exacts [Fin.ext h0, Fin.ext h1]
  pointwise []

/-- The reshaped or transposed argument, read at an entry. -/
theorem v5_at (x : Vec Ideal S18944 .f32) (i : S148x1x128.Idx) (o : Fin 18944) (h : o.val = (i 0).val * 128 + (i 2).val) :
    shapeCast S148x1x128 x shapeCasts_S18944_S148x1x128 i = x (ix1 o) := by
  obtain ⟨a, b, e, rfl⟩ : ∃ (a : Fin 148) (b : Fin 1) (e : Fin 128), i = ix3 a b e := ⟨i 0, i 1, i 2, by funext k; fin_cases k <;> rfl⟩
  have h' : o.val = a.val * 128 + e.val := h
  rw [show o = ⟨a.val * 128 + e.val, by omega⟩ from Fin.ext h']
  pointwise []

/-! What the blocks of the operands hold. -/

/-- The block of this input, read at an entry of the argument. -/
theorem iblk0_at (c : Dev nD) (t : Fin cfg0.N) (h : t.val < 370) (k : Fin 1536) (a : Fin 512) (l : Fin 15360) (hl : l.val = t.val % 10 * 1536 + k.val)
    (o : Fin 18944) (ho : o.val = t.val / 10 * 512 + a.val) :
    iblk m c 0 t (ix2 k a) = m ((c : Thread nD τ).loc main_arg1) (ix3 ⟨l.val / 3072, by omega⟩ ⟨l.val % 3072, by omega⟩ o) := by
  refine (congrFun (V_v1 m c) _).trans (v1_at _ _ l o ?_ ?_)
  · blk_simp [idx0 t h] <;> omega
  · blk_simp [idx0 t h] <;> omega

/-- The block of this input, read at an entry of the argument. -/
theorem iblk1_at (c : Dev nD) (t : Fin cfg0.N) (h : t.val < 370) (k : Fin 1536) (j : Fin 3584) (l : Fin 15360) (hl : l.val = t.val % 10 * 1536 + k.val) :
    iblk m c 1 t (ix2 k j) = m ((c : Thread nD τ).loc main_arg0) (ix3 ⟨l.val / 3072, by omega⟩ ⟨l.val % 3072, by omega⟩ j) := by
  refine (congrFun (V_v0 m c) _).trans (v0_at _ _ l j ?_ ?_)
  · blk_simp [idx1 t h] <;> omega
  · blk_simp [idx1 t h] <;> omega

/-- The block of this input, read at an entry of the argument. -/
theorem iblk2_at (c : Dev nD) (t : Fin cfg0.N) (r : Fin 512) (j : Fin 1792) :
    iblk m c 2 t (ix2 r j) = m ((c : Thread nD τ).loc main_arg2) (ix2 r j) := by
  blk_ext [iblk, V, idx2 t]

/-- The block of this input, read at an entry of the argument. -/
theorem iblk3_at (c : Dev nD) (t : Fin cfg0.N) (q : Fin 14) (r : Fin 512) :
    iblk m c 3 t (ix2 q r) = m ((c : Thread nD τ).loc main_arg3) (ix2 r q) := by
  refine (congrFun (V_v2 m c) _).trans (v2_at _ _ q r ?_ ?_)
  · blk_simp [idx3 t] <;> omega
  · blk_simp [idx3 t] <;> omega

variable (c : Dev nD) (t : Fin cfg0.N) (h : Live t.val) (o : Fin 18944) (a : Fin 128) (ho : o.val = 128 * chunk t.val + a.val)

include h ho

/-- The block of this input, read at an entry of the argument. -/
theorem iblk4_at (j : Fin 512) : iblk m c 4 t (ix2 a j) = m ((c : Thread nD τ).loc main_arg4) (ix2 o j) := by
  blk_ext [iblk, V, idx4 t h]

/-- The block of this input, read at an entry of the argument. -/
theorem iblk6_at (j : Fin 512) : iblk m c 6 t (ix2 a j) = m ((c : Thread nD τ).loc main_arg6) (ix2 o j) := by
  blk_ext [iblk, V, idx6 t h]

/-- The block of this input, read at an entry of the argument. -/
theorem iblk8_at (j : Fin 3584) : iblk m c 8 t (ix2 a j) = m ((c : Thread nD τ).loc main_arg8) (ix2 o j) := by
  blk_ext [iblk, V, idx8 t h]

/-- The block of this input, read at an entry of the argument. -/
theorem iblk10_at (j : Fin 3584) : iblk m c 10 t (ix2 a j) = m ((c : Thread nD τ).loc main_arg10) (ix2 o j) := by
  blk_ext [iblk, V, idx10 t h]

/-- The block of this input, read at an entry of the argument. -/
theorem iblk5_at (q : Fin 4) : iblk m c 5 t (ix2 q a) = m ((c : Thread nD τ).loc main_arg5) (ix2 o q) := by
  refine (congrFun (V_v3 m c) _).trans (v3_at _ _ q o ?_ ?_)
  · blk_simp [idx5 t h] <;> omega
  · blk_simp [idx5 t h] <;> omega

/-- The block of this input, read at an entry of the argument. -/
theorem iblk7_at (q : Fin 4) : iblk m c 7 t (ix2 q a) = m ((c : Thread nD τ).loc main_arg7) (ix2 o q) := by
  refine (congrFun (V_v4 m c) _).trans (v3_at _ _ q o ?_ ?_)
  · blk_simp [idx7 t h] <;> omega
  · blk_simp [idx7 t h] <;> omega

/-- The block of this input, read at an entry of the argument. -/
theorem iblk9_at : iblk m c 9 t (ix3 0 0 a) = m ((c : Thread nD τ).loc main_arg9) (ix1 o) := by
  refine (congrFun (V_v5 m c) _).trans (v5_at _ _ o ?_)
  blk_simp [idx9 t h] <;> omega

end Cert.KernelIdeal.Value
-- ==== Proof.Whole.lean ====
/- The whole computation, one output row at a time, out of the argument arrays. -/
module

public import proofs.«01_k».proof.Proof.Decode

@[expose] public section

set_option maxRecDepth 16384

noncomputable section

namespace Cert.Row

open Cert.KernelIdeal
open Idealize.ShloMosaic Idealize.ShloMosaic.TcCoe

variable (x : Vec Ideal S5x3072x3584 .bf16) (dy : Vec Ideal S5x3072x18944 .bf16) (qp : Vec Ideal S512x1792 .i8) (ps : Vec Ideal S512x14 .f32)
  (mc : Vec Ideal S18944x512 .i8) (ms : Vec Ideal S18944x4 .f32) (vc : Vec Ideal S18944x512 .i8) (vs : Vec Ideal S18944x4 .f32)
  (wc : Vec Ideal S18944x3584 .i8) (ws : Vec Ideal S18944 .f32) (sr : Vec Ideal S18944x3584 .i8)

/-- An entry of the gradient: the products of the two activations over all tokens. -/
def gradOf (o : Fin 18944) (j : Fin 3584) : EReal := ∑ k₁ : Fin 5, ∑ k₂ : Fin 3072, dy (ix3 k₁ k₂ o) * x (ix3 k₁ k₂ j)

/-- An entry of the projector. -/
def projOf (r : Fin 512) (j : Fin 3584) : EReal :=
  FloatOps.sitofp (F := Ideal) .f32 (Value.nibble (qp (ix2 r ⟨j.val / 2, by omega⟩)) (decide (j.val % 2 = 1))) * ps (ix2 r ⟨j.val / 256, by omega⟩)

/-- What output row `o` depends on. -/
def rowOf (o : Fin 18944) : In where
  low r := ∑ j : Fin 3584, gradOf x dy o j * projOf qp ps r j
  p := projOf qp ps
  mc j := mc (ix2 o j)
  ms q := ms (ix2 o q)
  vc j := vc (ix2 o j)
  vs q := vs (ix2 o q)
  wc j := wc (ix2 o j)
  ws := ws (ix1 o)
  sr j := sr (ix2 o j)

end Cert.Row
-- ==== Proof.Grad.lean ====
/- The accumulator holds the gradient, and the rows of a tile are the rows of the whole computation. -/
module

public import proofs.«01_k».proof.Proof.Index
public import proofs.«01_k».proof.Proof.Whole

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL.Sem

variable (m : (ℓ : Loc nD τ sig) → Buf (Elt Ideal) ℓ)

/-- The product that point `n` adds. -/
def prodAt (c : Dev nD) (n : ℕ) (y : S512x3584.Idx) : EReal :=
  if h : n < cfg0.N then prodOf (iblk m c 0 ⟨n, h⟩) (iblk m c 1 ⟨n, h⟩) y else 0

/-- The accumulator inside a row of the grid is the sum of the products so far. -/
theorem acc_sum (c : Dev nD) (i : ℕ) (hi : i < 37) (y : S512x3584.Idx) : ∀ k : ℕ, k < 10 →
    accAt m c (10 * i + (k + 1)) y = ∑ s ∈ Finset.range (k + 1), prodAt m c (10 * i + s) y := by
  intro k
  induction k with
  | zero =>
    intro _
    have h : 10 * i < cfg0.N := by show 10 * i < 380; omega
    rw [show 10 * i + (0 + 1) = 10 * i + 1 from rfl, accAt, dif_pos h, Finset.sum_range_one]
    unfold addOf prodAt
    rw [if_pos (by omega), dif_pos (by exact h), zero_add]
    rfl
  | succ k ih =>
    intro hk
    have h : 10 * i + (k + 1) < cfg0.N := by show 10 * i + (k + 1) < 380; omega
    rw [show 10 * i + (k + 1 + 1) = 10 * i + (k + 1) + 1 from rfl, accAt, dif_pos h, Finset.sum_range_succ, ← ih (by omega)]
    unfold addOf
    rw [if_neg (by omega)]
    unfold prodAt
    rw [dif_pos h]

/-- A token's term of an entry of the gradient. -/
def term (x : Vec Ideal S5x3072x3584 .bf16) (dy : Vec Ideal S5x3072x18944 .bf16) (o : Fin 18944) (j : Fin 3584) (l : Fin 15360) : EReal :=
  dy (ix3 ⟨l.val / 3072, by omega⟩ ⟨l.val % 3072, by omega⟩ o) * x (ix3 ⟨l.val / 3072, by omega⟩ ⟨l.val % 3072, by omega⟩ j)

/-- The gradient sums over all tokens in one go, -/
theorem gradOf_eq (x : Vec Ideal S5x3072x3584 .bf16) (dy : Vec Ideal S5x3072x18944 .bf16) (o : Fin 18944) (j : Fin 3584) :
    gradOf x dy o j = ∑ l : Fin 15360, term x dy o j l := by
  unfold gradOf
  refine Fin.sum_mul_add_congr (S := 5) (n := 3072) (L := 15360) (hL := by decide) (h := fun s k hl => ?_)
  unfold term
  have e1 : (⟨(s.val * 3072 + k.val) / 3072, by omega⟩ : Fin 5) = s := Fin.ext (by show (s.val * 3072 + k.val) / 3072 = s.val; omega)
  have e2 : (⟨(s.val * 3072 + k.val) % 3072, by omega⟩ : Fin 3072) = k := Fin.ext (by show (s.val * 3072 + k.val) % 3072 = k.val; omega)
  simp only [e1, e2]

/-- and so does the accumulator at the end of a row of the grid. -/
theorem acc_grad (c : Dev nD) (i : ℕ) (hi : i < 37) (a : Fin 512) (j : Fin 3584) (o : Fin 18944) (ho : o.val = i * 512 + a.val) :
    accAt m c (10 * (i + 1)) (ix2 a j) = gradOf (m ((c : Thread nD τ).loc main_arg0)) (m ((c : Thread nD τ).loc main_arg1)) o j := by
  rw [show 10 * (i + 1) = 10 * i + (9 + 1) by omega, acc_sum m c i hi _ 9 (by omega), gradOf_eq, Finset.sum_range]
  show ∑ s : Fin 10, prodAt m c (10 * i + s.val) (ix2 a j) = _
  have hp : ∀ s : Fin 10, prodAt m c (10 * i + s.val) (ix2 a j)
      = ∑ k : Fin 1536, ((show EReal from iblk m c 0 ⟨10 * i + s.val, by show _ < 380; omega⟩ (ix2 k a)) * (show EReal from iblk m c 1 ⟨10 * i + s.val, by show _ < 380; omega⟩ (ix2 k j))) := fun s => by
    unfold prodAt
    rw [dif_pos (show 10 * i + s.val < cfg0.N by show _ < 380; omega)]
    rfl
  simp only [hp]
  refine Fin.sum_mul_add_congr (S := 10) (n := 1536) (L := 15360) (hL := by decide) (h := fun s k hl => ?_)
  unfold term
  have hs : (10 * i + s.val) % 10 = s.val := by omega
  have hd : (10 * i + s.val) / 10 = i := by omega
  rw [iblk0_at m c ⟨10 * i + s.val, by show _ < 380; omega⟩ (by show 10 * i + s.val < 370; omega) k a ⟨s.val * 1536 + k.val, hl⟩ (by show _ = (10 * i + s.val) % 10 * 1536 + k.val; rw [hs]) o
      (by show _ = (10 * i + s.val) / 10 * 512 + a.val; rw [hd]; exact ho),
    iblk1_at m c ⟨10 * i + s.val, by show _ < 380; omega⟩ (by show 10 * i + s.val < 370; omega) k j ⟨s.val * 1536 + k.val, hl⟩ (by show _ = (10 * i + s.val) % 10 * 1536 + k.val; rw [hs])]

/-- What output row `o` depends on, in the kernel's arguments. -/
abbrev row (c : Dev nD) (o : Fin 18944) : In :=
  rowOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) o

/-- The decoded projector is the projector. -/
theorem proj_at (c : Dev nD) (r : Fin 512) (j : Fin 3584) :
    projAt (iblk m c 2 ⟨0, by decide⟩) (iblk m c 3 ⟨0, by decide⟩) r j = projOf (m ((c : Thread nD τ).loc main_arg2)) (m ((c : Thread nD τ).loc main_arg3)) r j := by
  unfold projAt projOf
  rw [iblk2_at, iblk3_at]

/-- A row of a tile is a row of the whole computation. -/
theorem tile_row (c : Dev nD) (t : Fin cfg0.N) (h : Live t.val) (a : Fin 128) (o : Fin 18944) (ho : o.val = 128 * chunk t.val + a.val) :
    tile (lowAt m c t.val) (iblk m c 4 t) (iblk m c 5 t) (iblk m c 6 t) (iblk m c 7 t) (iblk m c 8 t) (iblk m c 9 t) (iblk m c 10 t) (pAt m c) a = row m c o := by
  have hN : t.val < 380 := t.isLt
  obtain ⟨h1, h2, h3⟩ := h
  unfold tile row rowOf
  simp only [In.mk.injEq]
  refine ⟨funext fun r => ?_, funext fun r => funext fun j => proj_at m c r j, funext fun j => iblk4_at m c t ⟨h1, h2, h3⟩ o a ho j, funext fun q => iblk5_at m c t ⟨h1, h2, h3⟩ o a ho q,
    funext fun j => iblk6_at m c t ⟨h1, h2, h3⟩ o a ho j, funext fun q => iblk7_at m c t ⟨h1, h2, h3⟩ o a ho q, funext fun j => iblk8_at m c t ⟨h1, h2, h3⟩ o a ho j,
    iblk9_at m c t ⟨h1, h2, h3⟩ o a ho, funext fun j => iblk10_at m c t ⟨h1, h2, h3⟩ o a ho j⟩
  show (∑ j : Fin 3584, gAt m c t.val (ix2 ⟨128 * (quarter t.val).val + a.val, _⟩ j) * ptAt m c (ix2 j r) : EReal) = _
  refine Finset.sum_congr rfl fun j _ => ?_
  have e : 10 * (t.val / 10) = 10 * ((t.val / 10 - 1) + 1) := by omega
  unfold gAt
  rw [e, acc_grad m c (t.val / 10 - 1) (by omega) _ j o (by
    show o.val = (t.val / 10 - 1) * 512 + (128 * (t.val % 10 / 2 % 4) + a.val)
    rw [ho]; unfold chunk; omega)]
  exact congrArg (_ * ·) (proj_at m c r j)

end Cert.KernelIdeal.Value
-- ==== Proof.ValueRun.lean ====
/- The run of the whole program with what every result block holds. -/
module

public import Idealize.ShloMosaic.Lib.Pipeline.TableIdle
public import proofs.«01_k».proof.Proof.Point

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data: after the body at a point each input window holds its block and each result window what the step of `epi` stores; between
    points the scratch buffers hold what `Inv` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => blocks m c outW (epi t)
    | ⟨12, _⟩ => blocks m c outWs (epi t)
    | ⟨13, _⟩ => blocks m c outD (epi t)
    | ⟨14, _⟩ => blocks m c outN (epi t)
    | ⟨15, _⟩ => blocks m c outM (epi t)
    | ⟨16, _⟩ => blocks m c outMs (epi t)
    | ⟨17, _⟩ => blocks m c outV (epi t)
    | ⟨18, _⟩ => blocks m c outVs (epi t)
    | ⟨_ + 19, h⟩ => absurd h (Nat.not_lt.2 (Nat.le_add_left _ _))
  Φ t := iprop(∃ acc, ∃ g, ∃ p, ∃ pt, ⌜Inv m c t.val acc g p pt⌝ ∗ (owns (c : Thread nD τ) scM0_0 fullShare acc ∗ owns (c : Thread nD τ) scM0_1 fullShare g ∗ owns (c : Thread nD τ) scM0_2 fullShare p ∗ owns (c : Thread nD τ) scM0_3 fullShare pt ∗ (∃ d, owns (c : Thread nD τ) scM0_4 fullShare d)) ∗ (∃ r, prngReg c r))
  q _ := fullShare
  owed _ := 0

/-- The arrays are the contents at the region's entry. -/
theorem A_eq (c : Dev nD) (w : Fin cfg0.W) : (dats m 0 c).A w = V m c (Pipeline.arrRef spec0 w) := by
  dsimp only [dats]

/-- The body leaves this input block as it found it. -/
theorem after0_0 (c : Dev nD) (t : Fin cfg0.N) : (dats m 0 c).after 0 t = iblk m c 0 t := by dsimp only [dats]
/-- The body leaves this input block as it found it. -/
theorem after0_1 (c : Dev nD) (t : Fin cfg0.N) : (dats m 0 c).after 1 t = iblk m c 1 t := by dsimp only [dats]
/-- The body leaves this input block as it found it. -/
theorem after0_2 (c : Dev nD) (t : Fin cfg0.N) : (dats m 0 c).after 2 t = iblk m c 2 t := by dsimp only [dats]
/-- The body leaves this input block as it found it. -/
theorem after0_3 (c : Dev nD) (t : Fin cfg0.N) : (dats m 0 c).after 3 t = iblk m c 3 t := by dsimp only [dats]
/-- The body leaves this input block as it found it. -/
theorem after0_4 (c : Dev nD) (t : Fin cfg0.N) : (dats m 0 c).after 4 t = iblk m c 4 t := by dsimp only [dats]
/-- The body leaves this input block as it found it. -/
theorem after0_5 (c : Dev nD) (t : Fin cfg0.N) : (dats m 0 c).after 5 t = iblk m c 5 t := by dsimp only [dats]
/-- The body leaves this input block as it found it. -/
theorem after0_6 (c : Dev nD) (t : Fin cfg0.N) : (dats m 0 c).after 6 t = iblk m c 6 t := by dsimp only [dats]
/-- The body leaves this input block as it found it. -/
theorem after0_7 (c : Dev nD) (t : Fin cfg0.N) : (dats m 0 c).after 7 t = iblk m c 7 t := by dsimp only [dats]
/-- The body leaves this input block as it found it. -/
theorem after0_8 (c : Dev nD) (t : Fin cfg0.N) : (dats m 0 c).after 8 t = iblk m c 8 t := by dsimp only [dats]
/-- The body leaves this input block as it found it. -/
theorem after0_9 (c : Dev nD) (t : Fin cfg0.N) : (dats m 0 c).after 9 t = iblk m c 9 t := by dsimp only [dats]
/-- The body leaves this input block as it found it. -/
theorem after0_10 (c : Dev nD) (t : Fin cfg0.N) : (dats m 0 c).after 10 t = iblk m c 10 t := by dsimp only [dats]
/-- The body leaves this input block as it found it. -/
theorem after0_11 (c : Dev nD) (t : Fin cfg0.N) : (dats m 0 c).after 11 t = blocks m c outW (epi t) := by dsimp only [dats]
/-- The body leaves this input block as it found it. -/
theorem after0_12 (c : Dev nD) (t : Fin cfg0.N) : (dats m 0 c).after 12 t = blocks m c outWs (epi t) := by dsimp only [dats]
/-- The body leaves this input block as it found it. -/
theorem after0_13 (c : Dev nD) (t : Fin cfg0.N) : (dats m 0 c).after 13 t = blocks m c outD (epi t) := by dsimp only [dats]
/-- The body leaves this input block as it found it. -/
theorem after0_14 (c : Dev nD) (t : Fin cfg0.N) : (dats m 0 c).after 14 t = blocks m c outN (epi t) := by dsimp only [dats]
/-- The body leaves this input block as it found it. -/
theorem after0_15 (c : Dev nD) (t : Fin cfg0.N) : (dats m 0 c).after 15 t = blocks m c outM (epi t) := by dsimp only [dats]
/-- The body leaves this input block as it found it. -/
theorem after0_16 (c : Dev nD) (t : Fin cfg0.N) : (dats m 0 c).after 16 t = blocks m c outMs (epi t) := by dsimp only [dats]
/-- The body leaves this input block as it found it. -/
theorem after0_17 (c : Dev nD) (t : Fin cfg0.N) : (dats m 0 c).after 17 t = blocks m c outV (epi t) := by dsimp only [dats]
/-- The body leaves this input block as it found it. -/
theorem after0_18 (c : Dev nD) (t : Fin cfg0.N) : (dats m 0 c).after 18 t = blocks m c outVs (epi t) := by dsimp only [dats]

/-- The body finds in this input block the part of the array that the step reads. -/
theorem before0_0 (c : Dev nD) (t : Fin cfg0.N) (d) : (dats m 0 c).before 0 t d = iblk m c 0 t := before0_0_of m (dats m 0 c) (A_eq m c 0) (after0_0 m c) t d
/-- The body finds in this input block the part of the array that the step reads. -/
theorem before0_1 (c : Dev nD) (t : Fin cfg0.N) (d) : (dats m 0 c).before 1 t d = iblk m c 1 t := before0_1_of m (dats m 0 c) (A_eq m c 1) (after0_1 m c) t d
/-- The body finds in this input block the part of the array that the step reads. -/
theorem before0_2 (c : Dev nD) (t : Fin cfg0.N) (d) : (dats m 0 c).before 2 t d = iblk m c 2 t := before0_2_of m (dats m 0 c) (A_eq m c 2) (after0_2 m c) t d
/-- The body finds in this input block the part of the array that the step reads. -/
theorem before0_3 (c : Dev nD) (t : Fin cfg0.N) (d) : (dats m 0 c).before 3 t d = iblk m c 3 t := before0_3_of m (dats m 0 c) (A_eq m c 3) (after0_3 m c) t d
/-- The body finds in this input block the part of the array that the step reads. -/
theorem before0_4 (c : Dev nD) (t : Fin cfg0.N) (d) : (dats m 0 c).before 4 t d = iblk m c 4 t := before0_4_of m (dats m 0 c) (A_eq m c 4) (after0_4 m c) t d
/-- The body finds in this input block the part of the array that the step reads. -/
theorem before0_5 (c : Dev nD) (t : Fin cfg0.N) (d) : (dats m 0 c).before 5 t d = iblk m c 5 t := before0_5_of m (dats m 0 c) (A_eq m c 5) (after0_5 m c) t d
/-- The body finds in this input block the part of the array that the step reads. -/
theorem before0_6 (c : Dev nD) (t : Fin cfg0.N) (d) : (dats m 0 c).before 6 t d = iblk m c 6 t := before0_6_of m (dats m 0 c) (A_eq m c 6) (after0_6 m c) t d
/-- The body finds in this input block the part of the array that the step reads. -/
theorem before0_7 (c : Dev nD) (t : Fin cfg0.N) (d) : (dats m 0 c).before 7 t d = iblk m c 7 t := before0_7_of m (dats m 0 c) (A_eq m c 7) (after0_7 m c) t d
/-- The body finds in this input block the part of the array that the step reads. -/
theorem before0_8 (c : Dev nD) (t : Fin cfg0.N) (d) : (dats m 0 c).before 8 t d = iblk m c 8 t := before0_8_of m (dats m 0 c) (A_eq m c 8) (after0_8 m c) t d
/-- The body finds in this input block the part of the array that the step reads. -/
theorem before0_9 (c : Dev nD) (t : Fin cfg0.N) (d) : (dats m 0 c).before 9 t d = iblk m c 9 t := before0_9_of m (dats m 0 c) (A_eq m c 9) (after0_9 m c) t d
/-- The body finds in this input block the part of the array that the step reads. -/
theorem before0_10 (c : Dev nD) (t : Fin cfg0.N) (d) : (dats m 0 c).before 10 t d = iblk m c 10 t := before0_10_of m (dats m 0 c) (A_eq m c 10) (after0_10 m c) t d

/-- Where a result window is idle, -/
theorem idle_out (w : Fin 19) (hw : 11 ≤ w.val) (t : Fin cfg0.N) : cfg0.idle w (grid0.coords t) = !decide (Live t.val) := by
  have e : cfg0.idle w (grid0.coords t) = (!(k0_cond2 (grid0.coords t) == 1#1) && !(k0_cond5 (grid0.coords t) == 1#1)) := by
    match w, hw with
    | ⟨0, _⟩, h | ⟨1, _⟩, h | ⟨2, _⟩, h | ⟨3, _⟩, h | ⟨4, _⟩, h | ⟨5, _⟩, h | ⟨6, _⟩, h | ⟨7, _⟩, h | ⟨8, _⟩, h | ⟨9, _⟩, h | ⟨10, _⟩, h => exact absurd h (by simp)
    | ⟨11, _⟩, _ | ⟨12, _⟩, _ | ⟨13, _⟩, _ | ⟨14, _⟩, _ | ⟨15, _⟩, _ | ⟨16, _⟩, _ | ⟨17, _⟩, _ | ⟨18, _⟩, _ => rfl
    | ⟨n + 19, h⟩, _ => exact absurd h (Nat.not_lt.2 (Nat.le_add_left _ _))
  have h2 := cond1_iff t
  have h5 := cond4_iff t
  have hN : t.val < 380 := t.isLt
  unfold cond1 at h2
  unfold cond4 at h5
  rw [e]
  by_cases h : Live t.val
  · rw [decide_eq_true h]
    by_cases hl : t.val < 370
    · rw [h2.mpr ⟨h.1, hl, h.2.1, h.2.2⟩]; rfl
    · rw [h5.mpr ⟨by omega, h.2.1, h.2.2⟩]; exact Bool.and_false _
  · rw [decide_eq_false h, beq_eq_false_iff_ne.mpr (fun hx => h (by have := h2.mp hx; exact ⟨this.1, this.2.2.1, this.2.2.2⟩)),
      beq_eq_false_iff_ne.mpr (fun hx => h (by have := h5.mp hx; exact ⟨by omega, this.2.1, this.2.2⟩))]
    rfl

/-- where it writes its block back, -/
theorem flush_out : ∀ (w : Fin cfg0.W) (t : Fin cfg0.N), 11 ≤ w.val → (cfg0.win w).flush t = decide (10 ≤ t.val ∧ (t.val % 10 = 1 ∨ t.val % 10 = 3 ∨ t.val % 10 = 5 ∨ t.val % 10 = 9)) := by decide +kernel

/-- and where its buffer holds nothing of the body's. -/
theorem fresh_out (w : Fin cfg0.W) (hw : 11 ≤ w.val) : ∀ n, n ≤ cfg0.N → cfg0.fresh w n = decide (n ≤ 10 ∨ (n % 2 = 0 ∧ n % 10 < 8)) :=
  cfg0.fresh_tab w (fun n => decide (n ≤ 10 ∨ (n % 2 = 0 ∧ n % 10 < 8))) rfl fun t => by
    rw [flush_out w t hw, show cfg0.idle w (cfg0.grid.coords t) = _ from idle_out w hw t]
    have hN : t.val < 380 := t.isLt
    simp only [Live, ← decide_not, ← Bool.decide_and, ← Bool.decide_or]
    exact decide_eq_decide.mpr (by omega)

/-- A result window's block depends on the point through `epi` alone. -/
theorem after_epi (c : Dev nD) (w : Fin cfg0.W) (hw : 11 ≤ w.val) (t u : Fin cfg0.N) (h : epi t = epi u) : (dats m 0 c).after w t = (dats m 0 c).after w u := by
  match w, hw with
  | ⟨0, _⟩, h | ⟨1, _⟩, h | ⟨2, _⟩, h | ⟨3, _⟩, h | ⟨4, _⟩, h | ⟨5, _⟩, h | ⟨6, _⟩, h | ⟨7, _⟩, h | ⟨8, _⟩, h | ⟨9, _⟩, h | ⟨10, _⟩, h => exact absurd h (by simp)
  | ⟨11, _⟩, _ | ⟨12, _⟩, _ | ⟨13, _⟩, _ | ⟨14, _⟩, _ | ⟨15, _⟩, _ | ⟨16, _⟩, _ | ⟨17, _⟩, _ | ⟨18, _⟩, _ => dsimp only [dats]; rw [h]
  | ⟨n + 19, h⟩, _ => exact absurd h (Nat.not_lt.2 (Nat.le_add_left _ _))

/-- Where the buffer is kept, the point before stages the same block. -/
theorem epi_kept (t : Fin cfg0.N) (ht : t.val ≠ 0) (hf : ¬(t.val ≤ 10 ∨ (t.val % 2 = 0 ∧ t.val % 10 < 8))) (h : t.val - 1 < cfg0.N) : epi t = epi ⟨t.val - 1, h⟩ := by
  apply Fin.ext
  unfold epi
  have hN : t.val < 380 := t.isLt
  show (if t.val < 10 then 10 else if t.val % 10 < 8 then t.val - t.val % 2 else t.val - t.val % 10 + 6)
    = (if t.val - 1 < 10 then 10 else if (t.val - 1) % 10 < 8 then (t.val - 1) - (t.val - 1) % 2 else (t.val - 1) - (t.val - 1) % 10 + 6)
  split <;> split <;> (try split) <;> (try split) <;> omega

/-- A result buffer at the step's block where the step is made, and at what it held elsewhere, is what the point is to leave. -/
theorem leaves_out (c : Dev nD) (w : Fin cfg0.W) (hw : 11 ≤ w.val) (ho : (cfg0.win w).isOut = true) (hcl : ∀ (i : cfg0.grid.Coords) a, (cfg0.win w).clip i a = none) (t : Fin cfg0.N) (d) :
    (owns (c : Thread nD τ) ((cfg0.win w).stage (cfg0.slots t w)) fullShare (if Live t.val then (dats m 0 c).after w t else (dats m 0 c).before w t d) : sProp 𝕄) ⊢ (dats m 0 c).leavesExact w t := by
  by_cases h : Live t.val
  · rw [if_pos h]
    unfold Dat.leavesExact
    rw [show cfg0.idle w (cfg0.grid.coords t) = _ from idle_out w hw t, decide_eq_true h]
    exact Idealize.SL.BI.Entails.refl _
  · rw [if_neg h]
    by_cases hf : (cfg0.win w).flush t = true
    · have hN : t.val < 380 := t.isLt
      have hf' := hf
      rw [flush_out w t hw, decide_eq_true_eq] at hf'
      have hb := (dats m 0 c).before_out_traj w ho hcl (fun t ht hi hfr => after_epi m c w hw _ _ (epi_kept t ht (by
        rw [fresh_out w hw t.val (Nat.le_of_lt t.isLt), decide_eq_false_iff_not] at hfr; exact hfr) _)) t.val t rfl d
      have hnf : ¬(t.val ≤ 10 ∨ (t.val % 2 = 0 ∧ t.val % 10 < 8)) := by omega
      rw [hb, fresh_out w hw t.val (Nat.le_of_lt t.isLt), decide_eq_false hnf, if_neg (by decide),
        after_epi m c w hw _ t (epi_kept t (by omega) hnf _).symm]
      unfold Dat.leavesExact
      rw [show cfg0.idle w (cfg0.grid.coords t) = _ from idle_out w hw t, decide_eq_false h, hf]
      exact Idealize.SL.BI.Entails.refl _
    · rw [(dats m 0 c).leavesExact_idle w t ((idle_out w hw t).trans (by rw [decide_eq_false h]; rfl)) (Bool.not_eq_true _ ▸ hf)]
      iintro H
      iexists d
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t)

/-- What a result window is to hold where the step is made, at the point itself. -/
theorem after_live (c : Dev nD) (w : Fin cfg0.W) (t : Fin cfg0.N) (d) (G : Fin cfg0.N → ((cfg0.win w).block.Idx → Elt Ideal (cfg0.win w).elt)) (h : (dats m 0 c).after w t = G (epi t)) :
    (if Live t.val then (dats m 0 c).after w t else d) = if Live t.val then G t else d := by
  by_cases hl : Live t.val
  · rw [if_pos hl, if_pos hl, h, epi_live t hl]
  · rw [if_neg hl, if_neg hl]

/-- An input window's buffer at its block is what the point is to leave. -/
theorem leaves_in (c : Dev nD) (w : Fin 19) (hw : w.val < 11) (t : Fin cfg0.N) :
    (owns (c : Thread nD τ) ((cfg0.win w).stage (cfg0.slots t w)) fullShare ((dats m 0 c).after w t) : sProp 𝕄) ⊢ (dats m 0 c).leavesExact w t := by
  unfold Dat.leavesExact
  rw [show cfg0.idle w (cfg0.grid.coords t) = false from live w hw t]

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7, before0_8, before0_9, before0_10]
  rw [show (dats m 0 c).owesAt () t.succ = (dats m 0 c).owesAt () t.castSucc from rfl]
  dsimp only [dats]
  iintro ⟨⟨%acc, %g, %p, %pt, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (point m c t ((dats m 0 c).before 11 t d11) ((dats m 0 c).before 12 t d12) ((dats m 0 c).before 13 t d13) ((dats m 0 c).before 14 t d14) ((dats m 0 c).before 15 t d15) ((dats m 0 c).before 16 t d16) ((dats m 0 c).before 17 t d17) ((dats m 0 c).before 18 t d18) acc g p pt hI Set.univ _)
  isplitl [H0 H1 H2 H3 H4 H5 H6 H7 H8 H9 H10 H11 H12 H13 H14 H15 H16 H17 H18 HS0 HS1 HS2 HS3 HS4]
  · unfold state
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    iexact HS4
  iintro ⟨%acc', %g', %p', %pt', %hI', Hs⟩
  unfold state
  icases Hs with ⟨H0, H1, H2, H3, H4, H5, H6, H7, H8, H9, H10, H11, H12, H13, H14, H15, H16, H17, H18, HS0, HS1, HS2, HS3, HS4⟩
  isplitl [HS0 HS1 HS2 HS3 HS4 Hg]
  · iexists acc', g', p', pt'
    isplitr
    · ipureintro; exact hI'
    isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iapply (leaves_in m c 0 (by decide) t); iexact H0
  isplitl [H1]; · iapply (leaves_in m c 1 (by decide) t); iexact H1
  isplitl [H2]; · iapply (leaves_in m c 2 (by decide) t); iexact H2
  isplitl [H3]; · iapply (leaves_in m c 3 (by decide) t); iexact H3
  isplitl [H4]; · iapply (leaves_in m c 4 (by decide) t); iexact H4
  isplitl [H5]; · iapply (leaves_in m c 5 (by decide) t); iexact H5
  isplitl [H6]; · iapply (leaves_in m c 6 (by decide) t); iexact H6
  isplitl [H7]; · iapply (leaves_in m c 7 (by decide) t); iexact H7
  isplitl [H8]; · iapply (leaves_in m c 8 (by decide) t); iexact H8
  isplitl [H9]; · iapply (leaves_in m c 9 (by decide) t); iexact H9
  isplitl [H10]; · iapply (leaves_in m c 10 (by decide) t); iexact H10
  isplitl [H11]
  · iapply (leaves_out m c 11 (by decide) rfl (fun _ _ => rfl) t d11)
    rw [after_live m c 11 t _ (blocks m c outW) (after0_11 m c t)]
    iexact H11
  isplitl [H12]
  · iapply (leaves_out m c 12 (by decide) rfl (fun _ _ => rfl) t d12)
    rw [after_live m c 12 t _ (blocks m c outWs) (after0_12 m c t)]
    iexact H12
  isplitl [H13]
  · iapply (leaves_out m c 13 (by decide) rfl (fun _ _ => rfl) t d13)
    rw [after_live m c 13 t _ (blocks m c outD) (after0_13 m c t)]
    iexact H13
  isplitl [H14]
  · iapply (leaves_out m c 14 (by decide) rfl (fun _ _ => rfl) t d14)
    rw [after_live m c 14 t _ (blocks m c outN) (after0_14 m c t)]
    iexact H14
  isplitl [H15]
  · iapply (leaves_out m c 15 (by decide) rfl (fun _ _ => rfl) t d15)
    rw [after_live m c 15 t _ (blocks m c outM) (after0_15 m c t)]
    iexact H15
  isplitl [H16]
  · iapply (leaves_out m c 16 (by decide) rfl (fun _ _ => rfl) t d16)
    rw [after_live m c 16 t _ (blocks m c outMs) (after0_16 m c t)]
    iexact H16
  isplitl [H17]
  · iapply (leaves_out m c 17 (by decide) rfl (fun _ _ => rfl) t d17)
    rw [after_live m c 17 t _ (blocks m c outV) (after0_17 m c t)]
    iexact H17
  iapply (leaves_out m c 18 (by decide) rfl (fun _ _ => rfl) t d18)
  rw [after_live m c 18 t _ (blocks m c outVs) (after0_18 m c t)]
  iexact H18

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

/-- The body's triple in the library's form. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Before the first point nothing is said of the scratch buffers. -/
theorem hin (c : Dev nD) : Pipeline.ΦA spec0 c ⊢ (dats m 0 c).Φ 0 := by
  rw [PhiA0_eq]
  dsimp only [dats]
  iintro ⟨⟨⟨%acc, HS0⟩, ⟨%g, HS1⟩, ⟨%p, HS2⟩, ⟨%pt, HS3⟩, HS4⟩, Hg⟩
  iexists acc, g, p, pt
  isplitr
  · ipureintro
    exact ⟨fun h => absurd h (by decide), fun h => absurd h (by decide), fun h => absurd h (by decide)⟩
  isplitl [HS0 HS1 HS2 HS3 HS4]
  · isplitl [HS0]; · iexact HS0
    isplitl [HS1]; · iexact HS1
    isplitl [HS2]; · iexact HS2
    isplitl [HS3]; · iexact HS3
    iexact HS4
  iexact Hg

/-- After the last point it is forgotten. -/
theorem hout (c : Dev nD) : (dats m 0 c).Φ (Fin.last cfg0.N) ⊢ Pipeline.ΦA spec0 c := by
  rw [PhiA0_eq]
  dsimp only [dats]
  iintro ⟨%acc, %g, %p, %pt, %hI, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexact HS4
  iexact Hg

set_option backward.isDefEq.respectTransparency.types false in
set_option maxHeartbeats 800000 in
/-- Every execution ends with the arrays as the proof data say and every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Value
-- ==== Proof.Finals.lean ====
/- What the kernel leaves in each of its result arrays: the rows of the whole computation. -/
module

public import proofs.«01_k».proof.Proof.Grad
public import proofs.«01_k».proof.Proof.ValueRun

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL.Sem

variable (m : (ℓ : Loc nD τ sig) → Buf (Elt Ideal) ℓ)

/-- Only points from the second row of the grid on write results back. -/
theorem flush_late (w : Fin cfg0.W) (hw : 11 ≤ w.val) (t : Fin cfg0.N) (hf : (cfg0.win w).flush t = true) : 10 ≤ t.val := by
  rw [flush_out w t hw] at hf
  exact (of_decide_eq_true hf).1

/-- An entry of a tile's row is an entry of a row of the whole computation. -/
theorem tile_entry {n : ℕ} {α : Type} (f : In → Fin n → α) (c : Dev nD) (t : Fin cfg0.N) (h : Live t.val) (a : Fin 128) (j : Fin n) (o : Fin 18944) (j' : Fin n)
    (ho : o.val = 128 * chunk t.val + a.val) (hj : j'.val = j.val) :
    f (tile (lowAt m c t.val) (iblk m c 4 t) (iblk m c 5 t) (iblk m c 6 t) (iblk m c 7 t) (iblk m c 8 t) (iblk m c 9 t) (iblk m c 10 t) (pAt m c) a) j = f (row m c o) j' := by
  rw [tile_row m c t h a o ho, Fin.ext hj]

/-- The weights' codes. -/
theorem final11 (c : Dev nD) : (dats m 0 c).arrAt 11 (cfgs 0).N = fun i => In.wCode (row m c (i 0)) (i 1) := by
  refine (dats m 0 c).arrAt_eq_of_covers 11 _ (by decide +kernel) fun t hf y => ?_
  have ht := flush_late 11 (by decide) t hf
  blk_simp
  rw [after0_11]
  refine tile_entry m In.wCode c (epi t) (live_epi t) (y 0) (y 1) _ _ ?_ ?_
  · blk_simp [idx11 t ht] <;> omega
  · blk_simp [idx11 t ht] <;> omega

/-- The update. -/
theorem final13 (c : Dev nD) : (dats m 0 c).arrAt 13 (cfgs 0).N = fun i => In.d (row m c (i 0)) (i 1) := by
  refine (dats m 0 c).arrAt_eq_of_covers 13 _ (by decide +kernel) fun t hf y => ?_
  have ht := flush_late 13 (by decide) t hf
  blk_simp
  rw [after0_13]
  refine tile_entry m In.d c (epi t) (live_epi t) (y 0) (y 1) _ _ ?_ ?_
  · blk_simp [idx13 t ht] <;> omega
  · blk_simp [idx13 t ht] <;> omega

/-- The step. -/
theorem final14 (c : Dev nD) : (dats m 0 c).arrAt 14 (cfgs 0).N = fun i => In.n (row m c (i 0)) (i 1) := by
  refine (dats m 0 c).arrAt_eq_of_covers 14 _ (by decide +kernel) fun t hf y => ?_
  have ht := flush_late 14 (by decide) t hf
  blk_simp
  rw [after0_14]
  refine tile_entry m In.n c (epi t) (live_epi t) (y 0) (y 1) _ _ ?_ ?_
  · blk_simp [idx14 t ht] <;> omega
  · blk_simp [idx14 t ht] <;> omega

/-- The first moment's codes. -/
theorem final15 (c : Dev nD) : (dats m 0 c).arrAt 15 (cfgs 0).N = fun i => In.mCode (row m c (i 0)) (i 1) := by
  refine (dats m 0 c).arrAt_eq_of_covers 15 _ (by decide +kernel) fun t hf y => ?_
  have ht := flush_late 15 (by decide) t hf
  blk_simp
  rw [after0_15]
  refine tile_entry m In.mCode c (epi t) (live_epi t) (y 0) (y 1) _ _ ?_ ?_
  · blk_simp [idx15 t ht] <;> omega
  · blk_simp [idx15 t ht] <;> omega

/-- The first moment's scales. -/
theorem final16 (c : Dev nD) : (dats m 0 c).arrAt 16 (cfgs 0).N = fun i => In.mScale (row m c (i 1)) (i 0) := by
  refine (dats m 0 c).arrAt_eq_of_covers 16 _ (by decide +kernel) fun t hf y => ?_
  have ht := flush_late 16 (by decide) t hf
  blk_simp
  rw [after0_16]
  refine tile_entry m In.mScale c (epi t) (live_epi t) (y 1) (y 0) _ _ ?_ ?_
  · blk_simp [idx16 t ht] <;> omega
  · blk_simp [idx16 t ht] <;> omega

/-- The second moment's codes. -/
theorem final17 (c : Dev nD) : (dats m 0 c).arrAt 17 (cfgs 0).N = fun i => In.vCode (row m c (i 0)) (i 1) := by
  refine (dats m 0 c).arrAt_eq_of_covers 17 _ (by decide +kernel) fun t hf y => ?_
  have ht := flush_late 17 (by decide) t hf
  blk_simp
  rw [after0_17]
  refine tile_entry m In.vCode c (epi t) (live_epi t) (y 0) (y 1) _ _ ?_ ?_
  · blk_simp [idx17 t ht] <;> omega
  · blk_simp [idx17 t ht] <;> omega

/-- The second moment's scales. -/
theorem final18 (c : Dev nD) : (dats m 0 c).arrAt 18 (cfgs 0).N = fun i => In.vScale (row m c (i 1)) (i 0) := by
  refine (dats m 0 c).arrAt_eq_of_covers 18 _ (by decide +kernel) fun t hf y => ?_
  have ht := flush_late 18 (by decide) t hf
  blk_simp
  rw [after0_18]
  refine tile_entry m In.vScale c (epi t) (live_epi t) (y 1) (y 0) _ _ ?_ ?_
  · blk_simp [idx18 t ht] <;> omega
  · blk_simp [idx18 t ht] <;> omega

/-- The weights' scales. -/
theorem final12 (c : Dev nD) : (dats m 0 c).arrAt 12 (cfgs 0).N = fun i => In.wScale (row m c ⟨(i 0).val * 128 + (i 2).val, by
    have h0 : (i 0).val < 148 := (i 0).isLt
    have h2 : (i 2).val < 128 := (i 2).isLt
    omega⟩) := by
  refine (dats m 0 c).arrAt_eq_of_covers 12 _ (by decide +kernel) fun t hf y => ?_
  have ht := flush_late 12 (by decide) t hf
  blk_simp
  rw [after0_12]
  refine tile_entry m (n := 1) (fun R _ => R.wScale) c (epi t) (live_epi t) (y 2) 0 _ 0 ?_ rfl
  blk_simp [idx12 t ht]
  show chunk (epi t).val * 128 + (y 2).val = 128 * chunk (epi t).val + (y 2).val
  omega

end Cert.KernelIdeal.Value
-- ==== Proof.Ends.lean ====
/- The run of the kernel, with its results as the rows of the whole computation. -/
module

public import proofs.«01_k».proof.Proof.Finals

@[expose] public section

set_option maxRecDepth 16384

noncomputable section

namespace Cert.KernelIdeal.Value

open Cert.KernelIdeal.Gen Cert.KernelIdeal.Body Cert.Row
open Idealize.ShloMosaic Idealize.ShloMosaic.TcCoe Idealize.ShloMosaic.Tactic
open Idealize.SL.Sem

variable (m : (ℓ : Loc nD τ sig) → Buf (Elt Ideal) ℓ)

/-- The reshape of the blocks of scales to one long row, read at an entry. -/
theorem cast7 (X : Vec Ideal S148x1x128 .f32) (o : Fin 18944) :
    shapeCast S18944 X shapeCasts_S148x1x128_S18944 (ix1 o) = X (ix3 ⟨o.val / 128, by omega⟩ 0 ⟨o.val % 128, by omega⟩) := by
  pointwise []

/-- The transpose of the scales, read at an entry. -/
theorem turn (X : Vec Ideal S4x18944 .f32) (o : Fin 18944) (q : Fin 4) :
    transpose S18944x4 [1, 0] X transposes_S4x18944_S18944x4_1_0 (ix2 o q) = X (ix2 q o) := by
  pointwise []

/-- An array of the kernel, as the lines after it find it. -/
theorem arr_at (c : Dev nD) (w : Fin 19) :
    Pipeline.withArrays (cfgs 0).spec c (V0 m c) (fun w => (dats m 0 c).arrAt w (cfgs 0).N) (Proc.devRef .tc (Pipeline.arrRef (cfgs 0).spec w)) = (dats m 0 c).arrAt w (cfgs 0).N :=
  Pipeline.withArrays_arr (cfgs 0).spec launch0.win.arr_inj c (V0 m c) _ w

/-- The weights' scales, after the reshape. -/
theorem tail7 (c : Dev nD) : Pipeline.afterTail₀ cfgs (dats m) 0 (V0 m) [hostOps1] c main_v7 = fun i => In.wScale (row m c (i 0)) := by
  have e := (arr_at m c 12).trans (final12 m c)
  unfold Pipeline.afterTail₀
  simp only [List.flatten_cons, List.flatten_nil, List.append_nil]
  unfold hostOps1
  after_results
  funext i
  obtain ⟨o, rfl⟩ : ∃ o : Fin 18944, i = ix1 o := ⟨i 0, by funext k; fin_cases k; rfl⟩
  refine (cast7 _ o).trans ((congrFun e _).trans ?_)
  exact congrArg (fun o => In.wScale (row m c o)) (Fin.ext (by show o.val / 128 * 128 + o.val % 128 = o.val; omega))

/-- The first moment's scales, turned. -/
theorem tail8 (c : Dev nD) : Pipeline.afterTail₀ cfgs (dats m) 0 (V0 m) [hostOps1] c main_v8 = fun i => In.mScale (row m c (i 0)) (i 1) := by
  have e := (arr_at m c 16).trans (final16 m c)
  unfold Pipeline.afterTail₀
  simp only [List.flatten_cons, List.flatten_nil, List.append_nil]
  unfold hostOps1
  after_results
  funext i
  obtain ⟨o, q, rfl⟩ : ∃ (o : Fin 18944) (q : Fin 4), i = ix2 o q := ⟨i 0, i 1, by funext k; fin_cases k <;> rfl⟩
  exact (turn _ o q).trans (congrFun e _)

/-- The second moment's scales, turned. -/
theorem tail9 (c : Dev nD) : Pipeline.afterTail₀ cfgs (dats m) 0 (V0 m) [hostOps1] c main_v9 = fun i => In.vScale (row m c (i 0)) (i 1) := by
  have e := (arr_at m c 18).trans (final18 m c)
  unfold Pipeline.afterTail₀
  simp only [List.flatten_cons, List.flatten_nil, List.append_nil]
  unfold hostOps1
  after_results
  funext i
  obtain ⟨o, q, rfl⟩ : ∃ (o : Fin 18944) (q : Fin 4), i = ix2 o q := ⟨i 0, i 1, by funext k; fin_cases k <;> rfl⟩
  exact (turn _ o q).trans (congrFun e _)

/-- The kernel runs; every result is the rows of the whole computation, and the arguments are unchanged. -/
theorem run_rows (ρ : Dev nD → PrngReg) : θ_run (defs (F := Ideal)) (onTc (τ := τ) (main (F := Ideal))) ⟨m, fun _ => 0, ρ⟩ (fun r => ∀ c : Dev nD,
    r.2.mem ((c : Thread nD τ).loc main_v6_0) = (fun i => In.wCode (row m c (i 0)) (i 1))
    ∧ r.2.mem ((c : Thread nD τ).loc main_v7) = (fun i => In.wScale (row m c (i 0)))
    ∧ r.2.mem ((c : Thread nD τ).loc main_v6_2) = (fun i => In.d (row m c (i 0)) (i 1))
    ∧ r.2.mem ((c : Thread nD τ).loc main_v6_3) = (fun i => In.n (row m c (i 0)) (i 1))
    ∧ r.2.mem ((c : Thread nD τ).loc main_v6_4) = (fun i => In.mCode (row m c (i 0)) (i 1))
    ∧ r.2.mem ((c : Thread nD τ).loc main_v8) = (fun i => In.mScale (row m c (i 0)) (i 1))
    ∧ r.2.mem ((c : Thread nD τ).loc main_v6_6) = (fun i => In.vCode (row m c (i 0)) (i 1))
    ∧ r.2.mem ((c : Thread nD τ).loc main_v9) = (fun i => In.vScale (row m c (i 0)) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) :=
  (θ_run defs _ _).mono (fun r h c => ⟨
    ((h c).1 11).trans (final11 m c),
    ((h c).2 main_v7 (Pipeline.mem_restRefs_of main_v7 (by decide) (by decide))).trans (tail7 m c),
    ((h c).1 13).trans (final13 m c),
    ((h c).1 14).trans (final14 m c),
    ((h c).1 15).trans (final15 m c),
    ((h c).2 main_v8 (Pipeline.mem_restRefs_of main_v8 (by decide) (by decide))).trans (tail8 m c),
    ((h c).1 17).trans (final17 m c),
    ((h c).2 main_v9 (Pipeline.mem_restRefs_of main_v9 (by decide) (by decide))).trans (tail9 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    (Pipeline.FramePost.in_eq h c 2 rfl).trans ((A_eq m c 2).trans (V_main_arg2 m c)),
    ((h c).2 main_arg3 (Pipeline.mem_restRefs_of main_arg3 (by decide) (by decide))).trans (W_main_arg3 m (dats m) c),
    (Pipeline.FramePost.in_eq h c 4 rfl).trans ((A_eq m c 4).trans (V_main_arg4 m c)),
    ((h c).2 main_arg5 (Pipeline.mem_restRefs_of main_arg5 (by decide) (by decide))).trans (W_main_arg5 m (dats m) c),
    (Pipeline.FramePost.in_eq h c 6 rfl).trans ((A_eq m c 6).trans (V_main_arg6 m c)),
    ((h c).2 main_arg7 (Pipeline.mem_restRefs_of main_arg7 (by decide) (by decide))).trans (W_main_arg7 m (dats m) c),
    (Pipeline.FramePost.in_eq h c 8 rfl).trans ((A_eq m c 8).trans (V_main_arg8 m c)),
    ((h c).2 main_arg9 (Pipeline.mem_restRefs_of main_arg9 (by decide) (by decide))).trans (W_main_arg9 m (dats m) c),
    (Pipeline.FramePost.in_eq h c 10 rfl).trans ((A_eq m c 10).trans (V_main_arg10 m c))⟩) (run_main m ρ)

end Cert.KernelIdeal.Value
-- ==== Proof.RefRows.lean ====
/- The reference, one output row at a time: its arrays at an index are the functions of `Cert.Row`. -/
module

public import proofs.«01_k».proof.Proof.RefSpec
public import proofs.«01_k».proof.Proof.Whole
public import Idealize.ShloMosaic.Lib.Pipeline.ValueKit

@[expose] public section

set_option maxRecDepth 16384

noncomputable section

namespace Cert.ReferenceIdeal.Hand

open Cert.ReferenceIdeal Cert.Row
open Cert.ReferenceIdeal.Facts₀ Cert.ReferenceIdeal.Facts
open Idealize.ShloMosaic Idealize.ShloMosaic.TcCoe Idealize.ShloMosaic.Tactic

/-- Half a byte read as a signed number, by masking and by shifting. -/
theorem nibble_of : ∀ (q : BitVec 8),
    (Scalar.select (Scalar.cmpi .sge (Scalar.andi (BitVec.setWidth 32 q) 15#32) 8#32) (Scalar.subi (Scalar.andi (BitVec.setWidth 32 q) 15#32) 16#32) (Scalar.andi (BitVec.setWidth 32 q) 15#32) = Cert.KernelIdeal.Value.nibble q false)
    ∧ (Scalar.select (Scalar.cmpi .sge (IntOp.shrsi ArithUnit.host (BitVec.setWidth 32 q) 4#32) 8#32) (Scalar.subi (IntOp.shrsi ArithUnit.host (BitVec.setWidth 32 q) 4#32) 16#32) (IntOp.shrsi ArithUnit.host (BitVec.setWidth 32 q) 4#32) = Cert.KernelIdeal.Value.nibble q true) := by
  decide +kernel

variable (x : FVec Ideal S5x3072x3584 .bf16) (dy : FVec Ideal S5x3072x18944 .bf16) (qp : IVec S512x1792 8) (ps : FVec Ideal S512x14 .f32)

/-- The reference's projector, at an entry. -/
theorem proj_row (r : Fin 512) (j : Fin 3584) : proj qp ps (ix2 r j) = projOf qp ps r j := by
  pointwise [proj, codes, signed4, projOf]
  have h := nibble_of (qp (ix2 r ⟨j.val / 2, by omega⟩))
  by_cases hj : j.val % 2 < 1
  · rw [dif_pos hj, show decide (j.val % 2 = 1) = false from decide_eq_false (by omega)]
    exact congrArg (fun z => FloatOps.sitofp (F := Ideal) .f32 z * _) h.1
  · rw [dif_neg hj, show decide (j.val % 2 = 1) = true from decide_eq_true (by omega)]
    exact congrArg (fun z => FloatOps.sitofp (F := Ideal) .f32 z * _) h.2

/-- The reference's gradient, at an entry. -/
theorem grad_row (o : Fin 18944) (j : Fin 3584) : grad x dy (ix2 o j) = gradOf x dy o j := by
  pointwise [grad, gradOf]

/-- The gradient at the low rank, at an entry. -/
theorem low_row (g : FVec Ideal S18944x3584 .bf16) (p : FVec Ideal S512x3584 .bf16) (o : Fin 18944) (r : Fin 512) :
    low g p (ix2 o r) = ((∑ j : Fin 3584, g (ix2 o j) * p (ix2 r j) : EReal)) := by
  pointwise [low]

/-- Widening a byte to 32 bits does not change its number. -/
theorem num_signExtend (q : BitVec 8) : FloatOps.sitofp (F := Ideal) .f32 (BitVec.signExtend 32 q) = num q := by
  unfold num
  show (((BitVec.signExtend 32 q).toInt : ℝ) : EReal) = ((q.toInt : ℝ) : EReal)
  rw [BitVec.toInt_signExtend_of_le (by decide)]

/-- A stored moment, at an entry: the code times its group's scale. -/
theorem stored_row (q : IVec S18944x512 8) (s : FVec Ideal S18944x4 .f32) (o : Fin 18944) (j : Fin 512) :
    stored q s (ix2 o j) = num (q (ix2 o j)) * s (ix2 o (In.grp j)) := by
  pointwise [stored, In.grp]
  rw [num_signExtend]

/-- The new first moment, at an entry. -/
theorem mom1_row (m r : FVec Ideal S18944x512 .f32) (o : Fin 18944) (j : Fin 512) :
    mom1 m r (ix2 o j) = lit 1063675494#32 * m (ix2 o j) + lit 1036831949#32 * r (ix2 o j) := by
  pointwise [mom1, sc]

/-- The new second moment, at an entry. -/
theorem mom2_row (m r : FVec Ideal S18944x512 .f32) (o : Fin 18944) (j : Fin 512) :
    mom2 m r (ix2 o j) = lit 1065336439#32 * m (ix2 o j) + lit 981668463#32 * r (ix2 o j) * r (ix2 o j) := by
  pointwise [mom2, sc]

/-- The normalised step, at an entry. -/
theorem step_row (m v : FVec Ideal S18944x512 .f32) (o : Fin 18944) (j : Fin 512) :
    step m v (ix2 o j) = Ideal.div (Ideal.div (m (ix2 o j)) (lit 1059503362#32)) (Ideal.sqrt (Ideal.div (v (ix2 o j)) (lit 1008933580#32)) + lit 841731191#32) := by
  pointwise [step, sc]

/-- The largest absolute value of a group, as a fold. -/
theorem groupMax_row (w : FVec Ideal S18944x512 .f32) (o : Fin 18944) (q : Fin 4) :
    groupMax w (ix2 o q) = absMax fun x => w (ix2 o (In.col q x)) := by
  have h : ∀ X : EReal, X = Finset.fold max (Ideal.ofBits FTy.f32 4286578688#32) (fun x : Fin 128 => FloatOps.absf (F := Ideal) (φ := .f32) (w (ix2 o (In.col q x)))) Finset.univ → groupMax w (ix2 o q) = X := by
    intro X hX
    pointwise [groupMax]
    exact hX.symm
  exact h _ rfl

/-- The scale of a group, at an entry. -/
theorem scale_row (g : FVec Ideal S18944x4 .f32) (o : Fin 18944) (q : Fin 4) :
    select (cmpf .oeq g (broadcastInDim S18944x4 ![] bcast_S_S18944x4 (constant S_ .f32 0x00000000#32)))
      (broadcastInDim S18944x4 ![] bcast_S_S18944x4 (constant S_ .f32 0x3F800000#32))
      (Host.divf g (broadcastInDim S18944x4 ![] bcast_S_S18944x4 (constant S_ .f32 0x42FE0000#32))) (ix2 o q) = scaleOf (g (ix2 o q)) := by
  pointwise [scaleOf]

/-- The scale of a group, at an entry. -/
theorem groupScale_row (w : FVec Ideal S18944x512 .f32) (o : Fin 18944) (q : Fin 4) :
    groupScale w (ix2 o q) = scaleOf (groupMax w (ix2 o q)) := scale_row (groupMax w) o q

/-- The codes of a moment, at an entry. -/
theorem codes_row (x : FVec Ideal S18944x512 .f32) (g : FVec Ideal S18944x4 .f32) (o : Fin 18944) (j : Fin 512) :
    shapeCast S18944x512 (trunci 8 (fptosi 32
      (minimumf (broadcastInDim S18944x4x128 ![] bcast_S_S18944x4x128 (sitofp .f32 (constantI S_ 32 127#32)))
        (maximumf (broadcastInDim S18944x4x128 ![] bcast_S_S18944x4x128 (sitofp .f32 (constantI S_ 32 4294967169#32)))
          (Host.roundeven (Host.divf (shapeCast S18944x4x128 x shapeCasts_S18944x512_S18944x4x128)
            (broadcastInDim S18944x4x128 ![0, 1, 2] bcast_S18944x4x1_S18944x4x128_0_1_2
              (broadcastInDim S18944x4x1 ![0, 1] bcast_S18944x4_S18944x4x1_0_1 g))))))) natLt_8_32) shapeCasts_S18944x4x128_S18944x512 (ix2 o j)
      = codeOf (x (ix2 o j)) (g (ix2 o (In.grp j))) := by
  pointwise []
  exact byteOf_wide _

/-- The codes of a moment, at an entry. -/
theorem groupCodes_row (w : FVec Ideal S18944x512 .f32) (o : Fin 18944) (j : Fin 512) :
    groupCodes w (ix2 o j) = codeOf (w (ix2 o j)) (groupScale w (ix2 o (In.grp j))) := codes_row w (groupScale w) o j

/-- The update of the weights, at an entry. -/
theorem delta_row (n : FVec Ideal S18944x512 .f32) (p : FVec Ideal S512x3584 .bf16) (o : Fin 18944) (j : Fin 3584) :
    delta n p (ix2 o j) = ((lit 981668463#32 * ∑ r : Fin 512, n (ix2 o r) * p (ix2 r j) : EReal)) := by
  pointwise [delta]

/-- The new weights, at an entry. -/
theorem weights_row (q : IVec S18944x3584 8) (s : FVec Ideal S18944 .f32) (d : FVec Ideal S18944x3584 .f32) (o : Fin 18944) (j : Fin 3584) :
    weights q s d (ix2 o j) = num (q (ix2 o j)) * s (ix1 o) - d (ix2 o j) := by
  pointwise [weights, rows]
  rw [num_signExtend]

/-- The largest absolute value of a row, as a fold. -/
theorem rowMax_row (w : FVec Ideal S18944x3584 .f32) (o : Fin 18944) :
    rowMax w (ix1 o) = absMax fun x => w (ix2 o x) := by
  have h : ∀ X : EReal, X = Finset.fold max (Ideal.ofBits FTy.f32 4286578688#32) (fun x : Fin 3584 => FloatOps.absf (F := Ideal) (φ := .f32) (w (ix2 o x))) Finset.univ → rowMax w (ix1 o) = X := by
    intro X hX
    pointwise [rowMax]
    exact hX.symm
  exact h _ rfl

/-- The scale of a row of weights. -/
theorem wscale_row (g : FVec Ideal S18944 .f32) (o : Fin 18944) :
    select (cmpf .oeq g (broadcastInDim S18944 ![] bcast_S_S18944 (constant S_ .f32 0x00000000#32)))
      (broadcastInDim S18944 ![] bcast_S_S18944 (constant S_ .f32 0x3F800000#32))
      (Host.divf g (broadcastInDim S18944 ![] bcast_S_S18944 (constant S_ .f32 0x42FE0000#32))) (ix1 o) = scaleOf (g (ix1 o)) := by
  pointwise [scaleOf]

/-- The scale of a row of weights. -/
theorem rowScale_row (w : FVec Ideal S18944x3584 .f32) (o : Fin 18944) :
    rowScale w (ix1 o) = scaleOf (rowMax w (ix1 o)) := wscale_row (rowMax w) o

/-- The codes of the weights, at an entry. -/
theorem wcodes_row (w : FVec Ideal S18944x3584 .f32) (g : FVec Ideal S18944 .f32) (bits : IVec S18944x3584 8) (o : Fin 18944) (j : Fin 3584) :
    trunci 8 (fptosi 32
      (minimumf (broadcastInDim S18944x3584 ![] bcast_S_S18944x3584 (sitofp .f32 (constantI S_ 32 127#32)))
        (maximumf (broadcastInDim S18944x3584 ![] bcast_S_S18944x3584 (sitofp .f32 (constantI S_ 32 4294967169#32)))
          (Host.floor (addf (Host.divf w (rows g))
            (mulf (sitofp .f32 (extui 32 bits natLt_8_32)) (broadcastInDim S18944x3584 ![] bcast_S_S18944x3584 (constant S_ .f32 0x3B800000#32)))))))) natLt_8_32 (ix2 o j)
      = floorOf (w (ix2 o j)) (g (ix1 o)) (bits (ix2 o j)) := by
  pointwise [rows]
  exact byteOf_wide _

/-- The codes of the weights, at an entry. -/
theorem rowCodes_row (w : FVec Ideal S18944x3584 .f32) (b : IVec S18944x3584 8) (o : Fin 18944) (j : Fin 3584) :
    rowCodes w b (ix2 o j) = floorOf (w (ix2 o j)) (rowScale w (ix1 o)) (b (ix2 o j)) := wcodes_row w (rowScale w) b o j

variable (mc : IVec S18944x512 8) (ms : FVec Ideal S18944x4 .f32) (vc : IVec S18944x512 8) (vs : FVec Ideal S18944x4 .f32) (wc : IVec S18944x3584 8) (ws : FVec Ideal S18944 .f32) (sr : IVec S18944x3584 8)

/-- The reference's first moment, -/
abbrev M : FVec Ideal S18944x512 .f32 := mom1 (stored mc ms) (low (grad x dy) (proj qp ps))
/-- its second moment, -/
abbrev N : FVec Ideal S18944x512 .f32 := mom2 (stored vc vs) (low (grad x dy) (proj qp ps))
/-- its normalized step, -/
abbrev T : FVec Ideal S18944x512 .f32 := step (M x dy qp ps mc ms) (N x dy qp ps vc vs)
/-- its update -/
abbrev D : FVec Ideal S18944x3584 .f32 := delta (T x dy qp ps mc ms vc vs) (proj qp ps)
/-- and its new weights. -/
abbrev Y : FVec Ideal S18944x3584 .f32 := weights wc ws (D x dy qp ps mc ms vc vs)

/-- What output row `o` depends on. -/
abbrev R (o : Fin 18944) : In := rowOf x dy qp ps mc ms vc vs wc ws sr o

/-- The reference's array is the corresponding entry of the row. -/
theorem low_at (o : Fin 18944) (r : Fin 512) : low (grad x dy) (proj qp ps) (ix2 o r) = (R x dy qp ps mc ms vc vs wc ws sr o).low r := by
  rw [low_row]
  show _ = (∑ j : Fin 3584, gradOf x dy o j * projOf qp ps r j : EReal)
  exact Finset.sum_congr rfl fun j _ => by rw [grad_row, proj_row]

/-- The reference's array is the corresponding entry of the row. -/
theorem M_at (o : Fin 18944) (j : Fin 512) : M x dy qp ps mc ms (ix2 o j) = (R x dy qp ps mc ms vc vs wc ws sr o).m j := by
  unfold M
  rw [mom1_row, stored_row, low_at x dy qp ps mc ms vc vs wc ws sr]
  rfl

/-- The reference's array is the corresponding entry of the row. -/
theorem N_at (o : Fin 18944) (j : Fin 512) : N x dy qp ps vc vs (ix2 o j) = (R x dy qp ps mc ms vc vs wc ws sr o).v j := by
  unfold N
  rw [mom2_row, stored_row, low_at x dy qp ps mc ms vc vs wc ws sr]
  rfl

/-- The reference's array is the corresponding entry of the row. -/
theorem T_at (o : Fin 18944) (j : Fin 512) : T x dy qp ps mc ms vc vs (ix2 o j) = (R x dy qp ps mc ms vc vs wc ws sr o).n j := by
  unfold T
  rw [step_row, M_at x dy qp ps mc ms vc vs wc ws sr, N_at x dy qp ps mc ms vc vs wc ws sr]
  rfl

/-- The reference's array is the corresponding entry of the row. -/
theorem D_at (o : Fin 18944) (j : Fin 3584) : D x dy qp ps mc ms vc vs (ix2 o j) = (R x dy qp ps mc ms vc vs wc ws sr o).d j := by
  unfold D
  rw [delta_row]
  exact congrArg (lit 981668463#32 * ·) (Finset.sum_congr rfl fun r _ => by rw [T_at x dy qp ps mc ms vc vs wc ws sr, proj_row]; rfl)

/-- The reference's array is the corresponding entry of the row. -/
theorem Y_at (o : Fin 18944) (j : Fin 3584) : Y x dy qp ps mc ms vc vs wc ws (ix2 o j) = (R x dy qp ps mc ms vc vs wc ws sr o).w j := by
  unfold Y
  rw [weights_row, D_at x dy qp ps mc ms vc vs wc ws sr]
  rfl

/-- The reference's array is the corresponding entry of the row. -/
theorem mScale_at (o : Fin 18944) (q : Fin 4) : groupScale (M x dy qp ps mc ms) (ix2 o q) = (R x dy qp ps mc ms vc vs wc ws sr o).mScale q := by
  rw [groupScale_row, groupMax_row]
  exact congrArg scaleOf (congrArg absMax (funext fun z => M_at x dy qp ps mc ms vc vs wc ws sr o _))

/-- The reference's array is the corresponding entry of the row. -/
theorem vScale_at (o : Fin 18944) (q : Fin 4) : groupScale (N x dy qp ps vc vs) (ix2 o q) = (R x dy qp ps mc ms vc vs wc ws sr o).vScale q := by
  rw [groupScale_row, groupMax_row]
  exact congrArg scaleOf (congrArg absMax (funext fun z => N_at x dy qp ps mc ms vc vs wc ws sr o _))

/-- The reference's array is the corresponding entry of the row. -/
theorem mCode_at (o : Fin 18944) (j : Fin 512) : groupCodes (M x dy qp ps mc ms) (ix2 o j) = (R x dy qp ps mc ms vc vs wc ws sr o).mCode j := by
  rw [groupCodes_row, M_at x dy qp ps mc ms vc vs wc ws sr, mScale_at x dy qp ps mc ms vc vs wc ws sr]
  rfl

/-- The reference's array is the corresponding entry of the row. -/
theorem vCode_at (o : Fin 18944) (j : Fin 512) : groupCodes (N x dy qp ps vc vs) (ix2 o j) = (R x dy qp ps mc ms vc vs wc ws sr o).vCode j := by
  rw [groupCodes_row, N_at x dy qp ps mc ms vc vs wc ws sr, vScale_at x dy qp ps mc ms vc vs wc ws sr]
  rfl

/-- The reference's array is the corresponding entry of the row. -/
theorem wScale_at (o : Fin 18944) : rowScale (Y x dy qp ps mc ms vc vs wc ws) (ix1 o) = (R x dy qp ps mc ms vc vs wc ws sr o).wScale := by
  rw [rowScale_row, rowMax_row]
  exact congrArg scaleOf (congrArg absMax (funext fun z => Y_at x dy qp ps mc ms vc vs wc ws sr o _))

/-- The reference's array is the corresponding entry of the row. -/
theorem wCode_at (o : Fin 18944) (j : Fin 3584) : rowCodes (Y x dy qp ps mc ms vc vs wc ws) sr (ix2 o j) = (R x dy qp ps mc ms vc vs wc ws sr o).wCode j := by
  rw [rowCodes_row, Y_at x dy qp ps mc ms vc vs wc ws sr, wScale_at x dy qp ps mc ms vc vs wc ws sr]
  rfl

end Cert.ReferenceIdeal.Hand
-- ==== Proof.RefEnd.lean ====
/- What the reference leaves in each of its results, out of the argument arrays. -/
module

public import proofs.«01_k».proof.Proof.RefFrame
public import proofs.«01_k».proof.Proof.RefRows

@[expose] public section

set_option maxRecDepth 16384

noncomputable section

namespace Cert.ReferenceIdeal.Hand

open Idealize.ShloMosaic Idealize.ShloMosaic.TcCoe Idealize.SL.Sem Cert.ReferenceIdeal
open Idealize.ShloMosaic.StableHlo (after after_append)

variable (V : Valuation τ sig (Elt Ideal))

/-- The buffers after the gradient, the projector and the projected gradient are made. -/
abbrev V3 : Valuation τ sig (Elt Ideal) := after opsLow (after opsProj (after opsGrad V))
/-- The buffers after the moments and the step are made. -/
abbrev V4 : Valuation τ sig (Elt Ideal) := after opsMom (V3 V)
/-- The buffers after the codes of both moments are made. -/
abbrev V6 : Valuation τ sig (Elt Ideal) := after opsQv (after opsQm (V4 V))
/-- The buffers after the update is made. -/
abbrev V7 : Valuation τ sig (Elt Ideal) := after opsDel (V6 V)

/-- The lines so far leave every other array as it was. -/
theorem V3_keep {r : Ref sig .tc} (h1 : r ∉ w_opsGrad) (h2 : r ∉ w_opsProj) (h3 : r ∉ w_opsLow) : V3 V (Proc.devRef .tc r) = V (Proc.devRef .tc r) := by
  unfold V3; rw [keep_opsLow _ h3, keep_opsProj _ h2, keep_opsGrad _ h1]

/-- What the reference has in this array after the lines so far. -/
theorem V3_v27 : V3 V (Proc.devRef .tc main_v27) = proj (F := Ideal) (V (Proc.devRef .tc main_arg2)) (V (Proc.devRef .tc main_arg3)) := by
  unfold V3; rw [keep_opsLow _ (by decide), opsProj_v27, keep_opsGrad _ (by decide), keep_opsGrad _ (by decide)]

/-- What the reference has in this array after the lines so far. -/
theorem V3_v28 : V3 V (Proc.devRef .tc main_v28) = low (F := Ideal) (grad (F := Ideal) (V (Proc.devRef .tc main_arg0)) (V (Proc.devRef .tc main_arg1))) (proj (F := Ideal) (V (Proc.devRef .tc main_arg2)) (V (Proc.devRef .tc main_arg3))) := by
  unfold V3; rw [opsLow_v28, opsProj_v27, keep_opsProj _ (by decide), opsGrad_v1, keep_opsGrad _ (by decide), keep_opsGrad _ (by decide)]

/-- What the reference has in this array after the lines so far. -/
theorem V4_v43 : V4 V (Proc.devRef .tc main_v43) = M (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold V4; rw [opsMom_v43, V3_v28, V3_keep V (by decide) (by decide) (by decide), V3_keep V (by decide) (by decide) (by decide)]

/-- What the reference has in this array after the lines so far. -/
theorem V4_v49 : V4 V (Proc.devRef .tc main_v49) = N (V (Proc.devRef .tc main_arg0)) (V (Proc.devRef .tc main_arg1)) (V (Proc.devRef .tc main_arg2)) (V (Proc.devRef .tc main_arg3)) (V (Proc.devRef .tc main_arg6)) (V (Proc.devRef .tc main_arg7)) := by
  unfold V4; rw [opsMom_v49, V3_v28, V3_keep V (by decide) (by decide) (by decide), V3_keep V (by decide) (by decide) (by decide)]

/-- What the reference has in this array after the lines so far. -/
theorem V4_v57 : V4 V (Proc.devRef .tc main_v57) = T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V4
  rw [opsMom_v57, V3_v28, V3_keep V (r := main_arg4) (by decide) (by decide) (by decide), V3_keep V (r := main_arg5) (by decide) (by decide) (by decide),
    V3_keep V (r := main_arg6) (by decide) (by decide) (by decide), V3_keep V (r := main_arg7) (by decide) (by decide) (by decide)]

/-- The lines so far leave every other array as it was. -/
theorem V6_keep {r : Ref sig .tc} (h1 : r ∉ w_opsQm) (h2 : r ∉ w_opsQv) : V6 V (Proc.devRef .tc r) = V4 V (Proc.devRef .tc r) := by
  unfold V6; rw [keep_opsQv _ h2, keep_opsQm _ h1]

/-- The lines so far leave every other array as it was. -/
theorem V7_keep {r : Ref sig .tc} (h1 : r ∉ w_opsGrad) (h2 : r ∉ w_opsProj) (h3 : r ∉ w_opsLow) (h4 : r ∉ w_opsMom) (h5 : r ∉ w_opsQm) (h6 : r ∉ w_opsQv) (h7 : r ∉ w_opsDel) :
    V7 V (Proc.devRef .tc r) = V (Proc.devRef .tc r) := by
  unfold V7; rw [keep_opsDel _ h7, V6_keep V h5 h6]; unfold V4; rw [keep_opsMom _ h4, V3_keep V h1 h2 h3]

/-- What the reference has in this array after the lines so far. -/
theorem V7_v93 : V7 V (Proc.devRef .tc main_v93) = D (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold V7
  rw [opsDel_v93, V6_keep V (by decide) (by decide), V6_keep V (by decide) (by decide), V4_v57]
  unfold V4
  rw [keep_opsMom _ (by decide), V3_v27]

/-- The reference is its first seven parts and then the part for the weights. -/
theorem all_ops : after ops V = after opsW (V7 V) := by
  simp only [ops, after_append]

/-- What the reference ends with in this array, out of its arguments. -/
theorem end_v57 : after ops V (Proc.devRef .tc main_v57) = T (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [all_ops, keep_opsW _ (by decide)]; unfold V7; rw [keep_opsDel _ (by decide), V6_keep V (by decide) (by decide), V4_v57]

/-- What the reference ends with in this array, out of its arguments. -/
theorem end_v65 : after ops V (Proc.devRef .tc main_v65) = groupScale (M (V (Proc.devRef .tc main_arg0)) (V (Proc.devRef .tc main_arg1)) (V (Proc.devRef .tc main_arg2)) (V (Proc.devRef .tc main_arg3)) (V (Proc.devRef .tc main_arg4)) (V (Proc.devRef .tc main_arg5))) := by
  rw [all_ops, keep_opsW _ (by decide)]; unfold V7; rw [keep_opsDel _ (by decide)]; unfold V6; rw [keep_opsQv _ (by decide), opsQm_v65, V4_v43]

/-- What the reference ends with in this array, out of its arguments. -/
theorem end_v73 : after ops V (Proc.devRef .tc main_v73) = groupCodes (M (V (Proc.devRef .tc main_arg0)) (V (Proc.devRef .tc main_arg1)) (V (Proc.devRef .tc main_arg2)) (V (Proc.devRef .tc main_arg3)) (V (Proc.devRef .tc main_arg4)) (V (Proc.devRef .tc main_arg5))) := by
  rw [all_ops, keep_opsW _ (by decide)]; unfold V7; rw [keep_opsDel _ (by decide)]; unfold V6; rw [keep_opsQv _ (by decide), opsQm_v73, V4_v43]

/-- What the reference ends with in this array, out of its arguments. -/
theorem end_v81 : after ops V (Proc.devRef .tc main_v81) = groupScale (N (V (Proc.devRef .tc main_arg0)) (V (Proc.devRef .tc main_arg1)) (V (Proc.devRef .tc main_arg2)) (V (Proc.devRef .tc main_arg3)) (V (Proc.devRef .tc main_arg6)) (V (Proc.devRef .tc main_arg7))) := by
  rw [all_ops, keep_opsW _ (by decide)]; unfold V7; rw [keep_opsDel _ (by decide)]; unfold V6; rw [opsQv_v81, keep_opsQm _ (by decide), V4_v49]

/-- What the reference ends with in this array, out of its arguments. -/
theorem end_v89 : after ops V (Proc.devRef .tc main_v89) = groupCodes (N (V (Proc.devRef .tc main_arg0)) (V (Proc.devRef .tc main_arg1)) (V (Proc.devRef .tc main_arg2)) (V (Proc.devRef .tc main_arg3)) (V (Proc.devRef .tc main_arg6)) (V (Proc.devRef .tc main_arg7))) := by
  rw [all_ops, keep_opsW _ (by decide)]; unfold V7; rw [keep_opsDel _ (by decide)]; unfold V6; rw [opsQv_v89, keep_opsQm _ (by decide), V4_v49]

/-- What the reference ends with in this array, out of its arguments. -/
theorem end_v93 : after ops V (Proc.devRef .tc main_v93) = D (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [all_ops, keep_opsW _ (by decide), V7_v93]

/-- What the reference ends with in this array, out of its arguments. -/
theorem end_v106 : after ops V (Proc.devRef .tc main_v106) = rowScale (Y (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by
  rw [all_ops, opsW_v106, V7_v93, V7_keep V (r := main_arg8) (by decide) (by decide) (by decide) (by decide) (by decide) (by decide) (by decide), V7_keep V (r := main_arg9) (by decide) (by decide) (by decide) (by decide) (by decide) (by decide) (by decide)]

/-- What the reference ends with in this array, out of its arguments. -/
theorem end_v118 : after ops V (Proc.devRef .tc main_v118) = rowCodes (Y (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg10)) := by
  rw [all_ops, opsW_v118, V7_v93, V7_keep V (r := main_arg8) (by decide) (by decide) (by decide) (by decide) (by decide) (by decide) (by decide), V7_keep V (r := main_arg9) (by decide) (by decide) (by decide) (by decide) (by decide) (by decide) (by decide), V7_keep V (r := main_arg10) (by decide) (by decide) (by decide) (by decide) (by decide) (by decide) (by decide)]

end Cert.ReferenceIdeal.Hand
-- ==== Proof.RefEnds.lean ====
/- The run of the reference, with its results as the rows of the whole computation. -/
module

public import proofs.«01_k».proof.Proof.RefEnd

@[expose] public section

set_option maxRecDepth 16384

noncomputable section

namespace Cert.ReferenceIdeal.Hand

open Idealize.ShloMosaic Idealize.ShloMosaic.TcCoe Idealize.SL.Sem Cert.ReferenceIdeal Cert.Row
open Idealize.ShloMosaic.StableHlo (after after_append)

/-- The reference runs on the arguments `x`, `dy`, …; every result is the rows of the whole computation, and the arguments are unchanged. -/
theorem run_rows (m : (ℓ : Loc nD τ sig) → Buf (Elt Ideal) ℓ) (ρ : Dev nD → PrngReg)
    (x : Dev nD → FVec Ideal S5x3072x3584 .bf16) (dy : Dev nD → FVec Ideal S5x3072x18944 .bf16) (qp : Dev nD → IVec S512x1792 8) (ps : Dev nD → FVec Ideal S512x14 .f32) (mc : Dev nD → IVec S18944x512 8) (ms : Dev nD → FVec Ideal S18944x4 .f32) (vc : Dev nD → IVec S18944x512 8) (vs : Dev nD → FVec Ideal S18944x4 .f32) (wc : Dev nD → IVec S18944x3584 8) (ws : Dev nD → FVec Ideal S18944 .f32) (sr : Dev nD → IVec S18944x3584 8)
    (h : ∀ c : Dev nD, m ((c : Thread nD τ).loc main_arg0) = x c ∧ m ((c : Thread nD τ).loc main_arg1) = dy c ∧ m ((c : Thread nD τ).loc main_arg2) = qp c ∧ m ((c : Thread nD τ).loc main_arg3) = ps c ∧ m ((c : Thread nD τ).loc main_arg4) = mc c ∧ m ((c : Thread nD τ).loc main_arg5) = ms c ∧ m ((c : Thread nD τ).loc main_arg6) = vc c ∧ m ((c : Thread nD τ).loc main_arg7) = vs c ∧ m ((c : Thread nD τ).loc main_arg8) = wc c ∧ m ((c : Thread nD τ).loc main_arg9) = ws c ∧ m ((c : Thread nD τ).loc main_arg10) = sr c) :
    θ_run (defs (F := Ideal)) (onTc (τ := τ) (main (F := Ideal))) ⟨m, fun _ => 0, ρ⟩ (fun r => ∀ c : Dev nD,
      r.2.mem ((c : Thread nD τ).loc main_v118) = (fun i => In.wCode (R (x c) (dy c) (qp c) (ps c) (mc c) (ms c) (vc c) (vs c) (wc c) (ws c) (sr c) (i 0)) (i 1))
    ∧       r.2.mem ((c : Thread nD τ).loc main_v106) = (fun i => In.wScale (R (x c) (dy c) (qp c) (ps c) (mc c) (ms c) (vc c) (vs c) (wc c) (ws c) (sr c) (i 0)))
    ∧       r.2.mem ((c : Thread nD τ).loc main_v93) = (fun i => In.d (R (x c) (dy c) (qp c) (ps c) (mc c) (ms c) (vc c) (vs c) (wc c) (ws c) (sr c) (i 0)) (i 1))
    ∧       r.2.mem ((c : Thread nD τ).loc main_v57) = (fun i => In.n (R (x c) (dy c) (qp c) (ps c) (mc c) (ms c) (vc c) (vs c) (wc c) (ws c) (sr c) (i 0)) (i 1))
    ∧       r.2.mem ((c : Thread nD τ).loc main_v73) = (fun i => In.mCode (R (x c) (dy c) (qp c) (ps c) (mc c) (ms c) (vc c) (vs c) (wc c) (ws c) (sr c) (i 0)) (i 1))
    ∧       r.2.mem ((c : Thread nD τ).loc main_v65) = (fun i => In.mScale (R (x c) (dy c) (qp c) (ps c) (mc c) (ms c) (vc c) (vs c) (wc c) (ws c) (sr c) (i 0)) (i 1))
    ∧       r.2.mem ((c : Thread nD τ).loc main_v89) = (fun i => In.vCode (R (x c) (dy c) (qp c) (ps c) (mc c) (ms c) (vc c) (vs c) (wc c) (ws c) (sr c) (i 0)) (i 1))
    ∧       r.2.mem ((c : Thread nD τ).loc main_v81) = (fun i => In.vScale (R (x c) (dy c) (qp c) (ps c) (mc c) (ms c) (vc c) (vs c) (wc c) (ws c) (sr c) (i 0)) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)) := by
  obtain rfl : x = fun c : Dev nD => m ((c : Thread nD τ).loc main_arg0) := funext fun c => ((h c).1).symm
  obtain rfl : dy = fun c : Dev nD => m ((c : Thread nD τ).loc main_arg1) := funext fun c => ((h c).2.1).symm
  obtain rfl : qp = fun c : Dev nD => m ((c : Thread nD τ).loc main_arg2) := funext fun c => ((h c).2.2.1).symm
  obtain rfl : ps = fun c : Dev nD => m ((c : Thread nD τ).loc main_arg3) := funext fun c => ((h c).2.2.2.1).symm
  obtain rfl : mc = fun c : Dev nD => m ((c : Thread nD τ).loc main_arg4) := funext fun c => ((h c).2.2.2.2.1).symm
  obtain rfl : ms = fun c : Dev nD => m ((c : Thread nD τ).loc main_arg5) := funext fun c => ((h c).2.2.2.2.2.1).symm
  obtain rfl : vc = fun c : Dev nD => m ((c : Thread nD τ).loc main_arg6) := funext fun c => ((h c).2.2.2.2.2.2.1).symm
  obtain rfl : vs = fun c : Dev nD => m ((c : Thread nD τ).loc main_arg7) := funext fun c => ((h c).2.2.2.2.2.2.2.1).symm
  obtain rfl : wc = fun c : Dev nD => m ((c : Thread nD τ).loc main_arg8) := funext fun c => ((h c).2.2.2.2.2.2.2.2.1).symm
  obtain rfl : ws = fun c : Dev nD => m ((c : Thread nD τ).loc main_arg9) := funext fun c => ((h c).2.2.2.2.2.2.2.2.2.1).symm
  obtain rfl : sr = fun c : Dev nD => m ((c : Thread nD τ).loc main_arg10) := funext fun c => ((h c).2.2.2.2.2.2.2.2.2.2).symm
  refine (θ_run defs _ _).mono (fun r hr c => ?_) (run (F := Ideal) m ρ)
  have two : ∀ {a b : ℕ} (i : (⟨2, ![a, b]⟩ : Shape).Idx), i = ix2 (i 0) (i 1) := fun i => by funext k; fin_cases k <;> rfl
  have one : ∀ {a : ℕ} (i : (⟨1, ![a]⟩ : Shape).Idx), i = ix1 (i 0) := fun i => by funext k; fin_cases k; rfl
  refine ⟨(hr.1 c main_v118).trans ((end_v118 _).trans (funext fun i => (congrArg _ (two i)).trans (wCode_at _ _ _ _ _ _ _ _ _ _ _ (i 0) (i 1)))),
    (hr.1 c main_v106).trans ((end_v106 _).trans (funext fun i => (congrArg _ (one i)).trans (wScale_at _ _ _ _ _ _ _ _ _ _ _ (i 0)))),
    (hr.1 c main_v93).trans ((end_v93 _).trans (funext fun i => (congrArg _ (two i)).trans (D_at _ _ _ _ _ _ _ _ _ _ _ (i 0) (i 1)))),
    (hr.1 c main_v57).trans ((end_v57 _).trans (funext fun i => (congrArg _ (two i)).trans (T_at _ _ _ _ _ _ _ _ _ _ _ (i 0) (i 1)))),
    (hr.1 c main_v73).trans ((end_v73 _).trans (funext fun i => (congrArg _ (two i)).trans (mCode_at _ _ _ _ _ _ _ _ _ _ _ (i 0) (i 1)))),
    (hr.1 c main_v65).trans ((end_v65 _).trans (funext fun i => (congrArg _ (two i)).trans (mScale_at _ _ _ _ _ _ _ _ _ _ _ (i 0) (i 1)))),
    (hr.1 c main_v89).trans ((end_v89 _).trans (funext fun i => (congrArg _ (two i)).trans (vCode_at _ _ _ _ _ _ _ _ _ _ _ (i 0) (i 1)))),
    (hr.1 c main_v81).trans ((end_v81 _).trans (funext fun i => (congrArg _ (two i)).trans (vScale_at _ _ _ _ _ _ _ _ _ _ _ (i 0) (i 1)))),
    (hr.1 c main_arg0).trans (fin_keep m c (by decide)),
    (hr.1 c main_arg1).trans (fin_keep m c (by decide)),
    (hr.1 c main_arg2).trans (fin_keep m c (by decide)),
    (hr.1 c main_arg3).trans (fin_keep m c (by decide)),
    (hr.1 c main_arg4).trans (fin_keep m c (by decide)),
    (hr.1 c main_arg5).trans (fin_keep m c (by decide)),
    (hr.1 c main_arg6).trans (fin_keep m c (by decide)),
    (hr.1 c main_arg7).trans (fin_keep m c (by decide)),
    (hr.1 c main_arg8).trans (fin_keep m c (by decide)),
    (hr.1 c main_arg9).trans (fin_keep m c (by decide)),
    (hr.1 c main_arg10).trans (fin_keep m c (by decide))⟩

end Cert.ReferenceIdeal.Hand
-- ==== Proof.lean ====
module

public import proofs.«01_k».proof.Defs
public import proofs.«01_k».proof.Proof.BitsFrame
public import proofs.«01_k».proof.Proof.IdealFrame
public import proofs.«01_k».proof.Proof.RefFrame
public import proofs.«01_k».proof.Proof.Ends
public import proofs.«01_k».proof.Proof.RefEnds
public import Idealize.ShloMosaic.Lib.Bf16Pair
public import Idealize.ShloMosaic.Adequacy
public import Idealize.ShloMosaic.Init

@[expose] public section

noncomputable section

namespace Cert.Proof

open Idealize.ShloMosaic Idealize.SL.Sem

/-- The rewrites of the idealized kernel are sound at the shapes it uses. -/
theorem preserves : Cert.preserves_Kernel_KernelIdeal :=
  ⟨IdealRules.truncf_extf.statement _ _ _, IdealRules.truncf_extf.statement _ _ _,
    IdealRules.bf16_pair.statement _ _ (by decide), IdealRules.bf16_pack.statement _⟩

/-- At exact arithmetic the kernel and the reference, started on equal arguments, end with equal results, all eight: both are the rows of the whole computation. -/
theorem algebraic : Cert.algebraic_KernelIdeal_ReferenceIdeal := fun m g m' g' _ h =>
  ⟨fun c i => Cert.Row.In.wCode (Cert.KernelIdeal.Value.row m c (i 0)) (i 1),
    fun c i => Cert.Row.In.wScale (Cert.KernelIdeal.Value.row m c (i 0)),
    fun c i => Cert.Row.In.d (Cert.KernelIdeal.Value.row m c (i 0)) (i 1),
    fun c i => Cert.Row.In.n (Cert.KernelIdeal.Value.row m c (i 0)) (i 1),
    fun c i => Cert.Row.In.mCode (Cert.KernelIdeal.Value.row m c (i 0)) (i 1),
    fun c i => Cert.Row.In.mScale (Cert.KernelIdeal.Value.row m c (i 0)) (i 1),
    fun c i => Cert.Row.In.vCode (Cert.KernelIdeal.Value.row m c (i 0)) (i 1),
    fun c i => Cert.Row.In.vScale (Cert.KernelIdeal.Value.row m c (i 0)) (i 1),
    Cert.KernelIdeal.Value.run_rows m g,
    Cert.ReferenceIdeal.Hand.run_rows m' g'
      (fun c => m ((c.tc : Thread Cert.KernelIdeal.nD Cert.KernelIdeal.τ).loc Cert.KernelIdeal.main_arg0))
      (fun c => m ((c.tc : Thread Cert.KernelIdeal.nD Cert.KernelIdeal.τ).loc Cert.KernelIdeal.main_arg1))
      (fun c => m ((c.tc : Thread Cert.KernelIdeal.nD Cert.KernelIdeal.τ).loc Cert.KernelIdeal.main_arg2))
      (fun c => m ((c.tc : Thread Cert.KernelIdeal.nD Cert.KernelIdeal.τ).loc Cert.KernelIdeal.main_arg3))
      (fun c => m ((c.tc : Thread Cert.KernelIdeal.nD Cert.KernelIdeal.τ).loc Cert.KernelIdeal.main_arg4))
      (fun c => m ((c.tc : Thread Cert.KernelIdeal.nD Cert.KernelIdeal.τ).loc Cert.KernelIdeal.main_arg5))
      (fun c => m ((c.tc : Thread Cert.KernelIdeal.nD Cert.KernelIdeal.τ).loc Cert.KernelIdeal.main_arg6))
      (fun c => m ((c.tc : Thread Cert.KernelIdeal.nD Cert.KernelIdeal.τ).loc Cert.KernelIdeal.main_arg7))
      (fun c => m ((c.tc : Thread Cert.KernelIdeal.nD Cert.KernelIdeal.τ).loc Cert.KernelIdeal.main_arg8))
      (fun c => m ((c.tc : Thread Cert.KernelIdeal.nD Cert.KernelIdeal.τ).loc Cert.KernelIdeal.main_arg9))
      (fun c => m ((c.tc : Thread Cert.KernelIdeal.nD Cert.KernelIdeal.τ).loc Cert.KernelIdeal.main_arg10)) h⟩

/-- Everything this certificate claims. -/
theorem claim : Cert.Claim :=
  ⟨Cert.Kernel.Gen.facts, Cert.KernelIdeal.Gen.facts, Cert.ReferenceIdeal.Hand.facts,
    fun m ρ _ => Cert.Kernel.Body.frame m ρ, fun m ρ _ => Cert.KernelIdeal.Body.frame m ρ,
    Cert.ReferenceIdeal.Hand.frame, preserves, algebraic⟩

end Cert.Proof

end
